-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_prepared [hPre_prepared : Cert.Pre_prepared.Facts] (m : (ℓ : Loc Cert.AttnIdeal.nD Cert.AttnIdeal.τ Cert.AttnIdeal.sig) → Buf (Elt Ideal) ℓ) : Prop :=
  ∀ c : Dev Cert.AttnIdeal.nD,
    (Cert.Pre_prepared.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_prepared [hPre_prepared : Cert.Pre_prepared.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_prepared.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Experts [hPre_experts_exist : Cert.Pre_experts_exist.Facts] (m : (ℓ : Loc Cert.Experts.nD Cert.Experts.τ Cert.Experts.sig) → Buf (Elt Bits) ℓ) : Prop :=
  ∀ c : Dev Cert.Experts.nD,
    (Cert.Pre_experts_exist.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_experts_exist : Cert.Pre_experts_exist.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_exist.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_experts_exist [hPre_experts_exist : Cert.Pre_experts_exist.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_exist.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnIdeal_pre_prepared [hAttnIdeal : Cert.AttnIdeal.Facts] [hPre_prepared : Cert.Pre_prepared.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_prepared m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_AttnRefIdeal_pre_prepared [hAttnRefIdeal : Cert.AttnRefIdeal.Facts] [hPre_prepared : Cert.Pre_prepared.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_prepared m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Experts [hExperts : Cert.Experts.Facts] [hPre_experts_exist : Cert.Pre_experts_exist.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_experts_exist : Cert.Pre_experts_exist.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_experts_exist [hExpertsRefIdeal : Cert.ExpertsRefIdeal.Facts] [hPre_experts_exist : Cert.Pre_experts_exist.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_experts_exist m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def preserves_Attn_AttnIdeal : Prop :=
  True

def algebraic_AttnIdeal_AttnRefIdeal_pre_prepared [hAttnIdeal : Cert.AttnIdeal.Facts] [hAttnRefIdeal : Cert.AttnRefIdeal.Facts] [hPre_prepared : Cert.Pre_prepared.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_prepared m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v0_2)) (v3 : (c : Dev Cert.AttnIdeal.nD) → Buf (Elt Ideal) ((c.tc : Thread Cert.AttnIdeal.nD Cert.AttnIdeal.τ).loc Cert.AttnIdeal.main_v0_3)) (v4 : (c : Dev Cert.AttnIdeal.nD) → Buf (Elt Ideal) ((c.tc : Thread Cert.AttnIdeal.nD Cert.AttnIdeal.τ).loc Cert.AttnIdeal.main_v0_4)) (v5 : (c : Dev Cert.AttnIdeal.nD) → Buf (Elt Ideal) ((c.tc : Thread Cert.AttnIdeal.nD Cert.AttnIdeal.τ).loc Cert.AttnIdeal.main_v0_5)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_v0_2) = v2 c
          ∧ r.2.mem ((c.tc : Thread Cert.AttnIdeal.nD Cert.AttnIdeal.τ).loc Cert.AttnIdeal.main_v0_3) = v3 c
          ∧ r.2.mem ((c.tc : Thread Cert.AttnIdeal.nD Cert.AttnIdeal.τ).loc Cert.AttnIdeal.main_v0_4) = v4 c
          ∧ r.2.mem ((c.tc : Thread Cert.AttnIdeal.nD Cert.AttnIdeal.τ).loc Cert.AttnIdeal.main_v0_5) = v5 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v24) = v0 c
          ∧ r.2.mem ((c.tc : Thread Cert.AttnRefIdeal.nD Cert.AttnRefIdeal.τ).loc Cert.AttnRefIdeal.main_v25) = v1 c
          ∧ r.2.mem ((c.tc : Thread Cert.AttnRefIdeal.nD Cert.AttnRefIdeal.τ).loc Cert.AttnRefIdeal.main_v26) = v2 c
          ∧ r.2.mem ((c.tc : Thread Cert.AttnRefIdeal.nD Cert.AttnRefIdeal.τ).loc Cert.AttnRefIdeal.main_v27) = v3 c
          ∧ r.2.mem ((c.tc : Thread Cert.AttnRefIdeal.nD Cert.AttnRefIdeal.τ).loc Cert.AttnRefIdeal.main_v28) = v4 c
          ∧ r.2.mem ((c.tc : Thread Cert.AttnRefIdeal.nD Cert.AttnRefIdeal.τ).loc Cert.AttnRefIdeal.main_v29) = v5 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v12) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_exist : Cert.Pre_experts_exist.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v18) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v36) = v0 c
          ∧ r.2.mem ((c.tc : Thread Cert.MixOutRefIdeal.nD Cert.MixOutRefIdeal.τ).loc Cert.MixOutRefIdeal.main_v55) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v8_0)) (v1 : (c : Dev Cert.RopeIdeal.nD) → Buf (Elt Ideal) ((c.tc : Thread Cert.RopeIdeal.nD Cert.RopeIdeal.τ).loc Cert.RopeIdeal.main_v8_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v8_0) = v0 c
          ∧ r.2.mem ((c.tc : Thread Cert.RopeIdeal.nD Cert.RopeIdeal.τ).loc Cert.RopeIdeal.main_v8_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v12) = v0 c
          ∧ r.2.mem ((c.tc : Thread Cert.RopeRefIdeal.nD Cert.RopeRefIdeal.τ).loc Cert.RopeRefIdeal.main_v14) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hExperts : Cert.Experts.Facts) (hExpertsIdeal : Cert.ExpertsIdeal.Facts) (hExpertsRefIdeal : Cert.ExpertsRefIdeal.Facts) (hMixOut : Cert.MixOut.Facts) (hMixOutIdeal : Cert.MixOutIdeal.Facts) (hMixOutRefIdeal : Cert.MixOutRefIdeal.Facts) (hRope : Cert.Rope.Facts) (hRopeIdeal : Cert.RopeIdeal.Facts) (hRopeRefIdeal : Cert.RopeRefIdeal.Facts) (hPre_prepared : Cert.Pre_prepared.Facts) (hPre_experts_exist : Cert.Pre_experts_exist.Facts),
    quiescent_Attn (hAttn := hAttn)
    ∧ quiescent_AttnIdeal (hAttnIdeal := hAttnIdeal)
    ∧ quiescent_AttnIdeal_pre_prepared (hAttnIdeal := hAttnIdeal) (hPre_prepared := hPre_prepared)
    ∧ quiescent_AttnRefIdeal (hAttnRefIdeal := hAttnRefIdeal)
    ∧ quiescent_AttnRefIdeal_pre_prepared (hAttnRefIdeal := hAttnRefIdeal) (hPre_prepared := hPre_prepared)
    ∧ quiescent_Ffn (hFfn := hFfn)
    ∧ quiescent_FfnIdeal (hFfnIdeal := hFfnIdeal)
    ∧ quiescent_FfnRefIdeal (hFfnRefIdeal := hFfnRefIdeal)
    ∧ quiescent_Experts (hExperts := hExperts) (hPre_experts_exist := hPre_experts_exist)
    ∧ quiescent_ExpertsIdeal (hExpertsIdeal := hExpertsIdeal) (hPre_experts_exist := hPre_experts_exist)
    ∧ quiescent_ExpertsRefIdeal (hExpertsRefIdeal := hExpertsRefIdeal)
    ∧ quiescent_ExpertsRefIdeal_pre_experts_exist (hExpertsRefIdeal := hExpertsRefIdeal) (hPre_experts_exist := hPre_experts_exist)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Rope (hRope := hRope)
    ∧ quiescent_RopeIdeal (hRopeIdeal := hRopeIdeal)
    ∧ quiescent_RopeRefIdeal (hRopeRefIdeal := hRopeRefIdeal)
    ∧ preserves_Attn_AttnIdeal
    ∧ algebraic_AttnIdeal_AttnRefIdeal_pre_prepared (hAttnIdeal := hAttnIdeal) (hAttnRefIdeal := hAttnRefIdeal) (hPre_prepared := hPre_prepared)
    ∧ preserves_Ffn_FfnIdeal
    ∧ algebraic_FfnIdeal_FfnRefIdeal (hFfnIdeal := hFfnIdeal) (hFfnRefIdeal := hFfnRefIdeal)
    ∧ preserves_Experts_ExpertsIdeal
    ∧ algebraic_ExpertsIdeal_ExpertsRefIdeal (hExpertsIdeal := hExpertsIdeal) (hExpertsRefIdeal := hExpertsRefIdeal) (hPre_experts_exist := hPre_experts_exist)
    ∧ preserves_MixOut_MixOutIdeal
    ∧ algebraic_MixOutIdeal_MixOutRefIdeal (hMixOutIdeal := hMixOutIdeal) (hMixOutRefIdeal := hMixOutRefIdeal)
    ∧ preserves_Rope_RopeIdeal
    ∧ algebraic_RopeIdeal_RopeRefIdeal (hRopeIdeal := hRopeIdeal) (hRopeRefIdeal := hRopeRefIdeal)
-- ==== Pre_experts_exist.lean ====
abbrev S72 : Shape := ⟨1, ![72]⟩
abbrev S1 : Shape := ⟨1, ![1]⟩
abbrev S36864x2048 : Shape := ⟨2, ![36864, 2048]⟩
abbrev S8x2048x7168 : Shape := ⟨3, ![8, 2048, 7168]⟩
abbrev S8x7168x2048 : Shape := ⟨3, ![8, 7168, 2048]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : IVec S72 32) (main_arg1 : IVec S1 32) (main_arg2 : FVec F S36864x2048 .f32) (main_arg3 : FVec F S8x2048x7168 .bf16) (main_arg4 : FVec F S8x2048x7168 .bf16) (main_arg5 : FVec F S8x7168x2048 .bf16) : IVec S_ 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  main_v5
-- ==== Pre_prepared.lean ====
abbrev S1 : Shape := ⟨1, ![1]⟩
abbrev S8x16384x256 : Shape := ⟨3, ![8, 16384, 256]⟩
abbrev S8x256x16384 : Shape := ⟨3, ![8, 256, 16384]⟩
abbrev S2048x2048 : Shape := ⟨2, ![2048, 2048]⟩
abbrev S2048x5632 : Shape := ⟨2, ![2048, 5632]⟩
abbrev S5632x2048 : Shape := ⟨2, ![5632, 2048]⟩
abbrev S8x2048x7168 : Shape := ⟨3, ![8, 2048, 7168]⟩
abbrev S_ : Shape := ⟨0, ![]⟩
abbrev S8x16384x64 : Shape := ⟨3, ![8, 16384, 64]⟩
abbrev S8x16384x128 : Shape := ⟨3, ![8, 16384, 128]⟩

class Facts : Prop where
  bitsLt_bf16_f32 : FTy.bits .bf16 < FTy.bits .f32
  bcast_S_S8x16384x256 : S_.BroadcastsInDim S8x16384x256 (![] : Fin 0 → Fin S8x16384x256.rank)
  reducesTo_S8x16384x256_S_d0_1_2 : S8x16384x256.ReducesTo [0, 1, 2] S_
  h_S_ : 0 < S_.numel
  bcast_S_S8x256x16384 : S_.BroadcastsInDim S8x256x16384 (![] : Fin 0 → Fin S8x256x16384.rank)
  reducesTo_S8x256x16384_S_d0_1_2 : S8x256x16384.ReducesTo [0, 1, 2] S_
  slices_S8x16384x256_S8x16384x64_0_0_192 : S8x16384x256.Slices ![0, 0, 192] S8x16384x64
  bcast_S_S8x16384x64 : S_.BroadcastsInDim S8x16384x64 (![] : Fin 0 → Fin S8x16384x64.rank)
  reducesTo_S8x16384x64_S_d0_1_2 : S8x16384x64.ReducesTo [0, 1, 2] S_
  slices_S8x16384x256_S8x16384x128_0_0_128 : S8x16384x256.Slices ![0, 0, 128] S8x16384x128
  bcast_S_S8x16384x128 : S_.BroadcastsInDim S8x16384x128 (![] : Fin 0 → Fin S8x16384x128.rank)
  reducesTo_S8x16384x128_S_d0_1_2 : S8x16384x128.ReducesTo [0, 1, 2] S_

variable [Facts]

def fn_part1 {F : FTy → Type} [FloatOps F] (main_v16 : IVec S_ 1) (main_v17 : FVec F S8x16384x128 .bf16) : IVec S_ 1 :=
  let main_v18 : FVec F S8x16384x128 .f32 := (extf .f32 · bitsLt_bf16_f32) main_v17
  let main_cst_4 : FVec F S_ .f32 := constant S_ .f32 0x3F800000#32
  let main_v19 : FVec F S8x16384x128 .f32 := broadcastInDim S8x16384x128 ![] bcast_S_S8x16384x128 main_cst_4
  let main_v20 : IVec S8x16384x128 1 := cmpf .oeq main_v18 main_v19
  let main_c_5 : IVec S_ 1 := constantI S_ 1 1#1
  let main_v21 : IVec S_ 1 := (fun x v => Host.reduce IntOp.andi x v reducesTo_S8x16384x128_S_d0_1_2 h_S_) main_v20 main_c_5
  let main_v22 : IVec S_ 1 := andi main_v16 main_v21
  main_v22

def fn {F : FTy → Type} [FloatOps F] (main_arg0 : IVec S1 32) (main_arg1 : FVec F S8x16384x256 .bf16) (main_arg2 : FVec F S8x256x16384 .bf16) (main_arg3 : FVec F S8x16384x256 .bf16) (main_arg4 : FVec F S2048x2048 .f32) (main_arg5 : FVec F S2048x5632 .f32) (main_arg6 : FVec F S2048x5632 .f32) (main_arg7 : FVec F S5632x2048 .f32) (main_arg8 : FVec F S8x2048x7168 .f32) : IVec S_ 1 :=
  let main_v0 : FVec F S8x16384x256 .f32 := (extf .f32 · bitsLt_bf16_f32) main_arg1
  let main_v1 : FVec F S8x16384x256 .f32 := Host.absf main_v0
  let main_cst : FVec F S_ .f32 := constant S_ .f32 0x7F800000#32
  let main_v2 : FVec F S8x16384x256 .f32 := broadcastInDim S8x16384x256 ![] bcast_S_S8x16384x256 main_cst
  let main_v3 : IVec S8x16384x256 1 := cmpf .olt main_v1 main_v2
  let main_c : IVec S_ 1 := constantI S_ 1 1#1
  let main_v4 : IVec S_ 1 := (fun x v => Host.reduce IntOp.andi x v reducesTo_S8x16384x256_S_d0_1_2 h_S_) main_v3 main_c
  let main_v5 : FVec F S8x256x16384 .f32 := (extf .f32 · bitsLt_bf16_f32) main_arg2
  let main_v6 : FVec F S8x256x16384 .f32 := Host.absf main_v5
  let main_cst_0 : FVec F S_ .f32 := constant S_ .f32 0x7F800000#32
  let main_v7 : FVec F S8x256x16384 .f32 := broadcastInDim S8x256x16384 ![] bcast_S_S8x256x16384 main_cst_0
  let main_v8 : IVec S8x256x16384 1 := cmpf .olt main_v6 main_v7
  let main_c_1 : IVec S_ 1 := constantI S_ 1 1#1
  let main_v9 : IVec S_ 1 := (fun x v => Host.reduce IntOp.andi x v reducesTo_S8x256x16384_S_d0_1_2 h_S_) main_v8 main_c_1
  let main_v10 : IVec S_ 1 := andi main_v4 main_v9
  let main_v11 : FVec F S8x16384x64 .bf16 := (extractStridedSlice S8x16384x64 ![0, 0, 192] · slices_S8x16384x256_S8x16384x64_0_0_192) main_arg1
  let main_v12 : FVec F S8x16384x64 .f32 := (extf .f32 · bitsLt_bf16_f32) main_v11
  let main_cst_2 : FVec F S_ .f32 := constant S_ .f32 0x00000000#32
  let main_v13 : FVec F S8x16384x64 .f32 := broadcastInDim S8x16384x64 ![] bcast_S_S8x16384x64 main_cst_2
  let main_v14 : IVec S8x16384x64 1 := cmpf .oeq main_v12 main_v13
  let main_c_3 : IVec S_ 1 := constantI S_ 1 1#1
  let main_v15 : IVec S_ 1 := (fun x v => Host.reduce IntOp.andi x v reducesTo_S8x16384x64_S_d0_1_2 h_S_) main_v14 main_c_3
  let main_v16 : IVec S_ 1 := andi main_v10 main_v15
  let main_v17 : FVec F S8x16384x128 .bf16 := (extractStridedSlice S8x16384x128 ![0, 0, 128] · slices_S8x16384x256_S8x16384x128_0_0_128) main_arg3
  fn_part1 (F := F) main_v16 main_v17
-- ==== Attn.lean ====
abbrev S1 : Shape := ⟨1, ![1]⟩
abbrev S8x16384x256 : Shape := ⟨3, ![8, 16384, 256]⟩
abbrev S8x256x16384 : Shape := ⟨3, ![8, 256, 16384]⟩
abbrev S2048x2048 : Shape := ⟨2, ![2048, 2048]⟩
abbrev S2048x5632 : Shape := ⟨2, ![2048, 5632]⟩
abbrev S5632x2048 : Shape := ⟨2, ![5632, 2048]⟩
abbrev S8x2048x7168 : Shape := ⟨3, ![8, 2048, 7168]⟩
abbrev S16384x1024 : Shape := ⟨2, ![16384, 1024]⟩
abbrev S1x1024x256 : Shape := ⟨3, ![1, 1024, 256]⟩
abbrev S1x256x16384 : Shape := ⟨3, ![1, 256, 16384]⟩
abbrev S1x16384x256 : Shape := ⟨3, ![1, 16384, 256]⟩
abbrev S16x2048 : Shape := ⟨2, ![16, 2048]⟩
abbrev S16x5632 : Shape := ⟨2, ![16, 5632]⟩
abbrev S64x2048 : Shape := ⟨2, ![64, 2048]⟩
abbrev S1x128x7168 : Shape := ⟨3, ![1, 128, 7168]⟩
abbrev S1024x128 : Shape := ⟨2, ![1024, 128]⟩
abbrev S1024x256 : Shape := ⟨2, ![1024, 256]⟩
abbrev S1024x1 : Shape := ⟨2, ![1024, 1]⟩
abbrev S1x256x1024 : Shape := ⟨3, ![1, 256, 1024]⟩
abbrev S256x1024 : Shape := ⟨2, ![256, 1024]⟩
abbrev S1024x1024 : Shape := ⟨2, ![1024, 1024]⟩
abbrev S1024 : Shape := ⟨1, ![1024]⟩

abbrev nBuf : Space → Nat
  | .hbm => 14
  | .vmem => 28
  | .smem => 1
  | _ => 0

abbrev bufTy : (tb : Table) → Fin (tcTables nBuf tb) → BufTy
  | .hbm, ⟨0, _⟩ => ⟨S8x16384x256, .bf16⟩
  | .hbm, ⟨1, _⟩ => ⟨S8x256x16384, .bf16⟩
  | .hbm, ⟨2, _⟩ => ⟨S8x16384x256, .bf16⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S5632x2048, .f32⟩
  | .hbm, ⟨7, _⟩ => ⟨S8x2048x7168, .f32⟩
  | .hbm, ⟨8, _⟩ => ⟨S16384x1024, .bf16⟩
  | .hbm, ⟨9, _⟩ => ⟨S2048x2048, .bf16⟩
  | .hbm, ⟨10, _⟩ => ⟨S2048x5632, .bf16⟩
  | .hbm, ⟨11, _⟩ => ⟨S2048x5632, .bf16⟩
  | .hbm, ⟨12, _⟩ => ⟨S5632x2048, .bf16⟩
  | .hbm, ⟨13, _⟩ => ⟨S8x2048x7168, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x256x16384, .bf16⟩
  | .local _ .vmem, ⟨3, _⟩ => ⟨S1x16384x256, .bf16⟩
  | .local _ .vmem, ⟨4, _⟩ => ⟨S16x2048, .f32⟩
  | .local _ .vmem, ⟨5, _⟩ => ⟨S16x2048, .f32⟩
  | .local _ .vmem, ⟨6, _⟩ => ⟨S16x5632, .f32⟩
  | .local _ .vmem, ⟨7, _⟩ => ⟨S16x5632, .f32⟩
  | .local _ .vmem, ⟨8, _⟩ => ⟨S16x5632, .f32⟩
  | .local _ .vmem, ⟨9, _⟩ => ⟨S16x5632, .f32⟩
  | .local _ .vmem, ⟨10, _⟩ => ⟨S64x2048, .f32⟩
  | .local _ .vmem, ⟨11, _⟩ => ⟨S64x2048, .f32⟩
  | .local _ .vmem, ⟨12, _⟩ => ⟨S1x128x7168, .f32⟩
  | .local _ .vmem, ⟨13, _⟩ => ⟨S1x128x7168, .f32⟩
  | .local _ .vmem, ⟨14, _⟩ => ⟨S1024x128, .bf16⟩
  | .local _ .vmem, ⟨15, _⟩ => ⟨S1024x128, .bf16⟩
  | .local _ .vmem, ⟨16, _⟩ => ⟨S16x2048, .bf16⟩
  | .local _ .vmem, ⟨17, _⟩ => ⟨S16x2048, .bf16⟩
  | .local _ .vmem, ⟨18, _⟩ => ⟨S16x5632, .bf16⟩
  | .local _ .vmem, ⟨19, _⟩ => ⟨S16x5632, .bf16⟩
  | .local _ .vmem, ⟨20, _⟩ => ⟨S16x5632, .bf16⟩
  | .local _ .vmem, ⟨21, _⟩ => ⟨S16x5632, .bf16⟩
  | .local _ .vmem, ⟨22, _⟩ => ⟨S64x2048, .bf16⟩
  | .local _ .vmem, ⟨23, _⟩ => ⟨S64x2048, .bf16⟩
  | .local _ .vmem, ⟨24, _⟩ => ⟨S1x128x7168, .bf16⟩
  | .local _ .vmem, ⟨25, _⟩ => ⟨S1x128x7168, .bf16⟩
  | .local _ .vmem, ⟨26, _⟩ => ⟨S1024x256, .f32⟩
  | .local _ .vmem, ⟨27, _⟩ => ⟨S1024x1, .f32⟩
  | .local _ .smem, ⟨0, _⟩ => ⟨S1, .i32⟩
  | _, _ => ⟨S8x16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![8, 16], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_mult1 : BitVec 32 :=
  let c16_i32 : BitVec 32 := 16#32
  let c0_i32_33 : BitVec 32 := 0#32
  let v34 : BitVec 32 := Scalar.muli c16_i32 c0_i32_33
  let c0_i32_34 : BitVec 32 := 0#32
  let v35 : BitVec 32 := Scalar.addi v34 c0_i32_34
  let c1024_i32 : BitVec 32 := 1024#32
  let v36 : BitVec 32 := Scalar.muli v35 c1024_i32
  v36
def k0_off1 (c0_i32_34 : BitVec 32) : Fin 3 → Nat :=
  let c0_35 : Index := 0#32
  let c0_36 : Index := 0#32
  let c16_i32 : BitVec 32 := 16#32
  let c0_i32_33 : BitVec 32 := 0#32
  let v34 : BitVec 32 := Scalar.muli c16_i32 c0_i32_33
  let v35 : BitVec 32 := Scalar.addi v34 c0_i32_34
  let c1024_i32 : BitVec 32 := 1024#32
  let v36 : BitVec 32 := Scalar.muli v35 c1024_i32
  let v37 : BitVec 32 := v36
  let v38 : Index := Scalar.indexCast v37
  ![0, 0, v38.toNat]
def k0_off2 (c0_i32_34 : BitVec 32) : Fin 3 → Nat :=
  let c0_37 : Index := 0#32
  let c16_i32 : BitVec 32 := 16#32
  let c0_i32_33 : BitVec 32 := 0#32
  let v34 : BitVec 32 := Scalar.muli c16_i32 c0_i32_33
  let v35 : BitVec 32 := Scalar.addi v34 c0_i32_34
  let c1024_i32 : BitVec 32 := 1024#32
  let v36 : BitVec 32 := Scalar.muli v35 c1024_i32
  let v37 : BitVec 32 := v36
  let v41 : Index := Scalar.indexCast v37
  let c0_38 : Index := 0#32
  ![0, v41.toNat, 0]
def k0_mult2 : BitVec 32 :=
  let c16_i32_48 : BitVec 32 := 16#32
  let c0_i32_33 : BitVec 32 := 0#32
  let v55 : BitVec 32 := Scalar.muli c16_i32_48 c0_i32_33
  let c1_i32_49 : BitVec 32 := 1#32
  let v56 : BitVec 32 := Scalar.addi v55 c1_i32_49
  let c1024_i32_50 : BitVec 32 := 1024#32
  let v57 : BitVec 32 := Scalar.muli v56 c1024_i32_50
  v57
def k0_mult3 : BitVec 32 :=
  let c16_i32_64 : BitVec 32 := 16#32
  let c0_i32_33 : BitVec 32 := 0#32
  let v76 : BitVec 32 := Scalar.muli c16_i32_64 c0_i32_33
  let c2_i32 : BitVec 32 := 2#32
  let v77 : BitVec 32 := Scalar.addi v76 c2_i32
  let c1024_i32_65 : BitVec 32 := 1024#32
  let v78 : BitVec 32 := Scalar.muli v77 c1024_i32_65
  v78
def k0_mult4 : BitVec 32 :=
  let c16_i32_79 : BitVec 32 := 16#32
  let c0_i32_33 : BitVec 32 := 0#32
  let v97 : BitVec 32 := Scalar.muli c16_i32_79 c0_i32_33
  let c3_i32 : BitVec 32 := 3#32
  let v98 : BitVec 32 := Scalar.addi v97 c3_i32
  let c1024_i32_80 : BitVec 32 := 1024#32
  let v99 : BitVec 32 := Scalar.muli v98 c1024_i32_80
  v99
def k0_mult5 : BitVec 32 :=
  let c16_i32_94 : BitVec 32 := 16#32
  let c0_i32_33 : BitVec 32 := 0#32
  let v118 : BitVec 32 := Scalar.muli c16_i32_94 c0_i32_33
  let c4_i32 : BitVec 32 := 4#32
  let v119 : BitVec 32 := Scalar.addi v118 c4_i32
  let c1024_i32_95 : BitVec 32 := 1024#32
  let v120 : BitVec 32 := Scalar.muli v119 c1024_i32_95
  v120
def k0_mult6 : BitVec 32 :=
  let c16_i32_109 : BitVec 32 := 16#32
  let c0_i32_33 : BitVec 32 := 0#32
  let v139 : BitVec 32 := Scalar.muli c16_i32_109 c0_i32_33
  let c5_i32 : BitVec 32 := 5#32
  let v140 : BitVec 32 := Scalar.addi v139 c5_i32
  let c1024_i32_110 : BitVec 32 := 1024#32
  let v141 : BitVec 32 := Scalar.muli v140 c1024_i32_110
  v141
def k0_mult7 : BitVec 32 :=
  let c16_i32_124 : BitVec 32 := 16#32
  let c0_i32_33 : BitVec 32 := 0#32
  let v160 : BitVec 32 := Scalar.muli c16_i32_124 c0_i32_33
  let c6_i32 : BitVec 32 := 6#32
  let v161 : BitVec 32 := Scalar.addi v160 c6_i32
  let c1024_i32_125 : BitVec 32 := 1024#32
  let v162 : BitVec 32 := Scalar.muli v161 c1024_i32_125
  v162
def k0_mult8 : BitVec 32 :=
  let c16_i32_139 : BitVec 32 := 16#32
  let c0_i32_33 : BitVec 32 := 0#32
  let v181 : BitVec 32 := Scalar.muli c16_i32_139 c0_i32_33
  let c7_i32 : BitVec 32 := 7#32
  let v182 : BitVec 32 := Scalar.addi v181 c7_i32
  let c1024_i32_140 : BitVec 32 := 1024#32
  let v183 : BitVec 32 := Scalar.muli v182 c1024_i32_140
  v183
def k0_mult9 : BitVec 32 :=
  let c16_i32_154 : BitVec 32 := 16#32
  let c0_i32_33 : BitVec 32 := 0#32
  let v202 : BitVec 32 := Scalar.muli c16_i32_154 c0_i32_33
  let c8_i32 : BitVec 32 := 8#32
  let v203 : BitVec 32 := Scalar.addi v202 c8_i32
  let c1024_i32_155 : BitVec 32 := 1024#32
  let v204 : BitVec 32 := Scalar.muli v203 c1024_i32_155
  v204
def k0_mult10 : BitVec 32 :=
  let c16_i32_169 : BitVec 32 := 16#32
  let c0_i32_33 : BitVec 32 := 0#32
  let v223 : BitVec 32 := Scalar.muli c16_i32_169 c0_i32_33
  let c9_i32 : BitVec 32 := 9#32
  let v224 : BitVec 32 := Scalar.addi v223 c9_i32
  let c1024_i32_170 : BitVec 32 := 1024#32
  let v225 : BitVec 32 := Scalar.muli v224 c1024_i32_170
  v225
def k0_mult11 : BitVec 32 :=
  let c16_i32_184 : BitVec 32 := 16#32
  let c0_i32_33 : BitVec 32 := 0#32
  let v244 : BitVec 32 := Scalar.muli c16_i32_184 c0_i32_33
  let c10_i32 : BitVec 32 := 10#32
  let v245 : BitVec 32 := Scalar.addi v244 c10_i32
  let c1024_i32_185 : BitVec 32 := 1024#32
  let v246 : BitVec 32 := Scalar.muli v245 c1024_i32_185
  v246
def k0_mult12 : BitVec 32 :=
  let c16_i32_199 : BitVec 32 := 16#32
  let c0_i32_33 : BitVec 32 := 0#32
  let v265 : BitVec 32 := Scalar.muli c16_i32_199 c0_i32_33
  let c11_i32 : BitVec 32 := 11#32
  let v266 : BitVec 32 := Scalar.addi v265 c11_i32
  let c1024_i32_200 : BitVec 32 := 1024#32
  let v267 : BitVec 32 := Scalar.muli v266 c1024_i32_200
  v267
def k0_mult13 : BitVec 32 :=
  let c16_i32_214 : BitVec 32 := 16#32
  let c0_i32_33 : BitVec 32 := 0#32
  let v286 : BitVec 32 := Scalar.muli c16_i32_214 c0_i32_33
  let c12_i32 : BitVec 32 := 12#32
  let v287 : BitVec 32 := Scalar.addi v286 c12_i32
  let c1024_i32_215 : BitVec 32 := 1024#32
  let v288 : BitVec 32 := Scalar.muli v287 c1024_i32_215
  v288
def k0_mult14 : BitVec 32 :=
  let c16_i32_229 : BitVec 32 := 16#32
  let c0_i32_33 : BitVec 32 := 0#32
  let v307 : BitVec 32 := Scalar.muli c16_i32_229 c0_i32_33
  let c13_i32 : BitVec 32 := 13#32
  let v308 : BitVec 32 := Scalar.addi v307 c13_i32
  let c1024_i32_230 : BitVec 32 := 1024#32
  let v309 : BitVec 32 := Scalar.muli v308 c1024_i32_230
  v309
def k0_mult15 : BitVec 32 :=
  let c16_i32_244 : BitVec 32 := 16#32
  let c0_i32_33 : BitVec 32 := 0#32
  let v328 : BitVec 32 := Scalar.muli c16_i32_244 c0_i32_33
  let c14_i32 : BitVec 32 := 14#32
  let v329 : BitVec 32 := Scalar.addi v328 c14_i32
  let c1024_i32_245 : BitVec 32 := 1024#32
  let v330 : BitVec 32 := Scalar.muli v329 c1024_i32_245
  v330
def k0_mult16 : BitVec 32 :=
  let c16_i32_259 : BitVec 32 := 16#32
  let c0_i32_33 : BitVec 32 := 0#32
  let v349 : BitVec 32 := Scalar.muli c16_i32_259 c0_i32_33
  let c15_i32 : BitVec 32 := 15#32
  let v350 : BitVec 32 := Scalar.addi v349 c15_i32
  let c1024_i32_260 : BitVec 32 := 1024#32
  let v351 : BitVec 32 := Scalar.muli v350 c1024_i32_260
  v351
@[reducible] def k0_t1_loop : Scf.Loop 32 :=
  let c0_i32_36 : BitVec 32 := 0#32
  let c16_i32 : BitVec 32 := 16#32
  let v38 : BitVec 32 := Scalar.addi c0_i32_36 c16_i32
  let c1_i32_37 : BitVec 32 := 1#32
  ⟨c0_i32_36, v38, c1_i32_37⟩
def k0_mult17 (k0_t1 : Fin k0_t1_loop.trips) : BitVec 32 :=
  let c0_i32_36 : BitVec 32 := 0#32
  let c1_i32_37 : BitVec 32 := 1#32
  let arg19 : BitVec 32 := Scf.iv c0_i32_36 c1_i32_37 k0_t1
  let c1024_i32 : BitVec 32 := 1024#32
  let v39 : BitVec 32 := Scalar.muli arg19 c1024_i32
  v39
def k0_off3 (k0_t1 : Fin k0_t1_loop.trips) : Fin 3 → Nat :=
  let c0_39 : Index := 0#32
  let c0_40 : Index := 0#32
  let c0_i32_36 : BitVec 32 := 0#32
  let c1_i32_37 : BitVec 32 := 1#32
  let arg19 : BitVec 32 := Scf.iv c0_i32_36 c1_i32_37 k0_t1
  let c1024_i32 : BitVec 32 := 1024#32
  let v39 : BitVec 32 := Scalar.muli arg19 c1024_i32
  let v40 : BitVec 32 := v39
  let v41 : Index := Scalar.indexCast v40
  ![0, 0, v41.toNat]
def k0_off4 (k0_t1 : Fin k0_t1_loop.trips) : Fin 3 → Nat :=
  let c0_41 : Index := 0#32
  let c0_i32_36 : BitVec 32 := 0#32
  let c1_i32_37 : BitVec 32 := 1#32
  let arg19 : BitVec 32 := Scf.iv c0_i32_36 c1_i32_37 k0_t1
  let c1024_i32 : BitVec 32 := 1024#32
  let v39 : BitVec 32 := Scalar.muli arg19 c1024_i32
  let v40 : BitVec 32 := v39
  let v44 : Index := Scalar.indexCast v40
  let c0_42 : Index := 0#32
  ![0, v44.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c87_i32 : BitVec 32 := 87#32
  let v2 : BitVec 32 := Scalar.minsi v1 c87_i32
  let c0_i32 : BitVec 32 := 0#32
  let c0_i32_0 : BitVec 32 := 0#32
  ![v2.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c87_i32 : BitVec 32 := 87#32
  let v2 : BitVec 32 := Scalar.minsi v1 c87_i32
  let c0_i32 : BitVec 32 := 0#32
  let c0_i32_0 : BitVec 32 := 0#32
  ![v2.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x16384x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x7168 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x7168 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== AttnRefIdeal.lean ====
abbrev S1 : Shape := ⟨1, ![1]⟩
abbrev S8x16384x256 : Shape := ⟨3, ![8, 16384, 256]⟩
abbrev S8x256x16384 : Shape := ⟨3, ![8, 256, 16384]⟩
abbrev S2048x2048 : Shape := ⟨2, ![2048, 2048]⟩
abbrev S2048x5632 : Shape := ⟨2, ![2048, 5632]⟩
abbrev S5632x2048 : Shape := ⟨2, ![5632, 2048]⟩
abbrev S8x2048x7168 : Shape := ⟨3, ![8, 2048, 7168]⟩
abbrev S8x16384x192 : Shape := ⟨3, ![8, 16384, 192]⟩
abbrev S8x192x16384 : Shape := ⟨3, ![8, 192, 16384]⟩
abbrev S8x16384x16384 : Shape := ⟨3, ![8, 16384, 16384]⟩
abbrev S_ : Shape := ⟨0, ![]⟩
abbrev S8x16384 : Shape := ⟨2, ![8, 16384]⟩
abbrev S8x16384x1 : Shape := ⟨3, ![8, 16384, 1]⟩
abbrev S8x16384x128 : Shape := ⟨3, ![8, 16384, 128]⟩
abbrev S16384x8x128 : Shape := ⟨3, ![16384, 8, 128]⟩
abbrev S16384x1024 : Shape := ⟨2, ![16384, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x16384x256, .bf16⟩
  | .hbm, ⟨2, _⟩ => ⟨S8x256x16384, .bf16⟩
  | .hbm, ⟨3, _⟩ => ⟨S8x16384x256, .bf16⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S8x2048x7168, .f32⟩
  | .hbm, ⟨9, _⟩ => ⟨S8x16384x192, .bf16⟩
  | .hbm, ⟨10, _⟩ => ⟨S8x16384x192, .f32⟩
  | .hbm, ⟨11, _⟩ => ⟨S8x192x16384, .bf16⟩
  | .hbm, ⟨12, _⟩ => ⟨S8x192x16384, .f32⟩
  | .hbm, ⟨13, _⟩ => ⟨S8x16384x16384, .f32⟩
  | .hbm, ⟨14, _⟩ => ⟨S_, .f32⟩
  | .hbm, ⟨15, _⟩ => ⟨S_, .f32⟩
  | .hbm, ⟨16, _⟩ => ⟨S8x16384x16384, .f32⟩
  | .hbm, ⟨17, _⟩ => ⟨S8x16384x16384, .f32⟩
  | .hbm, ⟨18, _⟩ => ⟨S_, .f32⟩
  | .hbm, ⟨19, _⟩ => ⟨S8x16384, .f32⟩
  | .hbm, ⟨20, _⟩ => ⟨S_, .f32⟩
  | .hbm, ⟨21, _⟩ => ⟨S8x16384, .f32⟩
  | .hbm, ⟨22, _⟩ => ⟨S8x16384, .f32⟩
  | .hbm, ⟨23, _⟩ => ⟨S8x16384x1, .f32⟩
  | .hbm, ⟨24, _⟩ => ⟨S8x16384x16384, .f32⟩
  | .hbm, ⟨25, _⟩ => ⟨S8x16384x16384, .f32⟩
  | .hbm, ⟨26, _⟩ => ⟨S8x16384x16384, .f32⟩
  | .hbm, ⟨27, _⟩ => ⟨S_, .f32⟩
  | .hbm, ⟨28, _⟩ => ⟨S8x16384, .f32⟩
  | .hbm, ⟨29, _⟩ => ⟨S8x16384x1, .f32⟩
  | .hbm, ⟨30, _⟩ => ⟨S8x16384x16384, .f32⟩
  | .hbm, ⟨31, _⟩ => ⟨S8x16384x16384, .f32⟩
  | .hbm, ⟨32, _⟩ => ⟨S8x16384x128, .bf16⟩
  | .hbm, ⟨33, _⟩ => ⟨S8x16384x128, .f32⟩
  | .hbm, ⟨34, _⟩ => ⟨S8x16384x128, .f32⟩
  | .hbm, ⟨35, _⟩ => ⟨S16384x8x128, .f32⟩
  | .hbm, ⟨36, _⟩ => ⟨S16384x1024, .f32⟩
  | .hbm, ⟨37, _⟩ => ⟨S16384x1024, .bf16⟩
  | .hbm, ⟨38, _⟩ => ⟨S2048x2048, .bf16⟩
  | .hbm, ⟨39, _⟩ => ⟨S2048x5632, .bf16⟩
  | .hbm, ⟨40, _⟩ => ⟨S2048x5632, .bf16⟩
  | .hbm, ⟨41, _⟩ => ⟨S5632x2048, .bf16⟩
  | .hbm, ⟨42, _⟩ => ⟨S8x2048x7168, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Ffn.lean ====
abbrev S16384x2048 : Shape := ⟨2, ![16384, 2048]⟩
abbrev S1x12288 : Shape := ⟨2, ![1, 12288]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512x512 : Shape := ⟨2, ![512, 512]⟩
abbrev S1x2048 : Shape := ⟨2, ![1, 2048]⟩

abbrev nBuf : Space → Nat
  | .hbm => 7
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S1x12288, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x12288, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | .local _ .vmem, ⟨12, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S16384x2048 : Shape := ⟨2, ![16384, 2048]⟩
abbrev S1x12288 : Shape := ⟨2, ![1, 12288]⟩
abbrev S2048x5632 : Shape := ⟨2, ![2048, 5632]⟩
abbrev S5632x2048 : Shape := ⟨2, ![5632, 2048]⟩
abbrev S1x2048 : Shape := ⟨2, ![1, 2048]⟩
abbrev S16384x5632 : Shape := ⟨2, ![16384, 5632]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S1x12288, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S16384x2048, .f32⟩
  | .hbm, ⟨7, _⟩ => ⟨S1x2048, .f32⟩
  | .hbm, ⟨8, _⟩ => ⟨S2048x5632, .f32⟩
  | .hbm, ⟨9, _⟩ => ⟨S16384x5632, .f32⟩
  | .hbm, ⟨10, _⟩ => ⟨S16384x5632, .f32⟩
  | .hbm, ⟨11, _⟩ => ⟨S16384x5632, .f32⟩
  | .hbm, ⟨12, _⟩ => ⟨S_, .f32⟩
  | .hbm, ⟨13, _⟩ => ⟨S16384x5632, .f32⟩
  | .hbm, ⟨14, _⟩ => ⟨S16384x5632, .f32⟩
  | .hbm, ⟨15, _⟩ => ⟨S_, .f32⟩
  | .hbm, ⟨16, _⟩ => ⟨S16384x5632, .f32⟩
  | .hbm, ⟨17, _⟩ => ⟨S16384x5632, .f32⟩
  | .hbm, ⟨18, _⟩ => ⟨S16384x5632, .f32⟩
  | .hbm, ⟨19, _⟩ => ⟨S2048x5632, .f32⟩
  | .hbm, ⟨20, _⟩ => ⟨S16384x5632, .f32⟩
  | .hbm, ⟨21, _⟩ => ⟨S16384x5632, .f32⟩
  | .hbm, ⟨22, _⟩ => ⟨S5632x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩

abbrev nD : Nat := 1
abbrev τ : Topo := Topo.v7x

variable {F : FTy → Type} [FloatOps F]
-- ==== Experts.lean ====
abbrev S72 : Shape := ⟨1, ![72]⟩
abbrev S1 : Shape := ⟨1, ![1]⟩
abbrev S36864x2048 : Shape := ⟨2, ![36864, 2048]⟩
abbrev S8x2048x7168 : Shape := ⟨3, ![8, 2048, 7168]⟩
abbrev S8x7168x2048 : Shape := ⟨3, ![8, 7168, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 5
  | .vmem => 11
  | .smem => 2
  | _ => 0

abbrev bufTy : (tb : Table) → Fin (tcTables nBuf tb) → BufTy
  | .hbm, ⟨0, _⟩ => ⟨S36864x2048, .f32⟩
  | .hbm, ⟨1, _⟩ => ⟨S8x2048x7168, .bf16⟩
  | .hbm, ⟨2, _⟩ => ⟨S8x2048x7168, .bf16⟩
  | .hbm, ⟨3, _⟩ => ⟨S8x7168x2048, .bf16⟩
  | .hbm, ⟨4, _⟩ => ⟨S36864x2048, .f32⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .smem, ⟨0, _⟩ => ⟨S72, .i32⟩
  | .local _ .smem, ⟨1, _⟩ => ⟨S1, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) (v3 : BitVec 32) : BitVec 1 :=
  let arg0 : BitVec 32 := BitVec.ofNat 32 (i 0).val
  let v4 : BitVec 1 := Scalar.cmpi .slt arg0 v3
  let v5 : BitVec 32 := Scalar.extui v4
  let c0_i32_1 : BitVec 32 := 0#32
  let v6 : BitVec 1 := Scalar.cmpi .ne v5 c0_i32_1
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsRefIdeal.lean ====
abbrev S72 : Shape := ⟨1, ![72]⟩
abbrev S1 : Shape := ⟨1, ![1]⟩
abbrev S36864x2048 : Shape := ⟨2, ![36864, 2048]⟩
abbrev S8x2048x7168 : Shape := ⟨3, ![8, 2048, 7168]⟩
abbrev S8x7168x2048 : Shape := ⟨3, ![8, 7168, 2048]⟩
abbrev S72x512x2048 : Shape := ⟨3, ![72, 512, 2048]⟩
abbrev S72x1 : Shape := ⟨2, ![72, 1]⟩
abbrev S72x2048x7168 : Shape := ⟨3, ![72, 2048, 7168]⟩
abbrev S72x512x7168 : Shape := ⟨3, ![72, 512, 7168]⟩
abbrev S_ : Shape := ⟨0, ![]⟩
abbrev S72x7168x2048 : Shape := ⟨3, ![72, 7168, 2048]⟩
abbrev S72x1x1 : Shape := ⟨3, ![72, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S72, .i32⟩
  | .hbm, ⟨1, _⟩ => ⟨S1, .i32⟩
  | .hbm, ⟨2, _⟩ => ⟨S36864x2048, .f32⟩
  | .hbm, ⟨3, _⟩ => ⟨S8x2048x7168, .bf16⟩
  | .hbm, ⟨4, _⟩ => ⟨S8x2048x7168, .bf16⟩
  | .hbm, ⟨5, _⟩ => ⟨S8x7168x2048, .bf16⟩
  | .hbm, ⟨6, _⟩ => ⟨S72x512x2048, .f32⟩
  | .hbm, ⟨7, _⟩ => ⟨S72x1, .i32⟩
  | .hbm, ⟨8, _⟩ => ⟨S72x2048x7168, .bf16⟩
  | .hbm, ⟨9, _⟩ => ⟨S72x2048x7168, .f32⟩
  | .hbm, ⟨10, _⟩ => ⟨S72x512x7168, .f32⟩
  | .hbm, ⟨11, _⟩ => ⟨S72x512x7168, .f32⟩
  | .hbm, ⟨12, _⟩ => ⟨S72x512x7168, .f32⟩
  | .hbm, ⟨13, _⟩ => ⟨S_, .f32⟩
  | .hbm, ⟨14, _⟩ => ⟨S72x512x7168, .f32⟩
  | .hbm, ⟨15, _⟩ => ⟨S72x512x7168, .f32⟩
  | .hbm, ⟨16, _⟩ => ⟨S_, .f32⟩
  | .hbm, ⟨17, _⟩ => ⟨S72x512x7168, .f32⟩
  | .hbm, ⟨18, _⟩ => ⟨S72x512x7168, .f32⟩
  | .hbm, ⟨19, _⟩ => ⟨S72x512x7168, .f32⟩
  | .hbm, ⟨20, _⟩ => ⟨S72x1, .i32⟩
  | .hbm, ⟨21, _⟩ => ⟨S72x2048x7168, .bf16⟩
  | .hbm, ⟨22, _⟩ => ⟨S72x2048x7168, .f32⟩
  | .hbm, ⟨23, _⟩ => ⟨S72x512x7168, .f32⟩
  | .hbm, ⟨24, _⟩ => ⟨S72x512x7168, .f32⟩
  | .hbm, ⟨25, _⟩ => ⟨S72x1, .i32⟩
  | .hbm, ⟨26, _⟩ => ⟨S72x7168x2048, .bf16⟩
  | .hbm, ⟨27, _⟩ => ⟨S72x7168x2048, .f32⟩
  | .hbm, ⟨28, _⟩ => ⟨S72x512x2048, .f32⟩
  | .hbm, ⟨29, _⟩ => ⟨S72, .i32⟩
  | .hbm, ⟨30, _⟩ => ⟨S_, .i32⟩
  | .hbm, ⟨31, _⟩ => ⟨S72, .i32⟩
  | .hbm, ⟨32, _⟩ => ⟨S72, .i1⟩
  | .hbm, ⟨33, _⟩ => ⟨S72x1x1, .i1⟩
  | .hbm, ⟨34, _⟩ => ⟨S_, .f32⟩
  | .hbm, ⟨35, _⟩ => ⟨S_, .f32⟩
  | .hbm, ⟨36, _⟩ => ⟨S72x512x2048, .i1⟩
  | .hbm, ⟨37, _⟩ => ⟨S72x512x2048, .f32⟩
  | .hbm, ⟨38, _⟩ => ⟨S72x512x2048, .f32⟩
  | .hbm, ⟨39, _⟩ => ⟨S36864x2048, .f32⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call1_v0 : Ref sig .tc := ⟨.hbm, 11, rfl⟩
abbrev main_call1_v1 : Ref sig .tc := ⟨.hbm, 12, rfl⟩
abbrev main_call1_cst : Ref sig .tc := ⟨.hbm, 13, rfl⟩
abbrev main_call1_v2 : Ref sig .tc := ⟨.hbm, 14, rfl⟩
abbrev main_call1_v3 : Ref sig .tc := ⟨.hbm, 15, rfl⟩
abbrev main_call1_cst_0 : Ref sig .tc := ⟨.hbm, 16, rfl⟩
abbrev main_call1_v4 : Ref sig .tc := ⟨.hbm, 17, rfl⟩
abbrev main_call1_v5 : Ref sig .tc := ⟨.hbm, 18, rfl⟩
abbrev main_v4 : Ref sig .tc := ⟨.hbm, 19, rfl⟩
abbrev main_call2_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call3_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_call4_v0 : Ref sig .tc := ⟨.hbm, 35, rfl⟩
abbrev main_call4_v1 : Ref sig .tc := ⟨.hbm, 36, rfl⟩
abbrev main_call4_v2 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]
-- ==== MixOut.lean ====
abbrev S16384x1024 : Shape := ⟨2, ![16384, 1024]⟩
abbrev S16384x2048 : Shape := ⟨2, ![16384, 2048]⟩
abbrev S1x12288 : Shape := ⟨2, ![1, 12288]⟩
abbrev S1x2048 : Shape := ⟨2, ![1, 2048]⟩
abbrev S2048x2048 : Shape := ⟨2, ![2048, 2048]⟩
abbrev S512x1024 : Shape := ⟨2, ![512, 1024]⟩
abbrev S512x2048 : Shape := ⟨2, ![512, 2048]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S1x12288, .f32⟩
  | .hbm, ⟨4, _⟩ => ⟨S1x2048, .f32⟩
  | .hbm, ⟨5, _⟩ => ⟨S2048x2048, .bf16⟩
  | .hbm, ⟨6, _⟩ => ⟨S1x2048, .f32⟩
  | .hbm, ⟨7, _⟩ => ⟨S16384x2048, .f32⟩
  | .hbm, ⟨8, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1x12288, .f32⟩
  | .local _ .vmem, ⟨7, _⟩ => ⟨S1x2048, .f32⟩
  | .local _ .vmem, ⟨8, _⟩ => ⟨S2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixOutRefIdeal.lean ====
abbrev S16384x1024 : Shape := ⟨2, ![16384, 1024]⟩
abbrev S16384x2048 : Shape := ⟨2, ![16384, 2048]⟩
abbrev S1x12288 : Shape := ⟨2, ![1, 12288]⟩
abbrev S1x2048 : Shape := ⟨2, ![1, 2048]⟩
abbrev S2048x2048 : Shape := ⟨2, ![2048, 2048]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S1x12288, .f32⟩
  | .hbm, ⟨4, _⟩ => ⟨S1x2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S16384x1024, .f32⟩
  | .hbm, ⟨11, _⟩ => ⟨S1x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x2048, .f32⟩
  | .hbm, ⟨45, _⟩ => ⟨S2048x2048, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x2048, .f32⟩
  | .hbm, ⟨62, _⟩ => ⟨S16384x2048, .f32⟩
  | .hbm, ⟨63, _⟩ => ⟨S16384x2048, .f32⟩
  | .hbm, ⟨64, _⟩ => ⟨S16384x2048, .f32⟩
  | .hbm, ⟨65, _⟩ => ⟨S_, .f32⟩
  | .hbm, ⟨66, _⟩ => ⟨S1x2048, .f32⟩
  | .hbm, ⟨67, _⟩ => ⟨S1x2048, .f32⟩
  | .hbm, ⟨68, _⟩ => ⟨S16384x2048, .f32⟩
  | .hbm, ⟨69, _⟩ => ⟨S16384x2048, .f32⟩
  | .hbm, ⟨70, _⟩ => ⟨S16384x2048, .f32⟩
  | .hbm, ⟨71, _⟩ => ⟨S16384x2048, .f32⟩
  | .hbm, ⟨72, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Rope.lean ====
abbrev S16384 : Shape := ⟨1, ![16384]⟩
abbrev S32 : Shape := ⟨1, ![32]⟩
abbrev S_ : Shape := ⟨0, ![]⟩
abbrev S1x16384 : Shape := ⟨2, ![1, 16384]⟩
abbrev S32x1 : Shape := ⟨2, ![32, 1]⟩
abbrev S32x16384 : Shape := ⟨2, ![32, 16384]⟩
abbrev S1x2048 : Shape := ⟨2, ![1, 2048]⟩
abbrev S32x2048 : Shape := ⟨2, ![32, 2048]⟩

abbrev nBuf : Space → Nat
  | .hbm => 13
  | .vmem => 7
  | .smem => 0
  | _ => 0

abbrev bufTy : (tb : Table) → Fin (tcTables nBuf tb) → BufTy
  | .hbm, ⟨0, _⟩ => ⟨S16384, .f32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S1x16384, .f32⟩
  | .hbm, ⟨10, _⟩ => ⟨S32x1, .f32⟩
  | .hbm, ⟨11, _⟩ => ⟨S32x16384, .f32⟩
  | .hbm, ⟨12, _⟩ => ⟨S32x16384, .f32⟩
  | .local _ .vmem, ⟨0, _⟩ => ⟨S1x2048, .f32⟩
  | .local _ .vmem, ⟨1, _⟩ => ⟨S1x2048, .f32⟩
  | .local _ .vmem, ⟨2, _⟩ => ⟨S32x1, .f32⟩
  | .local _ .vmem, ⟨3, _⟩ => ⟨S32x2048, .f32⟩
  | .local _ .vmem, ⟨4, _⟩ => ⟨S32x2048, .f32⟩
  | .local _ .vmem, ⟨5, _⟩ => ⟨S32x2048, .f32⟩
  | .local _ .vmem, ⟨6, _⟩ => ⟨S32x2048, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeRefIdeal.lean ====
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S32x16384 : Shape := ⟨2, ![32, 16384]⟩

abbrev nBuf : Space → Nat
  | .hbm => 18
  | .vmem => 0
  | .smem => 0
  | _ => 0

abbrev bufTy : (tb : Table) → Fin (tcTables nBuf tb) → BufTy
  | .hbm, ⟨0, _⟩ => ⟨S16384, .f32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S16384x1, .f32⟩
  | .hbm, ⟨10, _⟩ => ⟨S1x32, .f32⟩
  | .hbm, ⟨11, _⟩ => ⟨S16384x32, .f32⟩
  | .hbm, ⟨12, _⟩ => ⟨S16384x32, .f32⟩
  | .hbm, ⟨13, _⟩ => ⟨S16384x32, .f32⟩
  | .hbm, ⟨14, _⟩ => ⟨S16384x32, .f32⟩
  | .hbm, ⟨15, _⟩ => ⟨S32x16384, .f32⟩
  | .hbm, ⟨16, _⟩ => ⟨S16384x32, .f32⟩
  | .hbm, ⟨17, _⟩ => ⟨S32x16384, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Proof.Softmax.lean ====
/- The arithmetic of a weighted mean by powers of two, over the extended reals.

   The attention kernel keeps `∑ 2^(s_j - c) v_j` and `∑ 2^(s_j - c)` and divides at the end; the reference forms the
   softmax weights `exp (s_j log 2 - M) / ∑ exp (s_i log 2 - M)` first. The scores `s_j` are real, the values `v_j` may be any
   extended reals. Both are `mean s v`, the mean of the values with weights `2^(s_j) / ∑ 2^(s_i)`, whatever the shifts are. -/
module

public import Idealize.ShloMosaic.PureOps.Ideal
public import Mathlib.Data.EReal.Operations
public import Mathlib.Analysis.SpecialFunctions.Pow.Real

@[expose] public section

noncomputable section

namespace Cert.Softmax

open Idealize.ShloMosaic

/-- A real factor that is not negative comes out of a finite sum of extended reals. -/
theorem mul_sum_coe {ι : Type} (S : Finset ι) (p : ℝ) (hp : 0 ≤ p) (f : ι → EReal) :
    (p : EReal) * ∑ j ∈ S, f j = ∑ j ∈ S, (p : EReal) * f j := by
  classical
  induction S using Finset.induction_on with
  | empty => simp
  | insert a S ha ih =>
    rw [Finset.sum_insert ha, Finset.sum_insert ha,
      EReal.left_distrib_of_nonneg_of_ne_top (by exact_mod_cast hp) (EReal.coe_ne_top p), ih]

/-- A finite sum of reals, read as an extended real. -/
theorem coe_sum {ι : Type} (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- The weighted mean: the values `v_j` with weights `2^(s_j) / ∑ 2^(s_i)`. -/
def mean {n : ℕ} (s : Fin n → ℝ) (v : Fin n → EReal) : EReal :=
  ∑ j, (((2 : ℝ) ^ s j / ∑ i, (2 : ℝ) ^ s i : ℝ) : EReal) * v j

/-- The sum of the powers of two is positive. -/
theorem sum_pow_pos {n : ℕ} [NeZero n] (s : Fin n → ℝ) (c : ℝ) : 0 < ∑ j, (2 : ℝ) ^ (s j - c) :=
  Finset.sum_pos (fun j _ => Real.rpow_pos_of_pos two_pos _) Finset.univ_nonempty

/-- The weights do not depend on the shift. -/
theorem weight_shift {n : ℕ} (s : Fin n → ℝ) (c : ℝ) (j : Fin n) :
    (2 : ℝ) ^ (s j - c) / ∑ i, (2 : ℝ) ^ (s i - c) = (2 : ℝ) ^ s j / ∑ i, (2 : ℝ) ^ s i := by
  have hc : (2 : ℝ) ^ c ≠ 0 := (Real.rpow_pos_of_pos two_pos c).ne'
  simp only [Real.rpow_sub two_pos]
  rw [← Finset.sum_div, div_div_div_cancel_right₀ hc]

/-- The kernel's form: the accumulated numerator times one over the accumulated denominator. -/
theorem quotient_eq {n : ℕ} [NeZero n] (s : Fin n → ℝ) (v : Fin n → EReal) (c : ℝ) :
    (∑ j, (((2 : ℝ) ^ (s j - c) : ℝ) : EReal) * v j) * Ideal.div 1 (∑ j, (((2 : ℝ) ^ (s j - c) : ℝ) : EReal) * 1)
      = mean s v := by
  simp only [mul_one]
  have hD := sum_pow_pos s c
  rw [← coe_sum, Ideal.div_coe hD.ne', one_mul, mul_comm, mul_sum_coe _ _ (by positivity)]
  refine Finset.sum_congr rfl fun j _ => ?_
  rw [← mul_assoc, ← EReal.coe_mul, ← weight_shift s c j]
  congr 2
  field_simp

/-- A power of two as an exponential. -/
theorem exp_log_two (s M : ℝ) : Real.exp (s * Real.log 2 - M) = (2 : ℝ) ^ s * Real.exp (-M) := by
  rw [sub_eq_add_neg, Real.exp_add, Real.rpow_def_of_pos two_pos, mul_comm s]

/-- The reference's form: the softmax weights of `s_j log 2`, shifted by any real `M`, times the values. -/
theorem softmax_eq {n : ℕ} [NeZero n] (s : Fin n → ℝ) (v : Fin n → EReal) (M : ℝ) :
    ∑ j, Ideal.div (((Real.exp (s j * Real.log 2 - M) : ℝ)) : EReal)
        (∑ i, ((Real.exp (s i * Real.log 2 - M) : ℝ) : EReal)) * v j = mean s v := by
  have hE : 0 < Real.exp (-M) := Real.exp_pos _
  have hD : 0 < ∑ i, (2 : ℝ) ^ s i := by simpa using sum_pow_pos s 0
  refine Finset.sum_congr rfl fun j _ => ?_
  rw [← coe_sum]
  simp only [exp_log_two]
  rw [← Finset.sum_mul, Ideal.div_coe (by positivity), ← EReal.coe_mul]
  congr 2
  field_simp

/-! ## The running form

The other branch of the kernel takes the scores in pieces and keeps the largest seen so far, `M`, rescaling what it has summed
each time `M` moves. `Online s v n M a` says what `M` and a sum `a` are after the first `n` scores. -/

/-- After `n` scores: nothing yet (`M` is −∞ and the sum is zero), or `M` is a real shift and `a` the sum with that shift. -/
def Online (s : ℕ → ℝ) (v : ℕ → EReal) (n : ℕ) (M a : EReal) : Prop :=
  (n = 0 ∧ M = ⊥ ∧ a = 0) ∨ ∃ c : ℝ, M = (c : EReal) ∧ a = ∑ j ∈ Finset.range n, (((2 : ℝ) ^ (s j - c) : ℝ) : EReal) * v j

/-- One piece of `w` scores: the sum so far is rescaled to the new shift `c'` and the piece's terms are added. -/
theorem Online.step {s : ℕ → ℝ} {v : ℕ → EReal} {n : ℕ} {M a : EReal} (h : Online s v n M a) (w : ℕ) (c' : ℝ) :
    Online s v (n + w) (c' : EReal)
      (Ideal.exp2 (M - (c' : EReal)) * a
        + ∑ u : Fin w, Ideal.exp2 (((s (n + u.val) : ℝ) : EReal) - (c' : EReal)) * v (n + u.val)) := by
  refine Or.inr ⟨c', rfl, ?_⟩
  have hp : ∀ x y : ℝ, Ideal.exp2 ((x : EReal) - (y : EReal)) = (((2 : ℝ) ^ (x - y) : ℝ) : EReal) := fun x y => by
    rw [← EReal.coe_sub, Ideal.exp2_coe]; rfl
  rw [Finset.sum_range_add, ← Fin.sum_univ_eq_sum_range (fun u => (((2 : ℝ) ^ (s (n + u) - c') : ℝ) : EReal) * v (n + u)) w]
  simp only [hp]
  congr 1
  rcases h with ⟨rfl, rfl, rfl⟩ | ⟨c, rfl, rfl⟩
  · simp
  · rw [hp, mul_sum_coe _ _ (Real.rpow_nonneg two_pos.le _)]
    refine Finset.sum_congr rfl fun j _ => ?_
    rw [← mul_assoc, ← EReal.coe_mul, ← Real.rpow_add two_pos]
    congr 3
    ring

/-- The new shift is real: the larger of `M` and the largest of finitely many reals, at least one. -/
theorem Online.max_real {s : ℕ → ℝ} {v : ℕ → EReal} {n : ℕ} {M a : EReal} (h : Online s v n M a) {w : ℕ} [NeZero w]
    (f : Fin w → ℝ) : ∃ c' : ℝ, max M (Finset.univ.fold max (⊥ : EReal) fun u => (f u : EReal)) = (c' : EReal) := by
  have hb : (⊥ : EReal) < Finset.univ.fold max (⊥ : EReal) fun u => (f u : EReal) := by
    rw [Finset.lt_fold_max]
    exact Or.inr ⟨0, Finset.mem_univ _, EReal.bot_lt_coe _⟩
  have ht : (Finset.univ.fold max (⊥ : EReal) fun u => (f u : EReal)) < ⊤ := by
    rw [Finset.fold_max_lt]
    exact ⟨bot_lt_top, fun u _ => EReal.coe_lt_top _⟩
  have hM : M < ⊤ := by
    rcases h with ⟨_, rfl, _⟩ | ⟨c, rfl, _⟩
    · exact bot_lt_top
    · exact EReal.coe_lt_top _
  exact ⟨_, (EReal.coe_toReal (max_lt hM ht).ne (lt_max_of_lt_right hb).ne').symm⟩

/-- A sum over the first `n` numbers, over `Fin n`. -/
theorem sum_range_fin {n : ℕ} (f : ℕ → EReal) : ∑ j ∈ Finset.range n, f j = ∑ j : Fin n, f j.val :=
  (Fin.sum_univ_eq_sum_range f n).symm

/-- At the end, for sums taken of the values and of ones with the same shift: their quotient is the mean. -/
theorem Online.quotient {s : ℕ → ℝ} {v e : ℕ → EReal} {n : ℕ} [NeZero n] {M a d : EReal} (ha : Online s v n M a)
    (hd : Online s e n M d) (he : ∀ j, e j = 1) :
    a * Ideal.div 1 d = mean (fun j : Fin n => s j.val) (fun j => v j.val) := by
  rcases ha with ⟨h, _⟩ | ⟨c, rfl, rfl⟩
  · exact absurd h (NeZero.ne n)
  rcases hd with ⟨h, _⟩ | ⟨c', hc, rfl⟩
  · exact absurd h (NeZero.ne n)
  obtain rfl : c = c' := EReal.coe_injective hc
  simp only [he, sum_range_fin]
  exact quotient_eq (fun j : Fin n => s j.val) (fun j => v j.val) c

/-- The plain form, without shifts, is the running form with shift zero. -/
theorem online_zero {s : ℕ → ℝ} {v : ℕ → EReal} {n : ℕ} {a : EReal}
    (h : a = ∑ j ∈ Finset.range n, Ideal.exp2 ((s j : ℝ) : EReal) * v j) : Online s v n ((0 : ℝ) : EReal) a := by
  refine Or.inr ⟨0, rfl, h.trans (Finset.sum_congr rfl fun j _ => ?_)⟩
  rw [Ideal.exp2_coe, sub_zero]
  rfl

end Cert.Softmax

end
-- ==== Proof.AttentionBlock.lean ====
/- What one block of the attention call computes: the arithmetic of its 1024 queries, from the stored expressions.

   The block holds 1024 queries `Q`, all keys `K` and all values `V` of a head; lanes 128 to 255 of the values are one, so the same
   product that sums the weighted values also sums the weights. The keys are taken in 16 pieces of 1024. -/
module

public import proofs.«01_k».proof.Proof.Gen.AttnIdeal.Frame
public import proofs.«01_k».proof.Proof.Softmax
public import Idealize.ShloMosaic.Lib.Pipeline.ValueKit
public import Idealize.ShloMosaic.Lib.Pointwise

@[expose] public section

noncomputable section

namespace Cert.Attention
open Idealize.ShloMosaic Idealize.ShloMosaic.TcCoe Idealize.SL.Sem Cert.AttnIdeal Cert.AttnIdeal.Gen

set_option maxRecDepth 16384

/-- Key `n`, for `n` below 16384. -/
def col (n : ℕ) : Fin 16384 := ⟨n % 16384, Nat.mod_lt _ (by decide)⟩

theorem col_mk {n : ℕ} (h : n < 16384) : (⟨n, h⟩ : Fin 16384) = col n := Fin.ext (Nat.mod_eq_of_lt h).symm

theorem col_val (j : Fin 16384) : col j.val = j := Fin.ext (Nat.mod_eq_of_lt j.isLt)

variable (Q : Vec Ideal S1x1024x256 .bf16) (K : Vec Ideal S1x256x16384 .bf16) (V : Vec Ideal S1x16384x256 .bf16)

/-- Row `r` of the block's queries times key `n`, over all 256 lanes. -/
def dots (r : Fin 1024) (n : ℕ) : EReal := ∑ l : Fin 256, Q (ix3 0 r l) * K (ix3 0 l (col n))

/-- Lane `l` of the value of key `n`. -/
def val (l : Fin 256) (n : ℕ) : EReal := V (ix3 0 (col n) l)

section Payloads

variable (o : ℕ) (hK : ∀ a, (![0, 0, o] : Fin 3 → ℕ) a + (![1, 256, 1024] : Fin 3 → ℕ) a ≤ S1x256x16384.size a)
  (hV : ∀ a, (![0, o, 0] : Fin 3 → ℕ) a + (![1, 1024, 256] : Fin 3 → ℕ) a ≤ S1x16384x256.size a)

/-- One piece of the plain branch: the sum so far plus the piece's terms. -/
theorem plain_piece (A : Vec Ideal S1024x256 .f32) (r : Fin 1024) (l : Fin 256) :
    k0_pay7 (F := Ideal) (View.ld K (Rect.unit ![0, 0, o] ![1, 256, 1024] hK)) (View.ld V (Rect.unit ![0, o, 0] ![1, 1024, 256] hV)) Q A (ix2 r l)
      = A (ix2 r l) + ∑ u : Fin 1024, Ideal.exp2 (dots Q K r (o + u.val)) * val V l (o + u.val) := by
  pointwise [k0_pay7]
  simp only [dots, val, col_mk]
  rfl

/-- The scores of a piece. -/
theorem piece_scores (r u : Fin 1024) :
    k0_pay2 (F := Ideal) (View.ld K (Rect.unit ![0, 0, o] ![1, 256, 1024] hK)) Q (ix2 r u) = dots Q K r (o + u.val) := by
  pointwise [k0_pay2]
  simp only [dots, col_mk]

/-- The new largest score of a row. -/
theorem piece_max (M : Vec Ideal S1024x1 .f32) (r : Fin 1024) :
    k0_pay3 (F := Ideal) (View.ld K (Rect.unit ![0, 0, o] ![1, 256, 1024] hK)) Q M (ix2 r 0)
      = max (M (ix2 r 0)) (Finset.univ.fold max (⊥ : EReal) fun u : Fin 1024 => dots Q K r (o + u.val)) := by
  have hb : Ideal.ofBits .f32 0xFF800000#32 = ⊥ := by simp [Ideal.ofBits, Ideal.ieee]
  rw [← hb]
  pointwise [k0_pay3]
  simp only [piece_scores]

/-- The largest score kept for the next piece. -/
theorem piece_max_stored (M : Vec Ideal S1024x1 .f32) :
    k0_pay5 (F := Ideal) (View.ld K (Rect.unit ![0, 0, o] ![1, 256, 1024] hK)) Q M
      = k0_pay3 (F := Ideal) (View.ld K (Rect.unit ![0, 0, o] ![1, 256, 1024] hK)) Q M := by
  funext y
  idx_vars y
  pointwise [k0_pay5]

/-- One piece of the running branch: the sum so far rescaled, plus the piece's terms. -/
theorem running_piece (A : Vec Ideal S1024x256 .f32) (M : Vec Ideal S1024x1 .f32) (r : Fin 1024) (l : Fin 256) :
    k0_pay4 (F := Ideal) (View.ld K (Rect.unit ![0, 0, o] ![1, 256, 1024] hK)) (View.ld V (Rect.unit ![0, o, 0] ![1, 1024, 256] hV)) Q M A (ix2 r l)
      = Ideal.exp2 (M (ix2 r 0) - k0_pay3 (F := Ideal) (View.ld K (Rect.unit ![0, 0, o] ![1, 256, 1024] hK)) Q M (ix2 r 0)) * A (ix2 r l)
        + ∑ u : Fin 1024, Ideal.exp2 (dots Q K r (o + u.val)
            - k0_pay3 (F := Ideal) (View.ld K (Rect.unit ![0, 0, o] ![1, 256, 1024] hK)) Q M (ix2 r 0)) * val V l (o + u.val) := by
  pointwise [k0_pay4]
  simp only [piece_scores, val, col_mk]
  rfl

end Payloads

/-- The cleared sum. -/
theorem cleared (y : S1024x256.Idx) : k0_pay34 (F := Ideal) y = 0 := by
  idx_vars y
  pointwise [k0_pay34]

/-- The first largest score, −∞. -/
theorem first_max (y : S1024x1.Idx) : k0_pay1 (F := Ideal) y = ⊥ := by
  have hb : Ideal.ofBits .f32 0xFF800000#32 = ⊥ := by simp [Ideal.ofBits, Ideal.ieee]
  rw [← hb]
  idx_vars y
  pointwise [k0_pay1]

/-- The stored result: the values' lanes times one over the weights' lanes. -/
theorem divided (A : Vec Ideal S1024x256 .f32) (r : Fin 1024) (d : Fin 128) :
    k0_pay6 (F := Ideal) (View.ld A (Rect.unit ![0, 0] ![1024, 128] inb_S1024x256_S1024x128_0_0))
        (View.ld A (Rect.unit ![0, 128] ![1024, 128] inb_S1024x256_S1024x128_0_128)) (ix2 r d)
      = A (ix2 r ⟨d.val, by omega⟩) * Ideal.div 1 (A (ix2 r ⟨128 + d.val, by omega⟩)) := by
  pointwise [k0_pay6]

/-- The block's answer: in row `r`, lane `d` the mean of the values with weights `2^score`. -/
def blockMean (r : Fin 1024) (d : Fin 128) : EReal :=
  Softmax.mean (fun j : Fin 16384 => (dots Q K r j.val).toReal) (fun j => val V ⟨d.val, by omega⟩ j.val)

/-- From the sums of both kinds of lanes, however shifted, to the stored result. -/
theorem divided_eq {A : Vec Ideal S1024x256 .f32} {M : Fin 1024 → EReal}
    (h : ∀ r l, Softmax.Online (fun n => (dots Q K r n).toReal) (val V l) 16384 (M r) (A (ix2 r l)))
    (hV : ∀ (l : Fin 256) n, 128 ≤ l.val → val V l n = 1) (r : Fin 1024) (d : Fin 128) :
    k0_pay6 (F := Ideal) (View.ld A (Rect.unit ![0, 0] ![1024, 128] inb_S1024x256_S1024x128_0_0))
        (View.ld A (Rect.unit ![0, 128] ![1024, 128] inb_S1024x256_S1024x128_0_128)) (ix2 r d) = blockMean Q K V r d := by
  rw [divided]
  exact (h r _).quotient (h r _) fun j => hV _ j (by show 128 ≤ 128 + d.val; omega)

/-- The plain branch, one piece further. -/
theorem plain_step {A : Vec Ideal S1024x256 .f32} (o : ℕ)
    (hK : ∀ a, (![0, 0, o] : Fin 3 → ℕ) a + (![1, 256, 1024] : Fin 3 → ℕ) a ≤ S1x256x16384.size a)
    (hV : ∀ a, (![0, o, 0] : Fin 3 → ℕ) a + (![1, 1024, 256] : Fin 3 → ℕ) a ≤ S1x16384x256.size a)
    (h : ∀ r l, A (ix2 r l) = ∑ n ∈ Finset.range o, Ideal.exp2 (dots Q K r n) * val V l n) (r : Fin 1024) (l : Fin 256) :
    k0_pay7 (F := Ideal) (View.ld K (Rect.unit ![0, 0, o] ![1, 256, 1024] hK)) (View.ld V (Rect.unit ![0, o, 0] ![1, 1024, 256] hV)) Q A (ix2 r l)
      = ∑ n ∈ Finset.range (o + 1024), Ideal.exp2 (dots Q K r n) * val V l n := by
  rw [plain_piece, h, Finset.sum_range_add]
  congr 1

/-- The running branch, one piece further: the sums, with the largest score stored. -/
theorem running_step {A : Vec Ideal S1024x256 .f32} {M : Vec Ideal S1024x1 .f32} (o : ℕ)
    (hK : ∀ a, (![0, 0, o] : Fin 3 → ℕ) a + (![1, 256, 1024] : Fin 3 → ℕ) a ≤ S1x256x16384.size a)
    (hV : ∀ a, (![0, o, 0] : Fin 3 → ℕ) a + (![1, 1024, 256] : Fin 3 → ℕ) a ≤ S1x16384x256.size a)
    (hs : ∀ r n, dots Q K r n = ((dots Q K r n).toReal : EReal))
    (h : ∀ r l, Softmax.Online (fun n => (dots Q K r n).toReal) (val V l) o (M (ix2 r 0)) (A (ix2 r l))) (r : Fin 1024) (l : Fin 256) :
    Softmax.Online (fun n => (dots Q K r n).toReal) (val V l) (o + 1024)
      (k0_pay5 (F := Ideal) (View.ld K (Rect.unit ![0, 0, o] ![1, 256, 1024] hK)) Q M (ix2 r 0))
      (k0_pay4 (F := Ideal) (View.ld K (Rect.unit ![0, 0, o] ![1, 256, 1024] hK)) (View.ld V (Rect.unit ![0, o, 0] ![1, 1024, 256] hV))
        Q M A (ix2 r l)) := by
  rw [running_piece, piece_max_stored, piece_max]
  obtain ⟨c', hc⟩ := (h r l).max_real (w := 1024) fun u => (dots Q K r (o + u.val)).toReal
  have e : (fun u : Fin 1024 => ((dots Q K r (o + u.val)).toReal : EReal)) = fun u => dots Q K r (o + u.val) := funext fun u => (hs r _).symm
  rw [e] at hc
  rw [hc]
  have := (h r l).step 1024 c'
  simp only [← hs] at this
  exact this

end Cert.Attention
end
-- ==== Proof.AttentionValue.lean ====
/- What one block of the attention call leaves in its result window, whichever branch it takes: the mean of the values with
   weights `2^score`.

   The branch is chosen by a number the host prepares from the lengths of the queries and keys. In the plain branch the 16 pieces
   follow each other with no shift; in the running branch a loop takes them, keeping the largest score seen. -/
module

public import proofs.«01_k».proof.Proof.AttentionBlock

@[expose] public section

noncomputable section

namespace Cert.Attention
open Idealize.ShloMosaic Idealize.ShloMosaic.TcCoe Idealize.SL.Sem Cert.AttnIdeal Cert.AttnIdeal.Gen

set_option maxRecDepth 16384

/-- A load through a rectangle, after a store of the whole buffer, reads that store. -/
theorem load_after_store {sig : RefSig} {κ : Kind} {sp : Space} (v : View sig κ sp S1024x256 .f32) (w : Vec Ideal S1024x256 .f32)
    (L : List (View.Piece (Elt Ideal) S1024x256 .f32)) (r : Rect S1024x256) :
    v.readCov ((⟨Rect.unit ![0, 0] ![1024, 256] inb_S1024x256_S1024x256_0_0, w⟩ : View.Piece (Elt Ideal) S1024x256 .f32) :: L)
      r.toLoadRect = View.ld w r := by
  rw [View.readCov_eq_canon']
  have h := View.canon_cons_unit_lit (Val := Elt Ideal) inb_S1024x256_S1024x256_0_0 w L (by decide)
  funext j
  exact congrFun h _

/-- A load through a rectangle, after any stores. -/
theorem load_after_stores {sig : RefSig} {κ : Kind} {sp : Space} (v : View sig κ sp S1024x256 .f32)
    (L : List (View.Piece (Elt Ideal) S1024x256 .f32)) (r : Rect S1024x256) : v.readCov L r.toLoadRect = View.ld (View.canon L) r := by
  rw [View.readCov_eq_canon']

/-- The sums' buffer after a store of all of it. -/
theorem canon_sums (w : Vec Ideal S1024x256 .f32) (L : List (View.Piece (Elt Ideal) S1024x256 .f32)) :
    View.canon ((⟨Rect.unit ![0, 0] ![1024, 256] inb_S1024x256_S1024x256_0_0, w⟩ : View.Piece (Elt Ideal) S1024x256 .f32) :: L) = w :=
  View.canon_cons_unit_lit (Val := Elt Ideal) inb_S1024x256_S1024x256_0_0 w L (by decide)

/-- The largest scores' buffer after a store of all of it. -/
theorem canon_max (w : Vec Ideal S1024x1 .f32) (L : List (View.Piece (Elt Ideal) S1024x1 .f32)) :
    View.canon ((⟨Rect.unit ![0, 0] ![1024, 1] inb_S1024x1_S1024x1_0_0, w⟩ : View.Piece (Elt Ideal) S1024x1 .f32) :: L) = w :=
  View.canon_cons_unit_lit (Val := Elt Ideal) inb_S1024x1_S1024x1_0_0 w L (by decide)

/-- A load of a whole buffer of queries. -/
theorem load_queries (w : Vec Ideal S1x1024x256 .bf16) :
    View.ld w (Rect.unit ![0, 0, 0] ![1, 1024, 256] inb_S1x1024x256_S1x1024x256_0_0_0) = w :=
  View.ld_unit_lit (S := S1x1024x256) inb_S1x1024x256_S1x1024x256_0_0_0 w (by decide)

/-- A load of the whole sums' buffer. -/
theorem load_sums (w : Vec Ideal S1024x256 .f32) :
    View.ld w (Rect.unit ![0, 0] ![1024, 256] inb_S1024x256_S1024x256_0_0) = w :=
  View.ld_unit_lit (S := S1024x256) inb_S1024x256_S1024x256_0_0 w (by decide)

/-- A load of the whole buffer of largest scores. -/
theorem load_max (w : Vec Ideal S1024x1 .f32) : View.ld w (Rect.unit ![0, 0] ![1024, 1] inb_S1024x1_S1024x1_0_0) = w :=
  View.ld_unit_lit (S := S1024x1) inb_S1024x1_S1024x1_0_0 w (by decide)

/-- One store of sums, with equal ingredients. -/
theorem store_sums {k k' : Vec Ideal S1x256x1024 .bf16} {v v' : Vec Ideal S1x1024x256 .bf16} {q q' : Vec Ideal S1x1024x256 .bf16}
    {M M' : Vec Ideal S1024x1 .f32} {A A' : Vec Ideal S1024x256 .f32} (hk : k = k') (hv : v = v') (hq : q = q') (hM : M = M') (hA : A = A') :
    ([⟨Rect.unit ![0, 0] ![1024, 256] inb_S1024x256_S1024x256_0_0, k0_pay4 (F := Ideal) k v q M A⟩] : List (View.Piece (Elt Ideal) S1024x256 .f32))
      = [⟨Rect.unit ![0, 0] ![1024, 256] inb_S1024x256_S1024x256_0_0, k0_pay4 (F := Ideal) k' v' q' M' A'⟩] := by
  subst hk hv hq hM hA; rfl

/-- One store of largest scores, with equal ingredients. -/
theorem store_max {k k' : Vec Ideal S1x256x1024 .bf16} {q q' : Vec Ideal S1x1024x256 .bf16} {M M' : Vec Ideal S1024x1 .f32}
    (hk : k = k') (hq : q = q') (hM : M = M') :
    ([⟨Rect.unit ![0, 0] ![1024, 1] inb_S1024x1_S1024x1_0_0, k0_pay5 (F := Ideal) k q M⟩] : List (View.Piece (Elt Ideal) S1024x1 .f32))
      = [⟨Rect.unit ![0, 0] ![1024, 1] inb_S1024x1_S1024x1_0_0, k0_pay5 (F := Ideal) k' q' M'⟩] := by
  subst hk hq hM; rfl

/-- A load whose offsets are written in two ways. -/
theorem load_offsets {s : Shape} {e : EltTy} (X : s.Idx → Elt Ideal e) {o o' : Fin s.rank → ℕ} {sz : Fin s.rank → ℕ}
    (h : ∀ a, o a + sz a ≤ s.size a) (h' : ∀ a, o' a + sz a ≤ s.size a) (e : o = o') :
    View.ld X (Rect.unit o sz h) = View.ld X (Rect.unit o' sz h') := by
  subst e; rfl

variable (c : Dev nD) (i : grid0.Coords)
  (arg3 : Memref sig .tc .vmem S1x1024x256 .bf16) (harg3 : arg3.IsWhole)
  (arg4 : Memref sig .tc .vmem S1x256x16384 .bf16) (harg4 : arg4.IsWhole)
  (arg5 : Memref sig .tc .vmem S1x16384x256 .bf16) (harg5 : arg5.IsWhole)
  (arg6 : Memref sig .tc .vmem S16x2048 .f32) (harg6 : arg6.IsWhole)
  (arg7 : Memref sig .tc .vmem S16x5632 .f32) (harg7 : arg7.IsWhole)
  (arg8 : Memref sig .tc .vmem S16x5632 .f32) (harg8 : arg8.IsWhole)
  (arg9 : Memref sig .tc .vmem S64x2048 .f32) (harg9 : arg9.IsWhole)
  (arg10 : Memref sig .tc .vmem S1x128x7168 .f32) (harg10 : arg10.IsWhole)
  (arg11 : Memref sig .tc .vmem S1024x128 .bf16) (harg11 : arg11.IsWhole)
  (arg12 : Memref sig .tc .vmem S16x2048 .bf16) (harg12 : arg12.IsWhole)
  (arg13 : Memref sig .tc .vmem S16x5632 .bf16) (harg13 : arg13.IsWhole)
  (arg14 : Memref sig .tc .vmem S16x5632 .bf16) (harg14 : arg14.IsWhole)
  (arg15 : Memref sig .tc .vmem S64x2048 .bf16) (harg15 : arg15.IsWhole)
  (arg16 : Memref sig .tc .vmem S1x128x7168 .bf16) (harg16 : arg16.IsWhole)
  (arg17 : Memref sig .tc .vmem S1024x256 .f32) (harg17 : arg17.IsWhole)
  (arg18 : Memref sig .tc .vmem S1024x1 .f32) (harg18 : arg18.IsWhole)
  (x0 : Vec Ideal S1x1024x256 .bf16) (x1 : Vec Ideal S1x256x16384 .bf16) (x2 : Vec Ideal S1x16384x256 .bf16) (x3 : Vec Ideal S16x2048 .f32) (x4 : Vec Ideal S16x5632 .f32) (x5 : Vec Ideal S16x5632 .f32) (x6 : Vec Ideal S64x2048 .f32) (x7 : Vec Ideal S1x128x7168 .f32) (xt0 : TbBuf0 (F := Ideal) c tbM0_0)

section Plain

variable (hs : ∀ r n, dots x0 x1 r n = ((dots x0 x1 r n).toReal : EReal)) (hV : ∀ (l : Fin 256) n, 128 ≤ l.val → val x2 l n = 1)

include hs hV

/-- The plain branch. -/
theorem plain_block (hc0 : cond0_0 i (tbM0_0.view.readAt (Elt Ideal) (Rect.unit (s := S1) ![0] S1.size inb_S1_S1_0).toLoadRect xt0
    (Shape.Idx.first (numel1_S1.symm ▸ Nat.one_pos))))
    (hc1 : ¬cond0_1 i (tbM0_0.view.readAt (Elt Ideal) (Rect.unit (s := S1) ![0] S1.size inb_S1_S1_0).toLoadRect xt0
    (Shape.Idx.first (numel1_S1.symm ▸ Nat.one_pos))))
    (r : Fin 1024) (d : Fin 128) :
    out0_B_8 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xt0 hc0 hc1 (ix2 r d) = blockMean x0 x1 x2 r d := by
  frame_out
  rw [load_after_store, load_after_store]
  refine divided_eq x0 x1 x2 (M := fun _ => ((0 : ℝ) : EReal)) (fun r l => Softmax.online_zero ?_) hV r d
  simp only [← hs]
  have h1 := plain_step x0 x1 x2 0 (by decide) (by decide) (fun r l => (cleared (ix2 r l)).trans (by rw [Finset.range_zero, Finset.sum_empty]))
  have h2 := plain_step x0 x1 x2 1024 (by decide) (by decide) h1
  have h3 := plain_step x0 x1 x2 2048 (by decide) (by decide) h2
  have h4 := plain_step x0 x1 x2 3072 (by decide) (by decide) h3
  have h5 := plain_step x0 x1 x2 4096 (by decide) (by decide) h4
  have h6 := plain_step x0 x1 x2 5120 (by decide) (by decide) h5
  have h7 := plain_step x0 x1 x2 6144 (by decide) (by decide) h6
  have h8 := plain_step x0 x1 x2 7168 (by decide) (by decide) h7
  have h9 := plain_step x0 x1 x2 8192 (by decide) (by decide) h8
  have h10 := plain_step x0 x1 x2 9216 (by decide) (by decide) h9
  have h11 := plain_step x0 x1 x2 10240 (by decide) (by decide) h10
  have h12 := plain_step x0 x1 x2 11264 (by decide) (by decide) h11
  have h13 := plain_step x0 x1 x2 12288 (by decide) (by decide) h12
  have h14 := plain_step x0 x1 x2 13312 (by decide) (by decide) h13
  have h15 := plain_step x0 x1 x2 14336 (by decide) (by decide) h14
  have h16 := plain_step x0 x1 x2 15360 (by decide) (by decide) h15
  exact h16 r l

end Plain

/-- One turn of the loop: the sums it stores. -/
theorem turn_sums (k : Fin k0_t1_loop.trips) (h3 : ∀ a, (![0, 0, 1024 * k.val] : Fin 3 → ℕ) a + (![1, 256, 1024] : Fin 3 → ℕ) a ≤ S1x256x16384.size a)
    (h4 : ∀ a, (![0, 1024 * k.val, 0] : Fin 3 → ℕ) a + (![1, 1024, 256] : Fin 3 → ℕ) a ≤ S1x16384x256.size a)
    (f17 : BufTy.Contents (Elt Ideal) arg17.view.ty) (f18 : BufTy.Contents (Elt Ideal) arg18.view.ty) :
    (trip_k0_t1 (F := Ideal) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg3.unread x0) (harg4.unread x1) (harg5.unread x2) k).1 f17 f18
      = [⟨Rect.unit ![0, 0] ![1024, 256] inb_S1024x256_S1024x256_0_0,
          k0_pay4 (F := Ideal) (View.ld x1 (Rect.unit ![0, 0, 1024 * k.val] ![1, 256, 1024] h3)) (View.ld x2 (Rect.unit ![0, 1024 * k.val, 0] ![1, 1024, 256] h4))
            x0 (arg18.view.read (Elt Ideal) f18) (arg17.view.read (Elt Ideal) f17)⟩] := by
  unfold trip_k0_t1
  dsimp only
  sl_unfold_words
  simp only [View.readAt_eq_ld, Memref.IsWhole.read_unread]
  have e3 : ∀ k : Fin k0_t1_loop.trips, (![0, 0, BitVec.toNat (Scalar.indexCast (Scalar.muli (Scf.iv 0#32 1#32 k.val) 1024#32))] : Fin 3 → ℕ)
      = ![0, 0, 1024 * k.val] := by decide +kernel
  have e4 : ∀ k : Fin k0_t1_loop.trips, (![0, BitVec.toNat (Scalar.indexCast (Scalar.muli (Scf.iv 0#32 1#32 k.val) 1024#32)), 0] : Fin 3 → ℕ)
      = ![0, 1024 * k.val, 0] := by decide +kernel
  exact store_sums (load_offsets x1 _ h3 (e3 k)) (load_offsets x2 _ h4 (e4 k)) (load_queries x0) (load_max _) (load_sums _)

/-- One turn of the loop: the largest scores it stores. -/
theorem turn_max (k : Fin k0_t1_loop.trips) (h3 : ∀ a, (![0, 0, 1024 * k.val] : Fin 3 → ℕ) a + (![1, 256, 1024] : Fin 3 → ℕ) a ≤ S1x256x16384.size a)
    (f17 : BufTy.Contents (Elt Ideal) arg17.view.ty) (f18 : BufTy.Contents (Elt Ideal) arg18.view.ty) :
    (trip_k0_t1 (F := Ideal) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg3.unread x0) (harg4.unread x1) (harg5.unread x2) k).2.1 f17 f18
      = [⟨Rect.unit ![0, 0] ![1024, 1] inb_S1024x1_S1024x1_0_0,
          k0_pay5 (F := Ideal) (View.ld x1 (Rect.unit ![0, 0, 1024 * k.val] ![1, 256, 1024] h3)) x0 (arg18.view.read (Elt Ideal) f18)⟩] := by
  unfold trip_k0_t1
  dsimp only
  sl_unfold_words
  simp only [View.readAt_eq_ld, Memref.IsWhole.read_unread]
  have e3 : ∀ k : Fin k0_t1_loop.trips, (![0, 0, BitVec.toNat (Scalar.indexCast (Scalar.muli (Scf.iv 0#32 1#32 k.val) 1024#32))] : Fin 3 → ℕ)
      = ![0, 0, 1024 * k.val] := by decide +kernel
  exact store_max (load_offsets x1 _ h3 (e3 k)) (load_queries x0) (load_max _)

section Running

variable (hs : ∀ r n, dots x0 x1 r n = ((dots x0 x1 r n).toReal : EReal)) (hV : ∀ (l : Fin 256) n, 128 ≤ l.val → val x2 l n = 1)

include hs in
/-- The loop: after `k` turns the stored sums and largest scores are those of the first `1024 k` keys. -/
theorem turns (k : ℕ) (hk : k ≤ k0_t1_loop.trips) (r : Fin 1024) (l : Fin 256) :
    Softmax.Online (fun n => (dots x0 x1 r n).toReal) (val x2 l) (1024 * k)
      (View.canon ((pb_k0_t1 (F := Ideal) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg3.unread x0) (harg4.unread x1) (harg5.unread x2) (arg17.view.writes (Elt Ideal) arg17.view.junk [⟨Rect.unit ![0, 0] ![1024, 256] inb_S1024x256_S1024x256_0_0, k0_pay34 (F := Ideal)⟩])
    (arg18.view.writes (Elt Ideal) arg18.view.junk [⟨Rect.unit ![0, 0] ![1024, 1] inb_S1024x1_S1024x1_0_0, k0_pay1 (F := Ideal)⟩]) k).2 ++ [⟨Rect.unit ![0, 0] ![1024, 1] inb_S1024x1_S1024x1_0_0, k0_pay1 (F := Ideal)⟩]) (ix2 r 0))
      (View.canon ((pb_k0_t1 (F := Ideal) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg3.unread x0) (harg4.unread x1) (harg5.unread x2) (arg17.view.writes (Elt Ideal) arg17.view.junk [⟨Rect.unit ![0, 0] ![1024, 256] inb_S1024x256_S1024x256_0_0, k0_pay34 (F := Ideal)⟩])
    (arg18.view.writes (Elt Ideal) arg18.view.junk [⟨Rect.unit ![0, 0] ![1024, 1] inb_S1024x1_S1024x1_0_0, k0_pay1 (F := Ideal)⟩]) k).1 ++ [⟨Rect.unit ![0, 0] ![1024, 256] inb_S1024x256_S1024x256_0_0, k0_pay34 (F := Ideal)⟩]) (ix2 r l)) := by
  induction k generalizing r l with
  | zero =>
    refine Or.inl ⟨rfl, ?_, ?_⟩
    · exact (congrFun (canon_max (k0_pay1 (F := Ideal)) []) _).trans (first_max _)
    · exact (congrFun (canon_sums (k0_pay34 (F := Ideal)) []) _).trans (cleared _)
  | succ k ih =>
    have ht : k < k0_t1_loop.trips := hk
    have h16 : k < 16 := lt_of_lt_of_le ht k0_t1_abs.2.1
    have h3 : ∀ a, (![0, 0, 1024 * k] : Fin 3 → ℕ) a + (![1, 256, 1024] : Fin 3 → ℕ) a ≤ S1x256x16384.size a := by
      intro a; fin_cases a <;> simp [S1x256x16384] <;> omega
    have h4 : ∀ a, (![0, 1024 * k, 0] : Fin 3 → ℕ) a + (![1, 1024, 256] : Fin 3 → ℕ) a ≤ S1x16384x256.size a := by
      intro a; fin_cases a <;> simp [S1x16384x256] <;> omega
    rw [pb_k0_t1_succ (F := Ideal) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg3.unread x0) (harg4.unread x1) (harg5.unread x2) _ _ ⟨k, ht⟩]
    unfold tripL_k0_t1
    rw [turn_sums c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 ⟨k, ht⟩ h3 h4, turn_max c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 ⟨k, ht⟩ h3]
    simp only [← View.writes_append, View.read_writes_junk_eq_canon]
    have := running_step x0 x1 x2 (1024 * k) h3 h4 hs (fun r l => ih ht.le r l) r l
    simp only [List.singleton_append, List.cons_append, List.nil_append]
    rw [canon_sums, canon_max]
    exact this

include hs hV in
/-- The running branch. -/
theorem running_block (hc0 : ¬cond0_0 i (tbM0_0.view.readAt (Elt Ideal) (Rect.unit (s := S1) ![0] S1.size inb_S1_S1_0).toLoadRect xt0
    (Shape.Idx.first (numel1_S1.symm ▸ Nat.one_pos))))
    (hc1 : cond0_1 i (tbM0_0.view.readAt (Elt Ideal) (Rect.unit (s := S1) ![0] S1.size inb_S1_S1_0).toLoadRect xt0
    (Shape.Idx.first (numel1_S1.symm ▸ Nat.one_pos))))
    (r : Fin 1024) (d : Fin 128) :
    out0_C_8 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xt0 hc0 hc1 (ix2 r d) = blockMean x0 x1 x2 r d := by
  frame_out
  have h := turns c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 hs 16
  have h16 : Scf.trips (0#32) (Scalar.addi 0#32 16#32) 1#32 = 16 := by decide +kernel
  rw [load_after_stores, load_after_stores, h16]
  exact divided_eq x0 x1 x2 (M := fun r => _) (h (by decide +kernel)) hV r d

end Running

section Side

/-- The plain branch leaves weight window 3's block as it is. -/
theorem plain_side9 (hc0 : cond0_0 i (tbM0_0.view.readAt (Elt Ideal) (Rect.unit (s := S1) ![0] S1.size inb_S1_S1_0).toLoadRect xt0
    (Shape.Idx.first (numel1_S1.symm ▸ Nat.one_pos))))
    (hc1 : ¬cond0_1 i (tbM0_0.view.readAt (Elt Ideal) (Rect.unit (s := S1) ![0] S1.size inb_S1_S1_0).toLoadRect xt0
    (Shape.Idx.first (numel1_S1.symm ▸ Nat.one_pos)))) :
    out0_B_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xt0 hc0 hc1 = x3 := by
  frame_out
  rfl

/-- The plain branch leaves weight window 4's block as it is. -/
theorem plain_side10 (hc0 : cond0_0 i (tbM0_0.view.readAt (Elt Ideal) (Rect.unit (s := S1) ![0] S1.size inb_S1_S1_0).toLoadRect xt0
    (Shape.Idx.first (numel1_S1.symm ▸ Nat.one_pos))))
    (hc1 : ¬cond0_1 i (tbM0_0.view.readAt (Elt Ideal) (Rect.unit (s := S1) ![0] S1.size inb_S1_S1_0).toLoadRect xt0
    (Shape.Idx.first (numel1_S1.symm ▸ Nat.one_pos)))) :
    out0_B_10 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xt0 hc0 hc1 = x4 := by
  frame_out
  rfl

/-- The plain branch leaves weight window 5's block as it is. -/
theorem plain_side11 (hc0 : cond0_0 i (tbM0_0.view.readAt (Elt Ideal) (Rect.unit (s := S1) ![0] S1.size inb_S1_S1_0).toLoadRect xt0
    (Shape.Idx.first (numel1_S1.symm ▸ Nat.one_pos))))
    (hc1 : ¬cond0_1 i (tbM0_0.view.readAt (Elt Ideal) (Rect.unit (s := S1) ![0] S1.size inb_S1_S1_0).toLoadRect xt0
    (Shape.Idx.first (numel1_S1.symm ▸ Nat.one_pos)))) :
    out0_B_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xt0 hc0 hc1 = x5 := by
  frame_out
  rfl

/-- The plain branch leaves weight window 6's block as it is. -/
theorem plain_side12 (hc0 : cond0_0 i (tbM0_0.view.readAt (Elt Ideal) (Rect.unit (s := S1) ![0] S1.size inb_S1_S1_0).toLoadRect xt0
    (Shape.Idx.first (numel1_S1.symm ▸ Nat.one_pos))))
    (hc1 : ¬cond0_1 i (tbM0_0.view.readAt (Elt Ideal) (Rect.unit (s := S1) ![0] S1.size inb_S1_S1_0).toLoadRect xt0
    (Shape.Idx.first (numel1_S1.symm ▸ Nat.one_pos)))) :
    out0_B_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xt0 hc0 hc1 = x6 := by
  frame_out
  rfl

/-- The plain branch leaves weight window 7's block as it is. -/
theorem plain_side13 (hc0 : cond0_0 i (tbM0_0.view.readAt (Elt Ideal) (Rect.unit (s := S1) ![0] S1.size inb_S1_S1_0).toLoadRect xt0
    (Shape.Idx.first (numel1_S1.symm ▸ Nat.one_pos))))
    (hc1 : ¬cond0_1 i (tbM0_0.view.readAt (Elt Ideal) (Rect.unit (s := S1) ![0] S1.size inb_S1_S1_0).toLoadRect xt0
    (Shape.Idx.first (numel1_S1.symm ▸ Nat.one_pos)))) :
    out0_B_13 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xt0 hc0 hc1 = x7 := by
  frame_out
  rfl

/-- The running branch leaves weight window 3's block as it is. -/
theorem running_side9 (hc0 : ¬cond0_0 i (tbM0_0.view.readAt (Elt Ideal) (Rect.unit (s := S1) ![0] S1.size inb_S1_S1_0).toLoadRect xt0
    (Shape.Idx.first (numel1_S1.symm ▸ Nat.one_pos))))
    (hc1 : cond0_1 i (tbM0_0.view.readAt (Elt Ideal) (Rect.unit (s := S1) ![0] S1.size inb_S1_S1_0).toLoadRect xt0
    (Shape.Idx.first (numel1_S1.symm ▸ Nat.one_pos)))) :
    out0_C_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xt0 hc0 hc1 = x3 := by
  frame_out
  rfl

/-- The running branch leaves weight window 4's block as it is. -/
theorem running_side10 (hc0 : ¬cond0_0 i (tbM0_0.view.readAt (Elt Ideal) (Rect.unit (s := S1) ![0] S1.size inb_S1_S1_0).toLoadRect xt0
    (Shape.Idx.first (numel1_S1.symm ▸ Nat.one_pos))))
    (hc1 : cond0_1 i (tbM0_0.view.readAt (Elt Ideal) (Rect.unit (s := S1) ![0] S1.size inb_S1_S1_0).toLoadRect xt0
    (Shape.Idx.first (numel1_S1.symm ▸ Nat.one_pos)))) :
    out0_C_10 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xt0 hc0 hc1 = x4 := by
  frame_out
  rfl

/-- The running branch leaves weight window 5's block as it is. -/
theorem running_side11 (hc0 : ¬cond0_0 i (tbM0_0.view.readAt (Elt Ideal) (Rect.unit (s := S1) ![0] S1.size inb_S1_S1_0).toLoadRect xt0
    (Shape.Idx.first (numel1_S1.symm ▸ Nat.one_pos))))
    (hc1 : cond0_1 i (tbM0_0.view.readAt (Elt Ideal) (Rect.unit (s := S1) ![0] S1.size inb_S1_S1_0).toLoadRect xt0
    (Shape.Idx.first (numel1_S1.symm ▸ Nat.one_pos)))) :
    out0_C_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xt0 hc0 hc1 = x5 := by
  frame_out
  rfl

/-- The running branch leaves weight window 6's block as it is. -/
theorem running_side12 (hc0 : ¬cond0_0 i (tbM0_0.view.readAt (Elt Ideal) (Rect.unit (s := S1) ![0] S1.size inb_S1_S1_0).toLoadRect xt0
    (Shape.Idx.first (numel1_S1.symm ▸ Nat.one_pos))))
    (hc1 : cond0_1 i (tbM0_0.view.readAt (Elt Ideal) (Rect.unit (s := S1) ![0] S1.size inb_S1_S1_0).toLoadRect xt0
    (Shape.Idx.first (numel1_S1.symm ▸ Nat.one_pos)))) :
    out0_C_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xt0 hc0 hc1 = x6 := by
  frame_out
  rfl

/-- The running branch leaves weight window 7's block as it is. -/
theorem running_side13 (hc0 : ¬cond0_0 i (tbM0_0.view.readAt (Elt Ideal) (Rect.unit (s := S1) ![0] S1.size inb_S1_S1_0).toLoadRect xt0
    (Shape.Idx.first (numel1_S1.symm ▸ Nat.one_pos))))
    (hc1 : cond0_1 i (tbM0_0.view.readAt (Elt Ideal) (Rect.unit (s := S1) ![0] S1.size inb_S1_S1_0).toLoadRect xt0
    (Shape.Idx.first (numel1_S1.symm ▸ Nat.one_pos)))) :
    out0_C_13 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xt0 hc0 hc1 = x7 := by
  frame_out
  rfl

end Side

end Cert.Attention
end
-- ==== Proof.AttentionSpec.lean ====
/- What the attention call computes, written once for both programs.

   `q` are the queries `[head, query, lane]`, `k` the transposed keys `[head, lane, key]`, `v` the values `[head, key, lane]`. The
   score of a query and a key is their product over the 192 lanes that carry data; the result for a query is the mean of the
   values with weights `2^score`, normalised over all 16384 keys (`Cert.Softmax.mean`). The result array has one row per query
   and the heads side by side, 128 columns each. -/
module

public import proofs.«01_k».proof.Proof.Softmax
public import Idealize.ShloMosaic.PureOps.Ideal
public import Idealize.ShloMosaic.Lib.ValueIdx
public import Idealize.ShloMosaic.Lib.Pointwise

@[expose] public section

noncomputable section

namespace Cert.Attention

open Idealize.ShloMosaic

/-- `[head, row, lane]`: the queries and the values. -/
abbrev Rows : Type := Shape.Idx ⟨3, ![8, 16384, 256]⟩ → EReal
/-- `[head, lane, key]`: the keys, transposed. -/
abbrev Cols : Type := Shape.Idx ⟨3, ![8, 256, 16384]⟩ → EReal

/-- Lane `l < 192` of 256. -/
abbrev lane192 (l : Fin 192) : Fin 256 := ⟨l.val, by omega⟩
/-- Lane `d < 128` of 256. -/
abbrev lane128 (d : Fin 128) : Fin 256 := ⟨d.val, by omega⟩

/-- The score of query `i` and key `j` in head `h`. -/
def score (q : Rows) (k : Cols) (h : Fin 8) (i j : Fin 16384) : EReal :=
  ∑ l : Fin 192, q (ix3 h i (lane192 l)) * k (ix3 h (lane192 l) j)

/-- Head `h`, query `i`, lane `d` of the attention. -/
def head (q : Rows) (k : Cols) (v : Rows) (h : Fin 8) (i : Fin 16384) (d : Fin 128) : EReal :=
  Softmax.mean (fun j => (score q k h i j).toReal) (fun j => v (ix3 h j (lane128 d)))

/-- The result array: row `i`, the heads side by side. -/
def result (q : Rows) (k : Cols) (v : Rows) : Shape.Idx ⟨2, ![16384, 1024]⟩ → EReal := fun y =>
  head q k v ⟨(y 1).val / 128, by have h : (y 1).val < 1024 := (y 1).isLt; omega⟩ ⟨(y 0).val, (y 0).isLt⟩
    ⟨(y 1).val % 128, Nat.mod_lt _ (by decide)⟩

/-- What the arguments are asked to be: the queries and keys finite, the queries' lanes from 192 on zero, and the values' lanes
    from 128 on one. -/
structure Prepared (q : Rows) (k : Cols) (v : Rows) : Prop where
  q_fin : ∀ i, ∃ r : ℝ, q i = (r : EReal)
  k_fin : ∀ i, ∃ r : ℝ, k i = (r : EReal)
  q_pad : ∀ (h : Fin 8) (i : Fin 16384) (l : Fin 256), 192 ≤ l.val → q (ix3 h i l) = 0
  v_pad : ∀ (h : Fin 8) (j : Fin 16384) (l : Fin 256), 128 ≤ l.val → v (ix3 h j l) = 1

variable {q : Rows} {k : Cols} {v : Rows}

/-- The scores are real. -/
theorem Prepared.score_real (P : Prepared q k v) (h : Fin 8) (i j : Fin 16384) :
    score q k h i j = ((score q k h i j).toReal : EReal) := by
  choose a ha using P.q_fin
  choose b hb using P.k_fin
  have e : score q k h i j = ((∑ l : Fin 192, a (ix3 h i (lane192 l)) * b (ix3 h (lane192 l) j) : ℝ) : EReal) := by
    unfold score
    simp only [ha, hb, ← EReal.coe_mul]
    rw [Softmax.coe_sum]
  rw [e, EReal.toReal_coe]

/-- The sum over all 256 lanes is the score: the queries' last 64 lanes are zero. -/
theorem Prepared.sum_lanes (P : Prepared q k v) (h : Fin 8) (i j : Fin 16384) :
    ∑ l : Fin 256, q (ix3 h i l) * k (ix3 h l j) = score q k h i j := by
  rw [show (∑ l : Fin 256, q (ix3 h i l) * k (ix3 h l j))
      = ∑ l : Fin (192 + 64), q (ix3 h i ⟨l.val, l.isLt⟩) * k (ix3 h ⟨l.val, l.isLt⟩ j) from rfl, Fin.sum_univ_add]
  have z : ∑ l : Fin 64, q (ix3 h i ⟨(Fin.natAdd 192 l).val, (Fin.natAdd 192 l).isLt⟩)
      * k (ix3 h ⟨(Fin.natAdd 192 l).val, (Fin.natAdd 192 l).isLt⟩ j) = 0 :=
    Finset.sum_eq_zero fun l _ => by rw [P.q_pad h i _ (by simp), zero_mul]
  rw [z, add_zero]
  rfl

end Cert.Attention

end
-- ==== Proof.AttentionArray.lean ====
/- What the attention call's six result arrays hold after the run: the attention itself, and the five weight arrays unchanged in
   value (the call rounds them to a smaller type on the side, which over the ideal numbers is the identity). -/
module

public import proofs.«01_k».proof.Proof.AttentionValue
public import proofs.«01_k».proof.Proof.AttentionSpec

@[expose] public section

noncomputable section

namespace Cert.Attention
open Idealize.ShloMosaic Idealize.ShloMosaic.TcCoe Idealize.SL.Sem Cert.AttnIdeal Cert.AttnIdeal.Gen

set_option maxRecDepth 16384

/-! ## One block against the specification -/

/-- The block's mean is the specification's, when its queries are rows `o, o + 1, …` of head `h` and its keys and values the
    head's. -/
theorem blockMean_eq {q : Rows} {k : Cols} {v : Rows} (P : Prepared q k v) (h : Fin 8) (row : Fin 1024 → Fin 16384)
    {Q : Vec Ideal S1x1024x256 .bf16} {K : Vec Ideal S1x256x16384 .bf16} {V : Vec Ideal S1x16384x256 .bf16}
    (hQ : ∀ r l, Q (ix3 0 r l) = q (ix3 h (row r) l)) (hK : ∀ l n, K (ix3 0 l n) = k (ix3 h l n))
    (hV : ∀ n l, V (ix3 0 n l) = v (ix3 h n l)) :
    (∀ r n, dots Q K r n = ((dots Q K r n).toReal : EReal)) ∧ (∀ (l : Fin 256) n, 128 ≤ l.val → val V l n = 1)
      ∧ ∀ r d, blockMean Q K V r d = head q k v h (row r) d := by
  have hd : ∀ r n, dots Q K r n = score q k h (row r) (col n) := fun r n => by
    unfold dots
    simp only [hQ, hK]
    exact P.sum_lanes h (row r) (col n)
  refine ⟨fun r n => ?_, fun l n hl => ?_, fun r d => ?_⟩
  · rw [hd]
    exact P.score_real _ _ _
  · exact (hV _ _).trans (P.v_pad _ _ _ hl)
  · unfold blockMean head
    simp only [hd, col_val]
    congr 1
    funext j
    exact (congrArg (fun n => V (ix3 0 n _)) (col_val j)).trans (hV _ _)

/-! ## Where the blocks lie -/

theorem index0 : ∀ t : Fin grid0.N, cc0_transform_0 (grid0.coords t) = ![t.val / 16, t.val % 16, 0] := by decide +kernel
theorem index1 : ∀ t : Fin grid0.N, cc0_transform_1 (grid0.coords t) = ![t.val / 16, 0, 0] := by decide +kernel
theorem index2 : ∀ t : Fin grid0.N, cc0_transform_2 (grid0.coords t) = ![t.val / 16, 0, 0] := by decide +kernel
theorem index8 : ∀ t : Fin grid0.N, cc0_transform_8 (grid0.coords t) = ![t.val % 16, t.val / 16] := by decide +kernel
theorem index3 : ∀ t : Fin grid0.N, cc0_transform_3 (grid0.coords t) = cc0_transform_9 (grid0.coords t) := by decide +kernel
theorem index4 : ∀ t : Fin grid0.N, cc0_transform_4 (grid0.coords t) = cc0_transform_10 (grid0.coords t) := by decide +kernel
theorem index5 : ∀ t : Fin grid0.N, cc0_transform_5 (grid0.coords t) = cc0_transform_11 (grid0.coords t) := by decide +kernel
theorem index6 : ∀ t : Fin grid0.N, cc0_transform_6 (grid0.coords t) = cc0_transform_12 (grid0.coords t) := by decide +kernel
theorem index7 : ∀ t : Fin grid0.N, cc0_transform_7 (grid0.coords t) = cc0_transform_13 (grid0.coords t) := by decide +kernel

section Covers
variable (a : (pcfg0 (F := Ideal)).Adm)

theorem covers8 : ((cfg0 a).win 8).Covers := of_decide_eq_true (by sl_kernel_rfl)
theorem covers9 : ((cfg0 a).win 9).Covers := of_decide_eq_true (by sl_kernel_rfl)
theorem covers10 : ((cfg0 a).win 10).Covers := of_decide_eq_true (by sl_kernel_rfl)
theorem covers11 : ((cfg0 a).win 11).Covers := of_decide_eq_true (by sl_kernel_rfl)
theorem covers12 : ((cfg0 a).win 12).Covers := of_decide_eq_true (by sl_kernel_rfl)
theorem covers13 : ((cfg0 a).win 13).Covers := of_decide_eq_true (by sl_kernel_rfl)
end Covers

variable (m : (ℓ : Loc nD τ sig) → Buf (Elt Ideal) ℓ) (hO : Ok m) (c : Dev nD)

theorem point_lt (t : Fin (cfgM m hO).N) : t.val < 128 := t.isLt

/-- The head of a point. -/
def headOf (t : Fin (cfgM m hO).N) : Fin 8 := ⟨t.val / 16, by have := point_lt m hO t; omega⟩
/-- The query of row `r` of a point's block. -/
def rowOf (t : Fin (cfgM m hO).N) (r : Fin 1024) : Fin 16384 := ⟨t.val % 16 * 1024 + r.val, by have := r.isLt; omega⟩

theorem queries (t : Fin (cfgM m hO).N) (r : Fin 1024) (l : Fin 256) :
    iblk m hO c 0 t (ix3 0 r l) = V m c main_arg1 (ix3 (headOf m hO t) (rowOf m hO t r) l) := by
  blk_ext [iblk, headOf, rowOf]
  · exact congrFun (index0 t) 0
  · exact congrArg (· * 1024 + r.val) (congrFun (index0 t) 1)
  · exact (congrArg (· * 256 + l.val) (congrFun (index0 t) 2)).trans (by simp)

theorem keys (t : Fin (cfgM m hO).N) (l : Fin 256) (n : Fin 16384) :
    iblk m hO c 1 t (ix3 0 l n) = V m c main_arg2 (ix3 (headOf m hO t) l n) := by
  blk_ext [iblk, headOf]
  · exact congrFun (index1 t) 0
  · exact (congrArg (· * 256 + l.val) (congrFun (index1 t) 1)).trans (by simp)
  · exact (congrArg (· * 16384 + n.val) (congrFun (index1 t) 2)).trans (by simp)

theorem values (t : Fin (cfgM m hO).N) (n : Fin 16384) (l : Fin 256) :
    iblk m hO c 2 t (ix3 0 n l) = V m c main_arg3 (ix3 (headOf m hO t) n l) := by
  blk_ext [iblk, headOf]
  · exact congrFun (index2 t) 0
  · exact (congrArg (· * 16384 + n.val) (congrFun (index2 t) 1)).trans (by simp)
  · exact (congrArg (· * 256 + l.val) (congrFun (index2 t) 2)).trans (by simp)

theorem place8 (t : Fin (cfgM m hO).N) (r : Fin 1024) (d : Fin 128) :
    (((cfgM m hO).win 8).blk t).view.emb (ix2 r d)
      = ix2 (rowOf m hO t r) ⟨(headOf m hO t).val * 128 + d.val, by have := (headOf m hO t).isLt; have := d.isLt; omega⟩ := by
  blk_ext [rowOf, headOf]
  · exact congrArg (· * 1024 + r.val) (congrFun (index8 t) 0)
  · exact congrArg (· * 128 + d.val) (congrFun (index8 t) 1)

theorem side9 (t : Fin (cfgM m hO).N) (y : S16x2048.Idx) :
    iblk m hO c 3 t y = V m c main_arg4 ((((cfgM m hO).win 9).blk t).view.emb y) := by
  idx_vars y
  blk_ext [iblk]
  · exact congrArg (· * 16 + y0.val) (congrFun (index3 t) 0)
  · exact congrArg (· * 2048 + y1.val) (congrFun (index3 t) 1)

theorem side10 (t : Fin (cfgM m hO).N) (y : S16x5632.Idx) :
    iblk m hO c 4 t y = V m c main_arg5 ((((cfgM m hO).win 10).blk t).view.emb y) := by
  idx_vars y
  blk_ext [iblk]
  · exact congrArg (· * 16 + y0.val) (congrFun (index4 t) 0)
  · exact congrArg (· * 5632 + y1.val) (congrFun (index4 t) 1)

theorem side11 (t : Fin (cfgM m hO).N) (y : S16x5632.Idx) :
    iblk m hO c 5 t y = V m c main_arg6 ((((cfgM m hO).win 11).blk t).view.emb y) := by
  idx_vars y
  blk_ext [iblk]
  · exact congrArg (· * 16 + y0.val) (congrFun (index5 t) 0)
  · exact congrArg (· * 5632 + y1.val) (congrFun (index5 t) 1)

theorem side12 (t : Fin (cfgM m hO).N) (y : S64x2048.Idx) :
    iblk m hO c 6 t y = V m c main_arg7 ((((cfgM m hO).win 12).blk t).view.emb y) := by
  idx_vars y
  blk_ext [iblk]
  · exact congrArg (· * 64 + y0.val) (congrFun (index6 t) 0)
  · exact congrArg (· * 2048 + y1.val) (congrFun (index6 t) 1)

theorem side13 (t : Fin (cfgM m hO).N) (y : S1x128x7168.Idx) :
    iblk m hO c 7 t y = V m c main_arg8 ((((cfgM m hO).win 13).blk t).view.emb y) := by
  idx_vars y
  blk_ext [iblk]
  · exact congrFun (index7 t) 0
  · exact congrArg (· * 128 + y1.val) (congrFun (index7 t) 1)
  · exact congrArg (· * 7168 + y2.val) (congrFun (index7 t) 2)

/-! ## What every point leaves in the six result windows -/

variable {c}

/-- The result `result`, at the place of a block's entry. -/
theorem result_at (q : Rows) (k : Cols) (v : Rows) (h : Fin 8) (i : Fin 16384) (d : Fin 128) :
    result q k v (ix2 i ⟨h.val * 128 + d.val, by have := h.isLt; have := d.isLt; omega⟩) = head q k v h i d := by
  have hh := h.isLt
  have hd := d.isLt
  have e1 : (h.val * 128 + d.val) / 128 = h.val := by omega
  have e2 : (h.val * 128 + d.val) % 128 = d.val := by omega
  show head q k v ⟨(h.val * 128 + d.val) / 128, _⟩ ⟨i.val, _⟩ ⟨(h.val * 128 + d.val) % 128, _⟩ = _
  congr 1
  · exact Fin.ext e1
  · exact Fin.ext e2

theorem chosen_plain (i : grid0.Coords) {w : BitVec 32} (h : w = 1#32) : cond0_0 i w ∧ ¬cond0_1 i w := by
  subst h
  unfold cond0_0 cond0_1
  decide

theorem chosen_running (i : grid0.Coords) {w : BitVec 32} (h : w ≠ 1#32) : ¬cond0_0 i w ∧ cond0_1 i w := by
  have e : IntOp.cmpi .eq w 1#32 = 0#1 := by
    show BitVec.ofBool (w == 1#32) = 0#1
    rw [beq_eq_false_iff_ne.mpr h]
    rfl
  have e' : IntOp.cmpi .ne w 1#32 = 1#1 := by
    show BitVec.ofBool (w != 1#32) = 1#1
    rw [bne_iff_ne.mpr h]
    rfl
  simp only [cond0_0, cond0_1, Scalar.cmpi, Scalar.extui, e, e']
  decide

/-- Both branches, at one point: the attention's block. -/
theorem outs_attention (P : Prepared (V m c main_arg1) (V m c main_arg2) (V m c main_arg3)) (t : Fin (cfgM m hO).N) (r : Fin 1024)
    (d : Fin 128) : (outsAt0 m hO c t).1 (ix2 r d)
      = head (V m c main_arg1) (V m c main_arg2) (V m c main_arg3) (headOf m hO t) (rowOf m hO t r) d := by
  obtain ⟨hs, h1, hb⟩ := blockMean_eq P (headOf m hO t) (rowOf m hO t) (queries m hO c t) (keys m hO c t) (values m hO c t)
  by_cases hw : (tbM0_0.view.readAt (Elt Ideal) (Rect.unit (s := S1) ![0] S1.size inb_S1_S1_0).toLoadRect (tbl m 0)
      (Shape.Idx.first (numel1_S1.symm ▸ Nat.one_pos))) = 1#32
  · have hc := chosen_plain (grid0.coords t) hw
    have e := congrArg Prod.fst (outsAt0_B m hO c t hc.1 hc.2)
    have h8 := (plain_block c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _)
      (iblk m hO c 0 t) (iblk m hO c 1 t) (iblk m hO c 2 t) (iblk m hO c 3 t) (iblk m hO c 4 t) (iblk m hO c 5 t) (iblk m hO c 6 t) (iblk m hO c 7 t) (tbl m 0) hs h1 hc.1 hc.2 r d).trans (hb r d)
    have e' := congrFun e (ix2 r d)
    dsimp only at e'
    exact e'.trans h8
  · have hc := chosen_running (grid0.coords t) hw
    have e := congrArg Prod.fst (outsAt0_C m hO c t hc.1 hc.2)
    have h8 := (running_block c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _)
      (iblk m hO c 0 t) (iblk m hO c 1 t) (iblk m hO c 2 t) (iblk m hO c 3 t) (iblk m hO c 4 t) (iblk m hO c 5 t) (iblk m hO c 6 t) (iblk m hO c 7 t) (tbl m 0) hs h1 hc.1 hc.2 r d).trans (hb r d)
    have e' := congrFun e (ix2 r d)
    dsimp only at e'
    exact e'.trans h8

/-- Both branches, at one point: the weights' blocks. -/
theorem outs_weights (t : Fin (cfgM m hO).N) :
    (outsAt0 m hO c t).2 = (iblk m hO c 3 t, iblk m hO c 4 t, iblk m hO c 5 t, iblk m hO c 6 t, iblk m hO c 7 t) := by
  by_cases hw : (tbM0_0.view.readAt (Elt Ideal) (Rect.unit (s := S1) ![0] S1.size inb_S1_S1_0).toLoadRect (tbl m 0)
      (Shape.Idx.first (numel1_S1.symm ▸ Nat.one_pos))) = 1#32
  · have hc := chosen_plain (grid0.coords t) hw
    have e := congrArg Prod.snd (outsAt0_B m hO c t hc.1 hc.2)
    dsimp only at e
    have h9 := plain_side9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _)
      (iblk m hO c 0 t) (iblk m hO c 1 t) (iblk m hO c 2 t) (iblk m hO c 3 t) (iblk m hO c 4 t) (iblk m hO c 5 t) (iblk m hO c 6 t) (iblk m hO c 7 t) (tbl m 0) hc.1 hc.2
    have h10 := plain_side10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _)
      (iblk m hO c 0 t) (iblk m hO c 1 t) (iblk m hO c 2 t) (iblk m hO c 3 t) (iblk m hO c 4 t) (iblk m hO c 5 t) (iblk m hO c 6 t) (iblk m hO c 7 t) (tbl m 0) hc.1 hc.2
    have h11 := plain_side11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _)
      (iblk m hO c 0 t) (iblk m hO c 1 t) (iblk m hO c 2 t) (iblk m hO c 3 t) (iblk m hO c 4 t) (iblk m hO c 5 t) (iblk m hO c 6 t) (iblk m hO c 7 t) (tbl m 0) hc.1 hc.2
    have h12 := plain_side12 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _)
      (iblk m hO c 0 t) (iblk m hO c 1 t) (iblk m hO c 2 t) (iblk m hO c 3 t) (iblk m hO c 4 t) (iblk m hO c 5 t) (iblk m hO c 6 t) (iblk m hO c 7 t) (tbl m 0) hc.1 hc.2
    have h13 := plain_side13 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _)
      (iblk m hO c 0 t) (iblk m hO c 1 t) (iblk m hO c 2 t) (iblk m hO c 3 t) (iblk m hO c 4 t) (iblk m hO c 5 t) (iblk m hO c 6 t) (iblk m hO c 7 t) (tbl m 0) hc.1 hc.2
    exact e.trans (congr (congrArg Prod.mk h9) (congr (congrArg Prod.mk h10) (congr (congrArg Prod.mk h11) (congr (congrArg Prod.mk h12) h13))))
  · have hc := chosen_running (grid0.coords t) hw
    have e := congrArg Prod.snd (outsAt0_C m hO c t hc.1 hc.2)
    dsimp only at e
    have h9 := running_side9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _)
      (iblk m hO c 0 t) (iblk m hO c 1 t) (iblk m hO c 2 t) (iblk m hO c 3 t) (iblk m hO c 4 t) (iblk m hO c 5 t) (iblk m hO c 6 t) (iblk m hO c 7 t) (tbl m 0) hc.1 hc.2
    have h10 := running_side10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _)
      (iblk m hO c 0 t) (iblk m hO c 1 t) (iblk m hO c 2 t) (iblk m hO c 3 t) (iblk m hO c 4 t) (iblk m hO c 5 t) (iblk m hO c 6 t) (iblk m hO c 7 t) (tbl m 0) hc.1 hc.2
    have h11 := running_side11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _)
      (iblk m hO c 0 t) (iblk m hO c 1 t) (iblk m hO c 2 t) (iblk m hO c 3 t) (iblk m hO c 4 t) (iblk m hO c 5 t) (iblk m hO c 6 t) (iblk m hO c 7 t) (tbl m 0) hc.1 hc.2
    have h12 := running_side12 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _)
      (iblk m hO c 0 t) (iblk m hO c 1 t) (iblk m hO c 2 t) (iblk m hO c 3 t) (iblk m hO c 4 t) (iblk m hO c 5 t) (iblk m hO c 6 t) (iblk m hO c 7 t) (tbl m 0) hc.1 hc.2
    have h13 := running_side13 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _)
      (iblk m hO c 0 t) (iblk m hO c 1 t) (iblk m hO c 2 t) (iblk m hO c 3 t) (iblk m hO c 4 t) (iblk m hO c 5 t) (iblk m hO c 6 t) (iblk m hO c 7 t) (tbl m 0) hc.1 hc.2
    exact e.trans (congr (congrArg Prod.mk h9) (congr (congrArg Prod.mk h10) (congr (congrArg Prod.mk h11) (congr (congrArg Prod.mk h12) h13))))

/-! ## The arrays -/

/-- The first result: the attention. -/
theorem final8 (P : Prepared (V m c main_arg1) (V m c main_arg2) (V m c main_arg3)) :
    (dats m hO 0 c).arrAt 8 (cfgM m hO).N = result (V m c main_arg1) (V m c main_arg2) (V m c main_arg3) := by
  refine (dats m hO 0 c).arrAt_eq_of_covers 8 _ (covers8 _) fun t hf y => ?_
  blk_simp
  rw [after0_8]
  obtain ⟨r, d, rfl⟩ : ∃ r d, y = ix2 r d := ⟨_, _, eq_ix2 y⟩
  rw [place8]
  exact (outs_attention m hO P t r d).trans (result_at _ _ _ _ _ _).symm

/-- Result 1: argument 4, the same numbers. -/
theorem final9 :
    (dats m hO 0 c).arrAt 9 (cfgM m hO).N = V m c main_arg4 := by
  refine (dats m hO 0 c).arrAt_eq_of_covers 9 _ (covers9 _) fun t hf y => ?_
  blk_simp
  rw [after0_9]
  exact (congrFun (congrArg (fun p : _ × _ × _ × _ × _ => p.1) (outs_weights m hO (c := c) t)) y).trans (side9 m hO c t y)

/-- Result 2: argument 5, the same numbers. -/
theorem final10 :
    (dats m hO 0 c).arrAt 10 (cfgM m hO).N = V m c main_arg5 := by
  refine (dats m hO 0 c).arrAt_eq_of_covers 10 _ (covers10 _) fun t hf y => ?_
  blk_simp
  rw [after0_10]
  exact (congrFun (congrArg (fun p : _ × _ × _ × _ × _ => p.2.1) (outs_weights m hO (c := c) t)) y).trans (side10 m hO c t y)

/-- Result 3: argument 6, the same numbers. -/
theorem final11 :
    (dats m hO 0 c).arrAt 11 (cfgM m hO).N = V m c main_arg6 := by
  refine (dats m hO 0 c).arrAt_eq_of_covers 11 _ (covers11 _) fun t hf y => ?_
  blk_simp
  rw [after0_11]
  exact (congrFun (congrArg (fun p : _ × _ × _ × _ × _ => p.2.2.1) (outs_weights m hO (c := c) t)) y).trans (side11 m hO c t y)

/-- Result 4: argument 7, the same numbers. -/
theorem final12 :
    (dats m hO 0 c).arrAt 12 (cfgM m hO).N = V m c main_arg7 := by
  refine (dats m hO 0 c).arrAt_eq_of_covers 12 _ (covers12 _) fun t hf y => ?_
  blk_simp
  rw [after0_12]
  exact (congrFun (congrArg (fun p : _ × _ × _ × _ × _ => p.2.2.2.1) (outs_weights m hO (c := c) t)) y).trans (side12 m hO c t y)

/-- Result 5: argument 8, the same numbers. -/
theorem final13 :
    (dats m hO 0 c).arrAt 13 (cfgM m hO).N = V m c main_arg8 := by
  refine (dats m hO 0 c).arrAt_eq_of_covers 13 _ (covers13 _) fun t hf y => ?_
  blk_simp
  rw [after0_13]
  exact (congrFun (congrArg (fun p : _ × _ × _ × _ × _ => p.2.2.2.2) (outs_weights m hO (c := c) t)) y).trans (side13 m hO c t y)

end Cert.Attention
end
-- ==== Proof.AttentionPrepared.lean ====
/- What the precondition says of the attention's arguments: read off its four tests over all elements. -/
module

public import proofs.«01_k».proof.Pre_prepared
public import proofs.«01_k».proof.Proof.Gen.Pre_prepared
public import proofs.«01_k».proof.Proof.AttentionSpec
public import Idealize.ShloMosaic.Lib.ReduceAll
public import Idealize.ShloMosaic.Lib.Pointwise

@[expose] public section

noncomputable section

namespace Cert.Attention
open Idealize.ShloMosaic Cert.Pre_prepared

/-- A number whose absolute value is below infinity is real. -/
theorem real_of_abs (x : EReal) (h : max x (-x) < (⊤ : EReal)) : ∃ r : ℝ, x = (r : EReal) := by
  induction x with
  | bot => exact absurd h (by simp)
  | top => exact absurd h (by simp)
  | coe r => exact ⟨r, rfl⟩

/-- A comparison that answers one holds. -/
theorem of_ofBool {b : Bool} (h : BitVec.ofBool b = 1#1) : b = true := by cases b <;> simp_all

instance : Subsingleton S_.Idx := ⟨fun a b => funext fun d => d.elim0⟩

/-- The precondition, element by element. -/
theorem prepared_of [Facts] (a0 : IVec S1 32) (q : FVec Ideal S8x16384x256 .bf16) (k : FVec Ideal S8x256x16384 .bf16)
    (v : FVec Ideal S8x16384x256 .bf16) (a4 : FVec Ideal S2048x2048 .f32) (a5 a6 : FVec Ideal S2048x5632 .f32)
    (a7 : FVec Ideal S5632x2048 .f32) (a8 : FVec Ideal S8x2048x7168 .f32) (j : S_.Idx)
    (h : fn (F := Ideal) a0 q k v a4 a5 a6 a7 a8 j = 1#1) : Prepared q k v := by
  obtain ⟨h, h4⟩ := IntOp.andi_eq_one.1 h
  obtain ⟨h, h3⟩ := IntOp.andi_eq_one.1 h
  obtain ⟨h1, h2⟩ := IntOp.andi_eq_one.1 h
  have e1 := Host.reduce_andi_all _ _ _ _ j h1
  have e2 := Host.reduce_andi_all _ _ _ _ j h2
  have e3 := Host.reduce_andi_all _ _ _ _ j h3
  have e4 := Host.reduce_andi_all _ _ _ _ j h4
  refine ⟨fun i => real_of_abs _ ?_, fun i => real_of_abs _ ?_, fun a b l hl => ?_, fun a b l hl => ?_⟩
  · exact (of_decide_eq_true (of_ofBool (e1 i))).trans_le le_top
  · exact (of_decide_eq_true (of_ofBool (e2 i))).trans_le le_top
  · have e := of_decide_eq_true (of_ofBool (e3 (ix3 a b ⟨l.val - 192, by omega⟩)))
    have e' : q (ix3 a b l) = Ideal.ofBits .f32 0x00000000#32 := by
      refine Eq.trans (congrArg q ?_) e
      funext d
      fin_cases d
      · exact Fin.ext (by simp [ix3])
      · exact Fin.ext (by simp [ix3])
      · exact Fin.ext (by show l.val = 192 + (l.val - 192); omega)
    rw [e']
    simp [Ideal.ofBits, Ideal.ieee]
  · have e := of_decide_eq_true (of_ofBool (e4 (ix3 a b ⟨l.val - 128, by omega⟩)))
    have e' : v (ix3 a b l) = Ideal.ofBits .f32 0x3F800000#32 := by
      refine Eq.trans (congrArg v ?_) e
      funext d
      fin_cases d
      · exact Fin.ext (by simp [ix3])
      · exact Fin.ext (by simp [ix3])
      · exact Fin.ext (by show l.val = 128 + (l.val - 128); omega)
    rw [e']
    simp [Ideal.ofBits, Ideal.ieee]
    rw [← EReal.coe_mul]
    norm_num

end Cert.Attention
end
-- ==== Proof.AttentionReference.lean ====
/- What the reference's attention program computes: its result array is `Cert.Attention.result` of its arguments. -/
module

public import proofs.«01_k».proof.Proof.AttentionSpec
public import proofs.«01_k».proof.Proof.Gen.AttnRefIdeal.Read

@[expose] public section

noncomputable section

namespace Cert.Attention

open Idealize.ShloMosaic Cert.AttnRefIdeal Cert.AttnRefIdeal.Gen Cert.AttnRefIdeal.Read

/-- The largest element of an array along its last axis, folded from −∞, is real when every element is. -/
theorem reduce_max_real {a b n : ℕ} [NeZero n] (x : Shape.Idx ⟨3, ![a, b, n]⟩ → EReal) (hx : ∀ i, ∃ r : ℝ, x i = (r : EReal))
    {u : Shape} (init : u.Idx → EReal) (hi : ∀ i, init i = ⊥) (h : (⟨3, ![a, b, n]⟩ : Shape).ReducesTo [2] ⟨2, ![a, b]⟩)
    (hu : 0 < u.numel) (j : Shape.Idx ⟨2, ![a, b]⟩) :
    ∃ M : ℝ, Host.reduce (max : EReal → EReal → EReal) x init h hu j = (M : EReal) := by
  choose g hg using hx
  rw [Host.reduce_eq_fold, h.fold_fiber_r3_a2, hi]
  have hb : (⊥ : EReal) < Finset.univ.fold max (⊥ : EReal) fun k : Fin n => x (ix3 ⟨(j 0).val, (j 0).isLt⟩ ⟨(j 1).val, (j 1).isLt⟩ k) := by
    rw [Finset.lt_fold_max]
    exact Or.inr ⟨0, Finset.mem_univ _, by rw [hg]; exact EReal.bot_lt_coe _⟩
  have ht : (Finset.univ.fold max (⊥ : EReal) fun k : Fin n => x (ix3 ⟨(j 0).val, (j 0).isLt⟩ ⟨(j 1).val, (j 1).isLt⟩ k)) < ⊤ := by
    rw [Finset.fold_max_lt]
    exact ⟨bot_lt_top, fun k _ => by rw [hg]; exact EReal.coe_lt_top _⟩
  exact ⟨_, (EReal.coe_toReal ht.ne hb.ne').symm⟩

/-- The constant −∞. -/
theorem ofBits_neg_inf : (FloatOps.ofBits .f32 0xFF800000#32 : Ideal .f32) = (⊥ : EReal) := by
  change Ideal.ofBits .f32 0xFF800000#32 = ⊥
  simp [Ideal.ofBits, Ideal.ieee]

/-- The constant 2. -/
theorem ofBits_two : (Ideal.ofBits .f32 0x40000000#32 : EReal) = ((2 : ℝ) : EReal) := by
  simp [Ideal.ofBits, Ideal.ieee, -EReal.coe_mul]
  norm_num

variable {q : Rows} {k : Cols} {v : Rows}

/-- The scores times log 2. -/
theorem scaled_eq (q : Rows) (k : Cols) (h : Fin 8) (i j : Fin 16384) :
    val_main_v7 (F := Ideal) q k (ix3 h i j) = score q k h i j * ((Real.log 2 : ℝ) : EReal) := by
  pointwise [val_main_v7, val_main_v4, val_main_v6, val_main_v5, val_main_cst, val_main_v3, val_main_v2, val_main_v1, val_main_v0]
  rw [ofBits_two, Ideal.log_coe, if_neg (by norm_num)]
  rfl

/-- The largest scaled score of a query is real. -/
theorem max_real (P : Prepared q k v) (h : Fin 8) (i : Fin 16384) :
    ∃ M : ℝ, val_main_v10 (F := Ideal) q k (ix2 h i) = (M : EReal) := by
  rw [val_main_v10_apply, val_main_v9_apply, val_main_cst_1_apply, ofBits_neg_inf]
  unfold val_main_v8
  obtain ⟨M, hM⟩ := reduce_max_real (val_main_v7 (F := Ideal) q k)
    (fun y => by
      idx_vars y
      exact ⟨(score q k y0 y1 y2).toReal * Real.log 2, by rw [EReal.coe_mul, ← P.score_real, ← scaled_eq]⟩)
    (val_main_cst_0 (F := Ideal)) (fun _ => by rw [val_main_cst_0_apply, ofBits_neg_inf])
    reducesTo_S8x16384x16384_S8x16384_d2 h_S_ (ix2 h i)
  exact ⟨M, (max_bot_left _).trans hM⟩

/-- The shifted exponentials. -/
theorem exp_eq (q : Rows) (k : Cols) (h : Fin 8) (i j : Fin 16384) :
    val_main_v14 (F := Ideal) q k (ix3 h i j)
      = Ideal.exp (score q k h i j * ((Real.log 2 : ℝ) : EReal) - val_main_v10 (F := Ideal) q k (ix2 h i)) := by
  rw [← scaled_eq]
  pointwise [val_main_v14, val_main_v13, val_main_v12, val_main_v11]

/-- One element: the softmax weights times the values, divided by the weights' sum term by term. -/
theorem softmax_sum (P : Prepared q k v) (h : Fin 8) (i : Fin 16384) (d : Fin 128) :
    ∑ x, Ideal.div (Ideal.exp (score q k h i x * ((Real.log 2 : ℝ) : EReal) - val_main_v10 (F := Ideal) q k (ix2 h i)))
        (∑ x', Ideal.exp (score q k h i x' * ((Real.log 2 : ℝ) : EReal) - val_main_v10 (F := Ideal) q k (ix2 h i)))
          * v (ix3 h x (lane128 d))
      = head q k v h i d := by
  obtain ⟨M, hM⟩ := max_real P h i
  rw [hM]
  have e : ∀ j, score q k h i j * ((Real.log 2 : ℝ) : EReal) - (M : EReal)
      = (((score q k h i j).toReal * Real.log 2 - M : ℝ) : EReal) := fun j => by
    rw [EReal.coe_sub, EReal.coe_mul, ← P.score_real]
  simp only [e, Ideal.exp_coe]
  exact Softmax.softmax_eq _ _ M

/-- The reference's result array. -/
theorem reference_eq (P : Prepared q k v) : val_main_v24 (F := Ideal) q k v = result q k v := by
  funext y
  idx_vars y
  pointwise [val_main_v24, val_main_v23, val_main_v22, val_main_v21, val_main_v20, val_main_v19, val_main_v18, val_main_v17,
    val_main_v16, val_main_v15, val_main_cst_2]
  simp only [exp_eq]
  exact softmax_sum P ⟨y1.val / 128, by omega⟩ y0 ⟨y1.val % 128, Nat.mod_lt _ (by decide)⟩

end Cert.Attention

end
-- ==== Proof.AttentionClaim.lean ====
/- The attention's two runs, and the claim that they agree. -/
module

public import proofs.«01_k».proof.Defs
public import proofs.«01_k».proof.Proof.AttentionArray
public import proofs.«01_k».proof.Proof.AttentionPrepared
public import proofs.«01_k».proof.Proof.AttentionReference
public import proofs.«01_k».proof.Proof.Gen.AttnRefIdeal.Run
public import proofs.«01_k».proof.Proof.Gen.AttnRefIdeal.Read
public import Idealize.ShloMosaic.Lib.Quiescent
public import Idealize.ShloMosaic.Lib.Claim

@[expose] public section

noncomputable section

namespace Cert.Attention
open Idealize.ShloMosaic Idealize.ShloMosaic.TcCoe Idealize.SL.Sem

/-- The kernel's run: the attention, the five weight arrays, and the arguments unchanged. -/
theorem kernel_run (m : (ℓ : Loc AttnIdeal.nD AttnIdeal.τ AttnIdeal.sig) → Buf (Elt Ideal) ℓ) (ρ : Dev AttnIdeal.nD → PrngReg)
    (P : ∀ c : Dev AttnIdeal.nD, Prepared (m ((c.tc : Thread AttnIdeal.nD AttnIdeal.τ).loc AttnIdeal.main_arg1))
      (m ((c.tc : Thread AttnIdeal.nD AttnIdeal.τ).loc AttnIdeal.main_arg2)) (m ((c.tc : Thread AttnIdeal.nD AttnIdeal.τ).loc AttnIdeal.main_arg3))) :
    θ_run (AttnIdeal.defs (F := Ideal)) (onTc (τ := AttnIdeal.τ) (AttnIdeal.main (F := Ideal))) ⟨m, fun _ => 0, ρ⟩ fun r =>
      ∀ c : Dev AttnIdeal.nD,
      r.2.mem ((c.tc : Thread AttnIdeal.nD AttnIdeal.τ).loc AttnIdeal.main_v0_0)
          = result (m ((c.tc : Thread AttnIdeal.nD AttnIdeal.τ).loc AttnIdeal.main_arg1))
            (m ((c.tc : Thread AttnIdeal.nD AttnIdeal.τ).loc AttnIdeal.main_arg2))
            (m ((c.tc : Thread AttnIdeal.nD AttnIdeal.τ).loc AttnIdeal.main_arg3))
      ∧ r.2.mem ((c.tc : Thread AttnIdeal.nD AttnIdeal.τ).loc AttnIdeal.main_v0_1) = m ((c.tc : Thread AttnIdeal.nD AttnIdeal.τ).loc AttnIdeal.main_arg4)
      ∧ r.2.mem ((c.tc : Thread AttnIdeal.nD AttnIdeal.τ).loc AttnIdeal.main_v0_2) = m ((c.tc : Thread AttnIdeal.nD AttnIdeal.τ).loc AttnIdeal.main_arg5)
      ∧ r.2.mem ((c.tc : Thread AttnIdeal.nD AttnIdeal.τ).loc AttnIdeal.main_v0_3) = m ((c.tc : Thread AttnIdeal.nD AttnIdeal.τ).loc AttnIdeal.main_arg6)
      ∧ r.2.mem ((c.tc : Thread AttnIdeal.nD AttnIdeal.τ).loc AttnIdeal.main_v0_4) = m ((c.tc : Thread AttnIdeal.nD AttnIdeal.τ).loc AttnIdeal.main_arg7)
      ∧ r.2.mem ((c.tc : Thread AttnIdeal.nD AttnIdeal.τ).loc AttnIdeal.main_v0_5) = m ((c.tc : Thread AttnIdeal.nD AttnIdeal.τ).loc AttnIdeal.main_arg8)
      ∧ r.2.mem ((c.tc : Thread AttnIdeal.nD AttnIdeal.τ).loc AttnIdeal.main_arg0) = m ((c.tc : Thread AttnIdeal.nD AttnIdeal.τ).loc AttnIdeal.main_arg0)
      ∧ r.2.mem ((c.tc : Thread AttnIdeal.nD AttnIdeal.τ).loc AttnIdeal.main_arg1) = m ((c.tc : Thread AttnIdeal.nD AttnIdeal.τ).loc AttnIdeal.main_arg1)
      ∧ r.2.mem ((c.tc : Thread AttnIdeal.nD AttnIdeal.τ).loc AttnIdeal.main_arg2) = m ((c.tc : Thread AttnIdeal.nD AttnIdeal.τ).loc AttnIdeal.main_arg2)
      ∧ r.2.mem ((c.tc : Thread AttnIdeal.nD AttnIdeal.τ).loc AttnIdeal.main_arg3) = m ((c.tc : Thread AttnIdeal.nD AttnIdeal.τ).loc AttnIdeal.main_arg3)
      ∧ r.2.mem ((c.tc : Thread AttnIdeal.nD AttnIdeal.τ).loc AttnIdeal.main_arg4) = m ((c.tc : Thread AttnIdeal.nD AttnIdeal.τ).loc AttnIdeal.main_arg4)
      ∧ r.2.mem ((c.tc : Thread AttnIdeal.nD AttnIdeal.τ).loc AttnIdeal.main_arg5) = m ((c.tc : Thread AttnIdeal.nD AttnIdeal.τ).loc AttnIdeal.main_arg5)
      ∧ r.2.mem ((c.tc : Thread AttnIdeal.nD AttnIdeal.τ).loc AttnIdeal.main_arg6) = m ((c.tc : Thread AttnIdeal.nD AttnIdeal.τ).loc AttnIdeal.main_arg6)
      ∧ r.2.mem ((c.tc : Thread AttnIdeal.nD AttnIdeal.τ).loc AttnIdeal.main_arg7) = m ((c.tc : Thread AttnIdeal.nD AttnIdeal.τ).loc AttnIdeal.main_arg7)
      ∧ r.2.mem ((c.tc : Thread AttnIdeal.nD AttnIdeal.τ).loc AttnIdeal.main_arg8) = m ((c.tc : Thread AttnIdeal.nD AttnIdeal.τ).loc AttnIdeal.main_arg8) := by
  refine θ_run_mono (θ_run_and (AttnIdeal.Gen.run_main m ρ trivial) (AttnIdeal.Gen.unchanged m ρ trivial)) fun r h c => ?_
  exact ⟨((h.1 c).1 8).trans (final8 m trivial (P c)), ((h.1 c).1 9).trans (final9 m trivial),
    ((h.1 c).1 10).trans (final10 m trivial), ((h.1 c).1 11).trans (final11 m trivial),
    ((h.1 c).1 12).trans (final12 m trivial), ((h.1 c).1 13).trans (final13 m trivial), h.2 c⟩

/-- The reference's run leaves its arguments and every counter as they were. -/
theorem reference_frame (m : (ℓ : Loc AttnRefIdeal.nD AttnRefIdeal.τ AttnRefIdeal.sig) → Buf (Elt Ideal) ℓ)
    (ρ : Dev AttnRefIdeal.nD → PrngReg) :
    θ_run (AttnRefIdeal.defs (F := Ideal)) (onTc (τ := AttnRefIdeal.τ) (AttnRefIdeal.main (F := Ideal))) ⟨m, fun _ => 0, ρ⟩ fun r =>
      (∀ c : Dev AttnRefIdeal.nD,
      r.2.mem ((c.tc : Thread AttnRefIdeal.nD AttnRefIdeal.τ).loc AttnRefIdeal.main_arg0) = m ((c.tc : Thread AttnRefIdeal.nD AttnRefIdeal.τ).loc AttnRefIdeal.main_arg0)
      ∧ r.2.mem ((c.tc : Thread AttnRefIdeal.nD AttnRefIdeal.τ).loc AttnRefIdeal.main_arg1) = m ((c.tc : Thread AttnRefIdeal.nD AttnRefIdeal.τ).loc AttnRefIdeal.main_arg1)
      ∧ r.2.mem ((c.tc : Thread AttnRefIdeal.nD AttnRefIdeal.τ).loc AttnRefIdeal.main_arg2) = m ((c.tc : Thread AttnRefIdeal.nD AttnRefIdeal.τ).loc AttnRefIdeal.main_arg2)
      ∧ r.2.mem ((c.tc : Thread AttnRefIdeal.nD AttnRefIdeal.τ).loc AttnRefIdeal.main_arg3) = m ((c.tc : Thread AttnRefIdeal.nD AttnRefIdeal.τ).loc AttnRefIdeal.main_arg3)
      ∧ r.2.mem ((c.tc : Thread AttnRefIdeal.nD AttnRefIdeal.τ).loc AttnRefIdeal.main_arg4) = m ((c.tc : Thread AttnRefIdeal.nD AttnRefIdeal.τ).loc AttnRefIdeal.main_arg4)
      ∧ r.2.mem ((c.tc : Thread AttnRefIdeal.nD AttnRefIdeal.τ).loc AttnRefIdeal.main_arg5) = m ((c.tc : Thread AttnRefIdeal.nD AttnRefIdeal.τ).loc AttnRefIdeal.main_arg5)
      ∧ r.2.mem ((c.tc : Thread AttnRefIdeal.nD AttnRefIdeal.τ).loc AttnRefIdeal.main_arg6) = m ((c.tc : Thread AttnRefIdeal.nD AttnRefIdeal.τ).loc AttnRefIdeal.main_arg6)
      ∧ r.2.mem ((c.tc : Thread AttnRefIdeal.nD AttnRefIdeal.τ).loc AttnRefIdeal.main_arg7) = m ((c.tc : Thread AttnRefIdeal.nD AttnRefIdeal.τ).loc AttnRefIdeal.main_arg7)
      ∧ r.2.mem ((c.tc : Thread AttnRefIdeal.nD AttnRefIdeal.τ).loc AttnRefIdeal.main_arg8) = m ((c.tc : Thread AttnRefIdeal.nD AttnRefIdeal.τ).loc AttnRefIdeal.main_arg8))
      ∧ r.2.sem = fun _ => 0 :=
  θ_run_mono (AttnRefIdeal.Value.run m ρ) fun r h =>
    ⟨fun c => (h c).2.2.2.2.2.2, sem_eq_zero_of_no_sems rfl r.2⟩

/-- The reference's result array from equal arguments. -/
theorem reference_eq_of {q q' : Rows} {k k' : Cols} {v v' : Rows} (P : Prepared q k v) (hq : q' = q) (hk : k' = k) (hv : v' = v) :
    AttnRefIdeal.Read.val_main_v24 (F := Ideal) q' k' v' = result q k v := by
  subst hq hk hv
  exact reference_eq P

/-- The kernel and the reference end with the same arrays. -/
theorem algebraic : Cert.algebraic_AttnIdeal_AttnRefIdeal_pre_prepared := by
  intro m g m' g' hpre hargs
  have P : ∀ c : Dev AttnIdeal.nD, Prepared (m ((c.tc : Thread AttnIdeal.nD AttnIdeal.τ).loc AttnIdeal.main_arg1))
      (m ((c.tc : Thread AttnIdeal.nD AttnIdeal.τ).loc AttnIdeal.main_arg2))
      (m ((c.tc : Thread AttnIdeal.nD AttnIdeal.τ).loc AttnIdeal.main_arg3)) := fun c => by
    have h := congrFun (hpre c) (fun d => d.elim0)
    exact prepared_of _ _ _ _ _ _ _ _ _ _ h
  refine ⟨_, _, _, _, _, _, kernel_run m g P, ?_⟩
  refine θ_run_mono (AttnRefIdeal.Value.run m' g') fun r h c => ?_
  obtain ⟨h0, h1, h2, h3, h4, h5, hr⟩ := h c
  obtain ⟨-, a1, a2, a3, a4, a5, a6, a7, a8⟩ := hargs c
  exact ⟨(h0.trans (AttnRefIdeal.Read.val_main_v24_eq _ _ _)).trans (reference_eq_of (P c) a1 a2 a3), h1.trans a4, h2.trans a5, h3.trans a6, h4.trans a7,
    h5.trans a8, hr⟩

end Cert.Attention
end
-- ==== Proof.GatedSpec.lean ====
/- The gated product shared by the dense feed-forward call and the experts' call, over the ideal numbers. -/
module

public import Idealize.ShloMosaic.Lib.Pipeline.ValueKit
public import Idealize.ShloMosaic.Lib.Pointwise

@[expose] public section

noncomputable section

namespace Cert.Gated
open Idealize.ShloMosaic

/-- `silu(g) · u`, with `silu(g) = g / (1 + exp(−g))`. -/
def gate (g u : EReal) : EReal := g * Ideal.div 1 (1 + Ideal.exp (-g)) * u

/-- The constant 1. -/
theorem ofBits_one : (Ideal.ofBits .f32 0x3F800000#32 : EReal) = 1 := by
  simp [Ideal.ofBits, Ideal.ieee]
  rw [← EReal.coe_mul]
  norm_num

/-- The constant 0. -/
theorem ofBits_zero : (Ideal.ofBits .f32 0x00000000#32 : EReal) = 0 := by
  simp [Ideal.ofBits, Ideal.ieee]

/-- A sum over `J` pieces of `n` terms each is the sum over all `N = J · n` terms. -/
theorem sum_pieces {J n N : ℕ} (h : J * n = N) (f : ℕ → EReal) :
    ∑ j ∈ Finset.range J, ∑ u : Fin n, f (j * n + u.val) = ∑ x : Fin N, f x.val := by
  subst h
  rw [Fin.sum_univ_eq_sum_range]
  induction J with
  | zero => simp
  | succ J ih => rw [Finset.sum_range_succ, ih, Nat.succ_mul, Finset.sum_range_add, Fin.sum_univ_eq_sum_range (fun u => f (J * n + u))]

end Cert.Gated
end
-- ==== Proof.MixOutSpec.lean ====
/- The mixers' output call: what it computes, said once for the kernel and for the reference.

   A row of the attention's result and a row of the other mixer's result are each divided by their root mean square and weighted; set
   side by side they meet `w_out`. The gated product joins the residual stream, and the stream, normalised and modulated, is the input of
   the next feed-forward. -/
module

public import proofs.«01_k».proof.Proof.GatedSpec
public import proofs.«01_k».proof.Proof.Gen.MixOutIdeal.Skeleton

@[expose] public section

noncomputable section

namespace Cert.Mixing
open Idealize.ShloMosaic Cert.MixOutIdeal Cert.Gated

/-- Entry `k` of a row divided by its root mean square, times the weight `g`. `n` is the row's length as the programs print it, and the
    added constant is the one both programs print for `1e-6`. -/
def normed {N : ℕ} (n : EReal) (row : Fin N → EReal) (g : EReal) (k : Fin N) : EReal :=
  row k * Ideal.rsqrt (Ideal.div (∑ x : Fin N, row x * row x) n + Ideal.ofBits .f32 0x358637BD#32) * g

/-- The printed 1024. -/
def width1024 : EReal := Ideal.ofBits .f32 0x44800000#32
/-- The printed 2048. -/
def width2048 : EReal := Ideal.ofBits .f32 0x45000000#32

/-- Two normalised rows side by side, times a column of the output weights. -/
def mixed (a f : Fin 1024 → EReal) (g w : Fin 2048 → EReal) : EReal :=
  (∑ k : Fin 1024, normed width1024 a (g ⟨k.val, by omega⟩) k * w ⟨k.val, by omega⟩)
    + ∑ k : Fin 1024, normed width1024 f (g ⟨1024 + k.val, by omega⟩) k * w ⟨1024 + k.val, by omega⟩

/-- The residual stream `x` plus the gate `b` times the product `o`. -/
def joined (x b o : EReal) : EReal := x + b * o

/-- A row of the stream, normalised, scaled and shifted. -/
def modulated (row g scale shift : Fin 2048 → EReal) (d : Fin 2048) : EReal :=
  normed width2048 row (g d) d * (1 + scale d) + shift d

/-- Column `d` of the part of the modulation row that starts at `base`. -/
def sixth (base : ℕ) (h : base + 2048 ≤ 12288) (d : Fin 2048) : Fin 12288 := ⟨base + d.val, by omega⟩

section Spec
variable (a f : FVec Ideal S16384x1024 .bf16) (x : FVec Ideal S16384x2048 .f32) (mod : FVec Ideal S1x12288 .f32)
  (og : FVec Ideal S1x2048 .f32) (w : FVec Ideal S2048x2048 .bf16) (fg : FVec Ideal S1x2048 .f32)

/-- The new residual stream at row `i`, column `d`. -/
def streamAt (i : Fin 16384) (d : Fin 2048) : EReal :=
  joined (x (ix2 i d)) (mod (ix2 0 (sixth 4096 (by decide) d)))
    (mixed (fun k => a (ix2 i k)) (fun k => f (ix2 i k)) (fun k => og (ix2 0 k)) (fun k => w (ix2 k d)))

/-- The feed-forward's input at row `i`, column `d`. -/
def hiddenAt (i : Fin 16384) (d : Fin 2048) : EReal :=
  modulated (fun k => streamAt a f x mod og w i k) (fun k => fg (ix2 0 k)) (fun k => mod (ix2 0 (sixth 8192 (by decide) k)))
    (fun k => mod (ix2 0 (sixth 6144 (by decide) k))) d

/-- The first result: the new residual stream. -/
def stream : FVec Ideal S16384x2048 .f32 := fun y => streamAt a f x mod og w ⟨(y 0).val, (y 0).isLt⟩ ⟨(y 1).val, (y 1).isLt⟩

/-- The second result: the feed-forward's input. -/
def hidden : FVec Ideal S16384x2048 .bf16 := fun y => hiddenAt a f x mod og w fg ⟨(y 0).val, (y 0).isLt⟩ ⟨(y 1).val, (y 1).isLt⟩

end Spec

end Cert.Mixing
end
-- ==== Proof.MixOutBlock.lean ====
/- The mixers' output call: what one block of 512 rows is left with, from the stored expressions. -/
module

public import proofs.«01_k».proof.Proof.MixOutSpec
public import proofs.«01_k».proof.Proof.Gen.MixOutIdeal.Frame

@[expose] public section

noncomputable section

namespace Cert.Mixing
open Idealize.ShloMosaic Idealize.ShloMosaic.TcCoe Idealize.SL.Sem Cert.MixOutIdeal Cert.MixOutIdeal.Gen Cert.Gated

set_option maxRecDepth 16384

/-- The product of the two normalised rows with the output weights. -/
theorem product (A : Vec Ideal S512x1024 .bf16) (G : Vec Ideal S1x1024 .f32) (B : Vec Ideal S512x1024 .bf16)
    (G2 : Vec Ideal S1x1024 .f32) (W : Vec Ideal S2048x2048 .bf16) (r : Fin 512) (d : Fin 2048) :
    k0_pay3 (F := Ideal) A G B G2 W (ix2 r d)
      = (∑ k : Fin 1024, normed width1024 (fun k => A (ix2 r k)) (G (ix2 0 k)) k * W (ix2 ⟨k.val, by omega⟩ d))
        + ∑ k : Fin 1024, normed width1024 (fun k => B (ix2 r k)) (G2 (ix2 0 k)) k * W (ix2 ⟨1024 + k.val, by omega⟩ d) := by
  unfold normed width1024
  pointwise [k0_pay3]

/-- The gated product joins the residual stream. -/
theorem join (V : Vec Ideal S512x2048 .f32) (M : Vec Ideal S1x2048 .f32) (X : Vec Ideal S512x2048 .f32) (r : Fin 512)
    (d : Fin 2048) : k0_pay1 (F := Ideal) V M X (ix2 r d) = joined (X (ix2 r d)) (M (ix2 0 d)) (V (ix2 r d)) := by
  unfold joined
  pointwise [k0_pay1]

/-- The stream's row, normalised and modulated. -/
theorem modulate (V : Vec Ideal S512x2048 .f32) (M M3 M4 : Vec Ideal S1x2048 .f32) (X : Vec Ideal S512x2048 .f32)
    (G : Vec Ideal S1x2048 .f32) (r : Fin 512) (d : Fin 2048) :
    k0_pay2 (F := Ideal) V M M3 M4 X G (ix2 r d)
      = modulated (fun k => joined (X (ix2 r k)) (M (ix2 0 k)) (V (ix2 r k))) (fun k => G (ix2 0 k)) (fun k => M4 (ix2 0 k))
        (fun k => M3 (ix2 0 k)) d := by
  unfold modulated normed width2048 joined
  pointwise [k0_pay2, k0_pay1]

variable (x0 x1 : Vec Ideal S512x1024 .bf16) (x2 : Vec Ideal S512x2048 .f32) (x3 : Vec Ideal S1x12288 .f32)
  (x4 : Vec Ideal S1x2048 .f32) (x5 : Vec Ideal S2048x2048 .bf16) (x6 : Vec Ideal S1x2048 .f32)

/-- The stream of a block, from the windows. -/
def blockStream (r : Fin 512) (d : Fin 2048) : EReal :=
  joined (x2 (ix2 r d)) (x3 (ix2 0 (sixth 4096 (by decide) d)))
    (mixed (fun k => x0 (ix2 r k)) (fun k => x1 (ix2 r k)) (fun k => x4 (ix2 0 k)) (fun k => x5 (ix2 k d)))

/-- What a block leaves in the first result. -/
theorem block_stream (r : Fin 512) (d : Fin 2048) :
    out0_7 (F := Ideal) x0 x1 x2 x3 x4 x5 x6 (ix2 r d) = blockStream x0 x1 x2 x3 x4 x5 r d := by
  unfold_out out0_7
  frame_out
  rw [join, product]
  unfold blockStream mixed sixth joined normed
  pointwise []

/-- What a block leaves in the second result. -/
theorem block_hidden (r : Fin 512) (d : Fin 2048) :
    out0_8 (F := Ideal) x0 x1 x2 x3 x4 x5 x6 (ix2 r d)
      = modulated (fun k => blockStream x0 x1 x2 x3 x4 x5 r k) (fun k => x6 (ix2 0 k))
        (fun k => x3 (ix2 0 (sixth 8192 (by decide) k))) (fun k => x3 (ix2 0 (sixth 6144 (by decide) k))) d := by
  unfold_out out0_8
  frame_out
  rw [modulate]
  simp only [product]
  unfold blockStream mixed sixth joined modulated normed
  pointwise []

end Cert.Mixing
end
-- ==== Proof.MixOutArray.lean ====
/- The mixers' output call's two result arrays: the new residual stream and the feed-forward's input. -/
module

public import proofs.«01_k».proof.Proof.MixOutBlock

@[expose] public section

noncomputable section

namespace Cert.Mixing
open Idealize.ShloMosaic Idealize.ShloMosaic.TcCoe Idealize.SL.Sem Cert.MixOutIdeal Cert.MixOutIdeal.Gen Cert.Gated

set_option maxRecDepth 16384

/-! ## Where the blocks lie -/

theorem index0 : ∀ t : Fin grid0.N, cc0_transform_0 (grid0.coords t) = ![t.val, 0] := by decide +kernel
theorem index1 : ∀ t : Fin grid0.N, cc0_transform_1 (grid0.coords t) = ![t.val, 0] := by decide +kernel
theorem index2 : ∀ t : Fin grid0.N, cc0_transform_2 (grid0.coords t) = ![t.val, 0] := by decide +kernel
theorem index3 : ∀ t : Fin grid0.N, cc0_transform_3 (grid0.coords t) = ![0, 0] := by decide +kernel
theorem index4 : ∀ t : Fin grid0.N, cc0_transform_4 (grid0.coords t) = ![0, 0] := by decide +kernel
theorem index5 : ∀ t : Fin grid0.N, cc0_transform_5 (grid0.coords t) = ![0, 0] := by decide +kernel
theorem index6 : ∀ t : Fin grid0.N, cc0_transform_6 (grid0.coords t) = ![0, 0] := by decide +kernel
theorem index7 : ∀ t : Fin grid0.N, cc0_transform_7 (grid0.coords t) = ![t.val, 0] := by decide +kernel
theorem index8 : ∀ t : Fin grid0.N, cc0_transform_8 (grid0.coords t) = ![t.val, 0] := by decide +kernel

variable (m : (ℓ : Loc nD τ sig) → Buf (Elt Ideal) ℓ) (c : Dev nD)

theorem point_lt (t : Fin cfg0.N) : t.val < 32 := t.isLt

/-- Row `r` of a point's block. -/
def rowOf (t : Fin cfg0.N) (r : Fin 512) : Fin 16384 := ⟨t.val * 512 + r.val, by have := point_lt t; omega⟩

theorem attended (t : Fin cfg0.N) (r : Fin 512) (k : Fin 1024) :
    iblk m c 0 t (ix2 r k) = V m c main_arg0 (ix2 (rowOf t r) k) := by
  blk_ext [iblk, rowOf]
  · exact congrArg (· * 512 + r.val) (congrFun (index0 t) 0)
  · exact (congrArg (· * 1024 + k.val) (congrFun (index0 t) 1)).trans (by simp)

theorem transformed (t : Fin cfg0.N) (r : Fin 512) (k : Fin 1024) :
    iblk m c 1 t (ix2 r k) = V m c main_arg1 (ix2 (rowOf t r) k) := by
  blk_ext [iblk, rowOf]
  · exact congrArg (· * 512 + r.val) (congrFun (index1 t) 0)
  · exact (congrArg (· * 1024 + k.val) (congrFun (index1 t) 1)).trans (by simp)

theorem residual (t : Fin cfg0.N) (r : Fin 512) (k : Fin 2048) :
    iblk m c 2 t (ix2 r k) = V m c main_arg2 (ix2 (rowOf t r) k) := by
  blk_ext [iblk, rowOf]
  · exact congrArg (· * 512 + r.val) (congrFun (index2 t) 0)
  · exact (congrArg (· * 2048 + k.val) (congrFun (index2 t) 1)).trans (by simp)

theorem modulation (t : Fin cfg0.N) (k : Fin 12288) : iblk m c 3 t (ix2 0 k) = V m c main_arg3 (ix2 0 k) := by
  blk_ext [iblk]
  · exact congrFun (index3 t) 0
  · exact (congrArg (· * 12288 + k.val) (congrFun (index3 t) 1)).trans (by simp)

theorem output_gain (t : Fin cfg0.N) (k : Fin 2048) : iblk m c 4 t (ix2 0 k) = V m c main_arg4 (ix2 0 k) := by
  blk_ext [iblk]
  · exact congrFun (index4 t) 0
  · exact (congrArg (· * 2048 + k.val) (congrFun (index4 t) 1)).trans (by simp)

theorem output_weights (t : Fin cfg0.N) (j k : Fin 2048) : iblk m c 5 t (ix2 j k) = V m c main_arg5 (ix2 j k) := by
  blk_ext [iblk]
  · exact (congrArg (· * 2048 + j.val) (congrFun (index5 t) 0)).trans (by simp)
  · exact (congrArg (· * 2048 + k.val) (congrFun (index5 t) 1)).trans (by simp)

theorem next_gain (t : Fin cfg0.N) (k : Fin 2048) : iblk m c 6 t (ix2 0 k) = V m c main_arg6 (ix2 0 k) := by
  blk_ext [iblk]
  · exact congrFun (index6 t) 0
  · exact (congrArg (· * 2048 + k.val) (congrFun (index6 t) 1)).trans (by simp)

theorem place7 (t : Fin cfg0.N) (r : Fin 512) (d : Fin 2048) :
    ((cfg0.win 7).blk t).view.emb (ix2 r d) = ix2 (rowOf t r) d := by
  blk_ext [rowOf]
  · exact congrArg (· * 512 + r.val) (congrFun (index7 t) 0)
  · exact (congrArg (· * 2048 + d.val) (congrFun (index7 t) 1)).trans (by simp)

theorem place8 (t : Fin cfg0.N) (r : Fin 512) (d : Fin 2048) :
    ((cfg0.win 8).blk t).view.emb (ix2 r d) = ix2 (rowOf t r) d := by
  blk_ext [rowOf]
  · exact congrArg (· * 512 + r.val) (congrFun (index8 t) 0)
  · exact (congrArg (· * 2048 + d.val) (congrFun (index8 t) 1)).trans (by simp)

/-! ## The arrays -/

/-- A block's stream in terms of the whole arrays. -/
theorem block_eq {a f : FVec Ideal S16384x1024 .bf16} {x : FVec Ideal S16384x2048 .f32} {mod : FVec Ideal S1x12288 .f32}
    {og : FVec Ideal S1x2048 .f32} {w : FVec Ideal S2048x2048 .bf16} {x0 x1 : Vec Ideal S512x1024 .bf16}
    {x2 : Vec Ideal S512x2048 .f32} {x3 : Vec Ideal S1x12288 .f32} {x4 : Vec Ideal S1x2048 .f32}
    {x5 : Vec Ideal S2048x2048 .bf16} (row : Fin 512 → Fin 16384) (h0 : ∀ r k, x0 (ix2 r k) = a (ix2 (row r) k))
    (h1 : ∀ r k, x1 (ix2 r k) = f (ix2 (row r) k)) (h2 : ∀ r k, x2 (ix2 r k) = x (ix2 (row r) k))
    (h3 : ∀ k, x3 (ix2 0 k) = mod (ix2 0 k)) (h4 : ∀ k, x4 (ix2 0 k) = og (ix2 0 k))
    (h5 : ∀ j k, x5 (ix2 j k) = w (ix2 j k)) (r : Fin 512) (d : Fin 2048) :
    blockStream x0 x1 x2 x3 x4 x5 r d = streamAt a f x mod og w (row r) d := by
  unfold blockStream streamAt
  simp only [h0, h1, h2, h3, h4, h5]

/-- A row normalised and modulated, from equal parts. -/
theorem modulated_congr {row row' g g' sc sc' sh sh' : Fin 2048 → EReal} (e0 : ∀ k, row k = row' k) (e1 : ∀ k, g k = g' k)
    (e2 : ∀ k, sc k = sc' k) (e3 : ∀ k, sh k = sh' k) (d : Fin 2048) : modulated row g sc sh d = modulated row' g' sc' sh' d := by
  obtain rfl := funext e0
  obtain rfl := funext e1
  obtain rfl := funext e2
  obtain rfl := funext e3
  rfl

/-- A point's stream. -/
theorem stream_point (t : Fin cfg0.N) (r : Fin 512) (d : Fin 2048) :
    blockStream (iblk m c 0 t) (iblk m c 1 t) (iblk m c 2 t) (iblk m c 3 t) (iblk m c 4 t) (iblk m c 5 t) r d
      = streamAt (V m c main_arg0) (V m c main_arg1) (V m c main_arg2) (V m c main_arg3) (V m c main_arg4) (V m c main_arg5)
        (rowOf t r) d :=
  block_eq (rowOf t) (attended m c t) (transformed m c t) (residual m c t) (modulation m c t) (output_gain m c t)
    (output_weights m c t) r d

/-- The first result array. -/
theorem final_stream : (dats m 0 c).arrAt 7 cfg0.N
    = stream (V m c main_arg0) (V m c main_arg1) (V m c main_arg2) (V m c main_arg3) (V m c main_arg4) (V m c main_arg5) := by
  refine (dats m 0 c).arrAt_eq_of_covers 7 _ (by decide +kernel) fun t hf y => ?_
  blk_simp
  rw [after0_7]
  obtain ⟨r, d, rfl⟩ : ∃ r d, y = ix2 r d := ⟨_, _, eq_ix2 y⟩
  rw [place7]
  exact (block_stream _ _ _ _ _ _ _ r d).trans (stream_point m c t r d)

/-- The second result array. -/
theorem final_hidden : (dats m 0 c).arrAt 8 cfg0.N
    = hidden (V m c main_arg0) (V m c main_arg1) (V m c main_arg2) (V m c main_arg3) (V m c main_arg4) (V m c main_arg5)
      (V m c main_arg6) := by
  refine (dats m 0 c).arrAt_eq_of_covers 8 _ (by decide +kernel) fun t hf y => ?_
  blk_simp
  rw [after0_8]
  obtain ⟨r, d, rfl⟩ : ∃ r d, y = ix2 r d := ⟨_, _, eq_ix2 y⟩
  rw [place8]
  exact (block_hidden _ _ _ _ _ _ _ r d).trans (modulated_congr (fun k => stream_point m c t r k) (fun k => next_gain m c t k)
    (fun k => modulation m c t _) (fun k => modulation m c t _) d)

end Cert.Mixing
end
-- ==== Proof.MixOutReference.lean ====
/- What the reference's program for the mixers' output computes: its two result arrays are `Cert.Mixing.stream` and
   `Cert.Mixing.hidden` of its arguments. -/
module

public import proofs.«01_k».proof.Proof.MixOutSpec
public import proofs.«01_k».proof.Proof.Gen.MixOutRefIdeal.Read

@[expose] public section

noncomputable section

namespace Cert.Mixing
open Idealize.ShloMosaic Cert.MixOutRefIdeal Cert.MixOutRefIdeal.Gen Cert.MixOutRefIdeal.Read Cert.Gated

variable (a f : FVec Ideal S16384x1024 .bf16) (x : FVec Ideal S16384x2048 .f32) (mod : FVec Ideal S1x12288 .f32)
  (og : FVec Ideal S1x2048 .f32) (w : FVec Ideal S2048x2048 .bf16) (fg : FVec Ideal S1x2048 .f32)

/-- The attention's row, normalised. -/
theorem first_half (i : Fin 16384) (k : Fin 1024) :
    val_main_v16 (F := Ideal) a og (ix2 i k) = normed width1024 (fun k => a (ix2 i k)) (og (ix2 0 ⟨k.val, by omega⟩)) k := by
  unfold normed width1024
  pointwise [val_main_v16, val_main_v15, val_main_v14, val_main_v13, val_main_v12, val_main_v11, val_main_v10, val_main_cst_1,
    val_main_v9, val_main_v8, val_main_cst_0, val_main_v7, val_main_v6, val_main_v5, val_main_v4, val_main_v3, val_main_cst]

/-- The other mixer's row, normalised. -/
theorem second_half (i : Fin 16384) (k : Fin 1024) :
    val_main_v30 (F := Ideal) f og (ix2 i k)
      = normed width1024 (fun k => f (ix2 i k)) (og (ix2 0 ⟨1024 + k.val, by omega⟩)) k := by
  unfold normed width1024
  pointwise [val_main_v30, val_main_v29, val_main_v28, val_main_v27, val_main_v26, val_main_v25, val_main_v24, val_main_cst_4,
    val_main_v23, val_main_v22, val_main_cst_3, val_main_v21, val_main_v20, val_main_v19, val_main_v18, val_main_v17, val_main_cst_2]

/-- The two rows side by side. -/
theorem beside (i : Fin 16384) (k : Fin 2048) :
    val_main_v31 (F := Ideal) a f og (ix2 i k)
      = if h : k.val < 1024 then val_main_v16 (F := Ideal) a og (ix2 i ⟨k.val, h⟩)
        else val_main_v30 (F := Ideal) f og (ix2 i ⟨k.val - 1024, by omega⟩) := by
  pointwise [val_main_v31]

/-- The product with the output weights. -/
theorem product_eq (i : Fin 16384) (d : Fin 2048) :
    val_main_v33 (F := Ideal) a f og w (ix2 i d)
      = mixed (fun k => a (ix2 i k)) (fun k => f (ix2 i k)) (fun k => og (ix2 0 k)) (fun k => w (ix2 k d)) := by
  have e : val_main_v33 (F := Ideal) a f og w (ix2 i d)
      = ∑ k : Fin 2048, val_main_v31 (F := Ideal) a f og (ix2 i k) * w (ix2 k d) := by
    pointwise [val_main_v33, val_main_v32]
  refine e.trans ((Fin.sum_univ_add (a := 1024) (b := 1024) _).trans ?_)
  unfold mixed
  refine congrArg₂ (· + ·) (Finset.sum_congr rfl fun k _ => ?_) (Finset.sum_congr rfl fun k _ => ?_)
  · refine congrArg (· * _) ?_
    rw [beside, dif_pos (show (Fin.castAdd 1024 k).val < 1024 from k.isLt)]
    exact first_half a og i k
  · refine congrArg (· * _) ?_
    rw [beside, dif_neg (show ¬(Fin.natAdd 1024 k).val < 1024 from by simp)]
    have hk : (⟨(Fin.natAdd 1024 k).val - 1024, by simp⟩ : Fin 1024) = k := Fin.ext (by simp)
    exact (congrArg (fun j => val_main_v30 (F := Ideal) f og (ix2 i j)) hk).trans (second_half f og i k)

/-- The new residual stream at an index. -/
theorem stream_at (i : Fin 16384) (d : Fin 2048) :
    val_main_v36 (F := Ideal) a f x mod og w (ix2 i d) = streamAt a f x mod og w i d := by
  unfold streamAt joined sixth
  rw [← product_eq]
  pointwise [val_main_v36, val_main_v35, val_main_v34, val_main_v0]

/-- The reference's first result. -/
theorem reference_stream : val_main_v36 (F := Ideal) a f x mod og w = stream a f x mod og w := by
  funext y
  idx_vars y
  exact stream_at a f x mod og w _ _

/-- The reference's second result. -/
theorem reference_hidden : val_main_v55 (F := Ideal) a f x mod og w fg = hidden a f x mod og w fg := by
  funext y
  idx_vars y
  unfold hidden hiddenAt modulated normed width2048 sixth
  simp only [← stream_at]
  pointwise [val_main_v55, val_main_v54, val_main_v53, val_main_v52, val_main_v51, val_main_v50, val_main_v49, val_main_cst_8,
    val_main_v48, val_main_v47, val_main_v46, val_main_v45, val_main_v44, val_main_v43, val_main_v42, val_main_cst_7, val_main_v41,
    val_main_v40, val_main_cst_6, val_main_v39, val_main_v38, val_main_v37, val_main_cst_5, val_main_v1, val_main_v2]

end Cert.Mixing
end
-- ==== Proof.MixOutClaim.lean ====
/- The mixers' output: the two runs, and the claim that they agree. -/
module

public import proofs.«01_k».proof.Defs
public import proofs.«01_k».proof.Proof.MixOutArray
public import proofs.«01_k».proof.Proof.MixOutReference
public import proofs.«01_k».proof.Proof.Gen.MixOutIdeal.Value
public import proofs.«01_k».proof.Proof.Gen.MixOutRefIdeal.Run
public import proofs.«01_k».proof.Proof.Gen.MixOutRefIdeal.Read
public import Idealize.ShloMosaic.Lib.Quiescent
public import Idealize.ShloMosaic.Lib.Claim

@[expose] public section

noncomputable section

namespace Cert.Mixing
open Idealize.ShloMosaic Idealize.ShloMosaic.TcCoe Idealize.SL.Sem

/-- The kernel's run: the new residual stream, the feed-forward's input, and the arguments unchanged. -/
theorem kernel_run (m : (ℓ : Loc MixOutIdeal.nD MixOutIdeal.τ MixOutIdeal.sig) → Buf (Elt Ideal) ℓ) (ρ : Dev MixOutIdeal.nD → PrngReg) :
    θ_run (MixOutIdeal.defs (F := Ideal)) (onTc (τ := MixOutIdeal.τ) (MixOutIdeal.main (F := Ideal))) ⟨m, fun _ => 0, ρ⟩ fun r =>
      ∀ c : Dev MixOutIdeal.nD,
      r.2.mem ((c.tc : Thread MixOutIdeal.nD MixOutIdeal.τ).loc MixOutIdeal.main_v0_0)
          = stream (m ((c.tc : Thread MixOutIdeal.nD MixOutIdeal.τ).loc MixOutIdeal.main_arg0))
            (m ((c.tc : Thread MixOutIdeal.nD MixOutIdeal.τ).loc MixOutIdeal.main_arg1))
            (m ((c.tc : Thread MixOutIdeal.nD MixOutIdeal.τ).loc MixOutIdeal.main_arg2))
            (m ((c.tc : Thread MixOutIdeal.nD MixOutIdeal.τ).loc MixOutIdeal.main_arg3))
            (m ((c.tc : Thread MixOutIdeal.nD MixOutIdeal.τ).loc MixOutIdeal.main_arg4))
            (m ((c.tc : Thread MixOutIdeal.nD MixOutIdeal.τ).loc MixOutIdeal.main_arg5))
      ∧ r.2.mem ((c.tc : Thread MixOutIdeal.nD MixOutIdeal.τ).loc MixOutIdeal.main_v0_1)
          = hidden (m ((c.tc : Thread MixOutIdeal.nD MixOutIdeal.τ).loc MixOutIdeal.main_arg0))
            (m ((c.tc : Thread MixOutIdeal.nD MixOutIdeal.τ).loc MixOutIdeal.main_arg1))
            (m ((c.tc : Thread MixOutIdeal.nD MixOutIdeal.τ).loc MixOutIdeal.main_arg2))
            (m ((c.tc : Thread MixOutIdeal.nD MixOutIdeal.τ).loc MixOutIdeal.main_arg3))
            (m ((c.tc : Thread MixOutIdeal.nD MixOutIdeal.τ).loc MixOutIdeal.main_arg4))
            (m ((c.tc : Thread MixOutIdeal.nD MixOutIdeal.τ).loc MixOutIdeal.main_arg5))
            (m ((c.tc : Thread MixOutIdeal.nD MixOutIdeal.τ).loc MixOutIdeal.main_arg6))
      ∧ r.2.mem ((c.tc : Thread MixOutIdeal.nD MixOutIdeal.τ).loc MixOutIdeal.main_arg0) = m ((c.tc : Thread MixOutIdeal.nD MixOutIdeal.τ).loc MixOutIdeal.main_arg0)
      ∧ r.2.mem ((c.tc : Thread MixOutIdeal.nD MixOutIdeal.τ).loc MixOutIdeal.main_arg1) = m ((c.tc : Thread MixOutIdeal.nD MixOutIdeal.τ).loc MixOutIdeal.main_arg1)
      ∧ r.2.mem ((c.tc : Thread MixOutIdeal.nD MixOutIdeal.τ).loc MixOutIdeal.main_arg2) = m ((c.tc : Thread MixOutIdeal.nD MixOutIdeal.τ).loc MixOutIdeal.main_arg2)
      ∧ r.2.mem ((c.tc : Thread MixOutIdeal.nD MixOutIdeal.τ).loc MixOutIdeal.main_arg3) = m ((c.tc : Thread MixOutIdeal.nD MixOutIdeal.τ).loc MixOutIdeal.main_arg3)
      ∧ r.2.mem ((c.tc : Thread MixOutIdeal.nD MixOutIdeal.τ).loc MixOutIdeal.main_arg4) = m ((c.tc : Thread MixOutIdeal.nD MixOutIdeal.τ).loc MixOutIdeal.main_arg4)
      ∧ r.2.mem ((c.tc : Thread MixOutIdeal.nD MixOutIdeal.τ).loc MixOutIdeal.main_arg5) = m ((c.tc : Thread MixOutIdeal.nD MixOutIdeal.τ).loc MixOutIdeal.main_arg5)
      ∧ r.2.mem ((c.tc : Thread MixOutIdeal.nD MixOutIdeal.τ).loc MixOutIdeal.main_arg6) = m ((c.tc : Thread MixOutIdeal.nD MixOutIdeal.τ).loc MixOutIdeal.main_arg6) := by
  refine θ_run_mono (MixOutIdeal.Value.run_blocks m ρ) fun r h c => ?_
  exact ⟨(h c).1.trans (final_stream m c), (h c).2.1.trans (final_hidden m c), (h c).2.2⟩

/-- The reference's run leaves its arguments and every counter as they were. -/
theorem reference_frame (m : (ℓ : Loc MixOutRefIdeal.nD MixOutRefIdeal.τ MixOutRefIdeal.sig) → Buf (Elt Ideal) ℓ) (ρ : Dev MixOutRefIdeal.nD → PrngReg) :
    θ_run (MixOutRefIdeal.defs (F := Ideal)) (onTc (τ := MixOutRefIdeal.τ) (MixOutRefIdeal.main (F := Ideal))) ⟨m, fun _ => 0, ρ⟩ fun r =>
      (∀ c : Dev MixOutRefIdeal.nD,
      r.2.mem ((c.tc : Thread MixOutRefIdeal.nD MixOutRefIdeal.τ).loc MixOutRefIdeal.main_arg0) = m ((c.tc : Thread MixOutRefIdeal.nD MixOutRefIdeal.τ).loc MixOutRefIdeal.main_arg0)
      ∧ r.2.mem ((c.tc : Thread MixOutRefIdeal.nD MixOutRefIdeal.τ).loc MixOutRefIdeal.main_arg1) = m ((c.tc : Thread MixOutRefIdeal.nD MixOutRefIdeal.τ).loc MixOutRefIdeal.main_arg1)
      ∧ r.2.mem ((c.tc : Thread MixOutRefIdeal.nD MixOutRefIdeal.τ).loc MixOutRefIdeal.main_arg2) = m ((c.tc : Thread MixOutRefIdeal.nD MixOutRefIdeal.τ).loc MixOutRefIdeal.main_arg2)
      ∧ r.2.mem ((c.tc : Thread MixOutRefIdeal.nD MixOutRefIdeal.τ).loc MixOutRefIdeal.main_arg3) = m ((c.tc : Thread MixOutRefIdeal.nD MixOutRefIdeal.τ).loc MixOutRefIdeal.main_arg3)
      ∧ r.2.mem ((c.tc : Thread MixOutRefIdeal.nD MixOutRefIdeal.τ).loc MixOutRefIdeal.main_arg4) = m ((c.tc : Thread MixOutRefIdeal.nD MixOutRefIdeal.τ).loc MixOutRefIdeal.main_arg4)
      ∧ r.2.mem ((c.tc : Thread MixOutRefIdeal.nD MixOutRefIdeal.τ).loc MixOutRefIdeal.main_arg5) = m ((c.tc : Thread MixOutRefIdeal.nD MixOutRefIdeal.τ).loc MixOutRefIdeal.main_arg5)
      ∧ r.2.mem ((c.tc : Thread MixOutRefIdeal.nD MixOutRefIdeal.τ).loc MixOutRefIdeal.main_arg6) = m ((c.tc : Thread MixOutRefIdeal.nD MixOutRefIdeal.τ).loc MixOutRefIdeal.main_arg6))
      ∧ r.2.sem = fun _ => 0 :=
  θ_run_mono (MixOutRefIdeal.Value.run m ρ) fun r h => ⟨fun c => (h c).2.2, sem_eq_zero_of_no_sems rfl r.2⟩

section Equal
variable {a a' f f' : FVec Ideal MixOutIdeal.S16384x1024 .bf16} {x x' : FVec Ideal MixOutIdeal.S16384x2048 .f32}
  {mod mod' : FVec Ideal MixOutIdeal.S1x12288 .f32} {og og' : FVec Ideal MixOutIdeal.S1x2048 .f32}
  {w w' : FVec Ideal MixOutIdeal.S2048x2048 .bf16} {fg fg' : FVec Ideal MixOutIdeal.S1x2048 .f32}

/-- The reference's first result from equal arguments. -/
theorem stream_eq_of (e0 : a' = a) (e1 : f' = f) (e2 : x' = x) (e3 : mod' = mod) (e4 : og' = og) (e5 : w' = w) :
    MixOutRefIdeal.Read.val_main_v36 (F := Ideal) a' f' x' mod' og' w' = stream a f x mod og w := by
  subst e0 e1 e2 e3 e4 e5
  exact reference_stream _ _ _ _ _ _

/-- The reference's second result from equal arguments. -/
theorem hidden_eq_of (e0 : a' = a) (e1 : f' = f) (e2 : x' = x) (e3 : mod' = mod) (e4 : og' = og) (e5 : w' = w) (e6 : fg' = fg) :
    MixOutRefIdeal.Read.val_main_v55 (F := Ideal) a' f' x' mod' og' w' fg' = hidden a f x mod og w fg := by
  subst e0 e1 e2 e3 e4 e5 e6
  exact reference_hidden _ _ _ _ _ _ _

end Equal

/-- The kernel and the reference end with the same two arrays. -/
theorem algebraic : Cert.algebraic_MixOutIdeal_MixOutRefIdeal := by
  intro m g m' g' _ hargs
  refine ⟨_, _, kernel_run m g, ?_⟩
  refine θ_run_mono (MixOutRefIdeal.Value.run m' g') fun r h c => ?_
  obtain ⟨h0, h1, hr⟩ := h c
  obtain ⟨a0, a1, a2, a3, a4, a5, a6⟩ := hargs c
  exact ⟨(h0.trans (MixOutRefIdeal.Read.val_main_v36_eq _ _ _ _ _ _)).trans (stream_eq_of a0 a1 a2 a3 a4 a5),
    (h1.trans (MixOutRefIdeal.Read.val_main_v55_eq m' c)).trans (hidden_eq_of a0 a1 a2 a3 a4 a5 a6), hr⟩

end Cert.Mixing
end
-- ==== Proof.RopeArray.lean ====
/- The rotary angles' call: what it computes, said once for the kernel and for the reference, and the kernel's two result arrays.

   Entry `(j, i)` of the tables is the cosine, and the sine, of the position `i` is at times the `j`-th frequency. -/
module

public import proofs.«01_k».proof.Proof.GatedSpec
public import proofs.«01_k».proof.Proof.Gen.RopeIdeal.Skeleton
public import proofs.«01_k».proof.Proof.Gen.RopeIdeal.Frame

@[expose] public section

noncomputable section

namespace Cert.Angles
open Idealize.ShloMosaic Idealize.ShloMosaic.TcCoe Idealize.SL.Sem Cert.RopeIdeal Cert.RopeIdeal.Gen Cert.Gated

set_option maxRecDepth 16384

/-- The 32 frequencies: the printed 10000 to the power `-j / 32`. -/
def frequencies : FVec Ideal S32 .f32 :=
  Host.powf (broadcastInDim S32 ![] bcast_S_S32 (constant (F := Ideal) S_ .f32 0x461C4000#32))
    (Host.divf (Host.negf (sitofp .f32 (iotaInDim S32 32 0))) (broadcastInDim S32 ![] bcast_S_S32 (constant (F := Ideal) S_ .f32 0x42000000#32)))

section Spec
variable (pos : FVec Ideal S16384 .f32)

/-- The angle of frequency `j` at position entry `i`. -/
def angle (j : Fin 32) (i : Fin 16384) : EReal := frequencies (ix1 j) * pos (ix1 i)

/-- The table of cosines. -/
def cosines : FVec Ideal S32x16384 .f32 := fun y => Ideal.cos (angle pos ⟨(y 0).val, (y 0).isLt⟩ ⟨(y 1).val, (y 1).isLt⟩)

/-- The table of sines. -/
def sines : FVec Ideal S32x16384 .f32 := fun y => Ideal.sin (angle pos ⟨(y 0).val, (y 0).isLt⟩ ⟨(y 1).val, (y 1).isLt⟩)

end Spec

/-! ## One block of 2048 columns -/

/-- The cosines of a block. -/
theorem block_cos (x0 : Vec Ideal S1x2048 .f32) (x1 : Vec Ideal S32x1 .f32) (r : Fin 32) (d : Fin 2048) :
    out0_2 (F := Ideal) x0 x1 (ix2 r d) = Ideal.cos (x1 (ix2 r 0) * x0 (ix2 0 d)) := by
  frame_out
  pointwise [k0_pay2, k0_pay1]

/-- The sines of a block. -/
theorem block_sin (x0 : Vec Ideal S1x2048 .f32) (x1 : Vec Ideal S32x1 .f32) (r : Fin 32) (d : Fin 2048) :
    out0_3 (F := Ideal) x0 x1 (ix2 r d) = Ideal.sin (x1 (ix2 r 0) * x0 (ix2 0 d)) := by
  frame_out
  pointwise [k0_pay3, k0_pay1]

/-! ## Where the blocks lie -/

theorem index0 : ∀ t : Fin grid0.N, cc0_transform_0 (grid0.coords t) = ![0, t.val] := by decide +kernel
theorem index1 : ∀ t : Fin grid0.N, cc0_transform_1 (grid0.coords t) = ![0, 0] := by decide +kernel
theorem index2 : ∀ t : Fin grid0.N, cc0_transform_2 (grid0.coords t) = ![0, t.val] := by decide +kernel
theorem index3 : ∀ t : Fin grid0.N, cc0_transform_3 (grid0.coords t) = ![0, t.val] := by decide +kernel

variable (m : (ℓ : Loc nD τ sig) → Buf (Elt Ideal) ℓ) (c : Dev nD)

theorem point_lt (t : Fin cfg0.N) : t.val < 8 := t.isLt

/-- Column `d` of a point's block. -/
def columnOf (t : Fin cfg0.N) (d : Fin 2048) : Fin 16384 := ⟨t.val * 2048 + d.val, by have := point_lt t; omega⟩

/-- The positions as the call finds them: one row of the argument. -/
theorem position_row : V m c main_v6 = shapeCast (α := EReal) S1x16384 (m ((c : Thread nD τ).loc main_arg0)) shapeCasts_S16384_S1x16384 := by
  rfl

/-- The frequencies as the call finds them: one column. -/
theorem frequency_column : V m c main_v7 = shapeCast S32x1 frequencies shapeCasts_S32_S32x1 := by
  rfl

theorem position (t : Fin cfg0.N) (d : Fin 2048) :
    iblk m c 0 t (ix2 0 d) = V m c main_v6 (ix2 0 (columnOf t d)) := by
  blk_ext [iblk, columnOf]
  · exact congrFun (index0 t) 0
  · exact congrArg (· * 2048 + d.val) (congrFun (index0 t) 1)

theorem frequency (t : Fin cfg0.N) (r : Fin 32) : iblk m c 1 t (ix2 r 0) = V m c main_v7 (ix2 r 0) := by
  blk_ext [iblk]
  · exact (congrArg (· * 32 + r.val) (congrFun (index1 t) 0)).trans (by simp)
  · exact congrFun (index1 t) 1

theorem place2 (t : Fin cfg0.N) (r : Fin 32) (d : Fin 2048) :
    ((cfg0.win 2).blk t).view.emb (ix2 r d) = ix2 r (columnOf t d) := by
  blk_ext [columnOf]
  · exact (congrArg (· * 32 + r.val) (congrFun (index2 t) 0)).trans (by simp)
  · exact congrArg (· * 2048 + d.val) (congrFun (index2 t) 1)

theorem place3 (t : Fin cfg0.N) (r : Fin 32) (d : Fin 2048) :
    ((cfg0.win 3).blk t).view.emb (ix2 r d) = ix2 r (columnOf t d) := by
  blk_ext [columnOf]
  · exact (congrArg (· * 32 + r.val) (congrFun (index3 t) 0)).trans (by simp)
  · exact congrArg (· * 2048 + d.val) (congrFun (index3 t) 1)

/-- A row's entries. -/
theorem row_entry (x : FVec Ideal S16384 .f32) (k : Fin 16384) :
    shapeCast (α := EReal) S1x16384 x shapeCasts_S16384_S1x16384 (ix2 0 k) = x (ix1 k) := by
  pointwise []

/-- A column's entries. -/
theorem column_entry (x : FVec Ideal S32 .f32) (k : Fin 32) :
    shapeCast (α := EReal) S32x1 x shapeCasts_S32_S32x1 (ix2 k 0) = x (ix1 k) := by
  pointwise []

/-- A point's angle. -/
theorem angle_point (t : Fin cfg0.N) (r : Fin 32) (d : Fin 2048) :
    HMul.hMul (α := EReal) (β := EReal) (γ := EReal) (iblk m c 1 t (ix2 r 0)) (iblk m c 0 t (ix2 0 d)) = angle (m ((c : Thread nD τ).loc main_arg0)) r (columnOf t d) := by
  rw [position, frequency, position_row, frequency_column]
  exact congrArg₂ (· * ·) (column_entry _ _) (row_entry _ _)

/-! ## The arrays -/

/-- The first result array. -/
theorem final_cosines : (dats m 0 c).arrAt 2 cfg0.N = cosines (m ((c : Thread nD τ).loc main_arg0)) := by
  refine (dats m 0 c).arrAt_eq_of_covers 2 _ (by decide +kernel) fun t hf y => ?_
  blk_simp
  rw [after0_2]
  obtain ⟨r, d, rfl⟩ : ∃ r d, y = ix2 r d := ⟨_, _, eq_ix2 y⟩
  rw [place2]
  exact (block_cos _ _ r d).trans (congrArg Ideal.cos (angle_point m c t r d))

/-- The second result array. -/
theorem final_sines : (dats m 0 c).arrAt 3 cfg0.N = sines (m ((c : Thread nD τ).loc main_arg0)) := by
  refine (dats m 0 c).arrAt_eq_of_covers 3 _ (by decide +kernel) fun t hf y => ?_
  blk_simp
  rw [after0_3]
  obtain ⟨r, d, rfl⟩ : ∃ r d, y = ix2 r d := ⟨_, _, eq_ix2 y⟩
  rw [place3]
  exact (block_sin _ _ r d).trans (congrArg Ideal.sin (angle_point m c t r d))

end Cert.Angles
end
-- ==== Proof.RopeClaim.lean ====
/- The rotary angles' tables: the reference's two arrays, the two runs, and the claim that they agree. -/
module

public import proofs.«01_k».proof.Defs
public import proofs.«01_k».proof.Proof.RopeArray
public import proofs.«01_k».proof.Proof.Gen.RopeIdeal.Value
public import proofs.«01_k».proof.Proof.Gen.RopeRefIdeal.Run
public import proofs.«01_k».proof.Proof.Gen.RopeRefIdeal.Read
public import Idealize.ShloMosaic.Lib.Quiescent
public import Idealize.ShloMosaic.Lib.Claim

@[expose] public section

noncomputable section

namespace Cert.Angles
open Idealize.ShloMosaic Idealize.ShloMosaic.TcCoe Idealize.SL.Sem Cert.Gated

section Reference
open Cert.RopeRefIdeal.Read
variable (pos : FVec Ideal RopeRefIdeal.S16384 .f32)

/-- The reference's frequencies are the kernel's. -/
theorem same_frequencies : val_main_v5 (F := Ideal) = frequencies := rfl

/-- The reference's angle, position by frequency. -/
theorem reference_angle (i : Fin 16384) (j : Fin 32) : val_main_v10 (F := Ideal) pos (ix2 i j) = angle pos j i := by
  unfold angle
  rw [← same_frequencies]
  refine Eq.trans ?_ (mul_comm _ _)
  pointwise [val_main_v10, val_main_v9, val_main_v8, val_main_v7, val_main_v6]

/-- The reference's cosines. -/
theorem reference_cosines : val_main_v12 (F := Ideal) pos = cosines pos := by
  funext y
  idx_vars y
  unfold cosines
  simp only [← reference_angle]
  pointwise [val_main_v12, val_main_v11]

/-- The reference's sines. -/
theorem reference_sines : val_main_v14 (F := Ideal) pos = sines pos := by
  funext y
  idx_vars y
  unfold sines
  simp only [← reference_angle]
  pointwise [val_main_v14, val_main_v13]

/-- The reference's cosines from an equal argument. -/
theorem cosines_eq_of {pos' : FVec Ideal RopeRefIdeal.S16384 .f32} (e : pos' = pos) : val_main_v12 (F := Ideal) pos' = cosines pos := by
  subst e
  exact reference_cosines _

/-- The reference's sines from an equal argument. -/
theorem sines_eq_of {pos' : FVec Ideal RopeRefIdeal.S16384 .f32} (e : pos' = pos) : val_main_v14 (F := Ideal) pos' = sines pos := by
  subst e
  exact reference_sines _

end Reference

/-- The kernel's run: the two tables, and the positions unchanged. -/
theorem kernel_run (m : (ℓ : Loc RopeIdeal.nD RopeIdeal.τ RopeIdeal.sig) → Buf (Elt Ideal) ℓ) (ρ : Dev RopeIdeal.nD → PrngReg) :
    θ_run (RopeIdeal.defs (F := Ideal)) (onTc (τ := RopeIdeal.τ) (RopeIdeal.main (F := Ideal))) ⟨m, fun _ => 0, ρ⟩ fun r =>
      ∀ c : Dev RopeIdeal.nD,
      r.2.mem ((c.tc : Thread RopeIdeal.nD RopeIdeal.τ).loc RopeIdeal.main_v8_0)
          = cosines (m ((c.tc : Thread RopeIdeal.nD RopeIdeal.τ).loc RopeIdeal.main_arg0))
      ∧ r.2.mem ((c.tc : Thread RopeIdeal.nD RopeIdeal.τ).loc RopeIdeal.main_v8_1)
          = sines (m ((c.tc : Thread RopeIdeal.nD RopeIdeal.τ).loc RopeIdeal.main_arg0))
      ∧ r.2.mem ((c.tc : Thread RopeIdeal.nD RopeIdeal.τ).loc RopeIdeal.main_arg0) = m ((c.tc : Thread RopeIdeal.nD RopeIdeal.τ).loc RopeIdeal.main_arg0) := by
  refine θ_run_mono (RopeIdeal.Value.run_blocks m ρ) fun r h c => ?_
  exact ⟨(h c).1.trans (final_cosines m c), (h c).2.1.trans (final_sines m c), (h c).2.2⟩

/-- The reference's run leaves its argument and every counter as they were. -/
theorem reference_frame (m : (ℓ : Loc RopeRefIdeal.nD RopeRefIdeal.τ RopeRefIdeal.sig) → Buf (Elt Ideal) ℓ) (ρ : Dev RopeRefIdeal.nD → PrngReg) :
    θ_run (RopeRefIdeal.defs (F := Ideal)) (onTc (τ := RopeRefIdeal.τ) (RopeRefIdeal.main (F := Ideal))) ⟨m, fun _ => 0, ρ⟩ fun r =>
      (∀ c : Dev RopeRefIdeal.nD,
      r.2.mem ((c.tc : Thread RopeRefIdeal.nD RopeRefIdeal.τ).loc RopeRefIdeal.main_arg0) = m ((c.tc : Thread RopeRefIdeal.nD RopeRefIdeal.τ).loc RopeRefIdeal.main_arg0))
      ∧ r.2.sem = fun _ => 0 :=
  θ_run_mono (RopeRefIdeal.Value.run m ρ) fun r h => ⟨fun c => (h c).2.2, sem_eq_zero_of_no_sems rfl r.2⟩

/-- The kernel and the reference end with the same two tables. -/
theorem algebraic : Cert.algebraic_RopeIdeal_RopeRefIdeal := by
  intro m g m' g' _ hargs
  refine ⟨_, _, kernel_run m g, ?_⟩
  refine θ_run_mono (RopeRefIdeal.Value.run m' g') fun r h c => ?_
  obtain ⟨h0, h1, hr⟩ := h c
  exact ⟨(h0.trans (RopeRefIdeal.Read.val_main_v12_eq _)).trans (cosines_eq_of _ (hargs c)),
    (h1.trans (RopeRefIdeal.Read.val_main_v14_eq _)).trans (sines_eq_of _ (hargs c)), hr⟩

end Cert.Angles
end
-- ==== Proof.FfnBlock.lean ====
/- The dense feed-forward call: what the pieces of its body compute, from the stored expressions.

   A block of 512 rows `H` meets one block of 512 hidden units (`Wg`, `Wu`, `Wd`) at a time; the result window collects the sum. -/
module

public import proofs.«01_k».proof.Proof.GatedSpec
public import proofs.«01_k».proof.Proof.Gen.FfnIdeal.Frame

@[expose] public section

noncomputable section

namespace Cert.FeedForward
open Idealize.ShloMosaic Idealize.ShloMosaic.TcCoe Idealize.SL.Sem Cert.FfnIdeal Cert.FfnIdeal.Gen Cert.Gated

set_option maxRecDepth 16384

/-- What one block of hidden units adds to row `r`, column `d`. -/
def part (H : Vec Ideal S512x2048 .bf16) (Wg Wu : Vec Ideal S2048x512 .bf16) (Wd : Vec Ideal S512x2048 .bf16) (r : Fin 512)
    (d : Fin 2048) : EReal :=
  ∑ u : Fin 512, gate (∑ k : Fin 2048, H (ix2 r k) * Wg (ix2 k u)) (∑ k : Fin 2048, H (ix2 r k) * Wu (ix2 k u)) * Wd (ix2 u d)

/-- The residual stream `a` plus the gate `b` times the sum `s`. -/
def gated (a b s : EReal) : EReal := a + b * s

/-- The cleared window. -/
theorem cleared (y : S512x2048.Idx) : k0_pay1 (F := Ideal) y = 0 := by
  idx_vars y
  pointwise [k0_pay1]

/-- One block of hidden units is added. -/
theorem accumulate (H : Vec Ideal S512x2048 .bf16) (Wg Wu : Vec Ideal S2048x512 .bf16) (A : Vec Ideal S512x2048 .f32)
    (Wd : Vec Ideal S512x2048 .bf16) (r : Fin 512) (d : Fin 2048) :
    k0_pay2 (F := Ideal) H Wg Wu A Wd (ix2 r d) = A (ix2 r d) + part H Wg Wu Wd r d := by
  pointwise [k0_pay2]
  simp only [part, gate, zero_sub]

/-- The last step: the residual stream plus the gate's row times the sum. -/
theorem finish (X : Vec Ideal S512x2048 .f32) (M : Vec Ideal S1x2048 .f32) (A : Vec Ideal S512x2048 .f32) (r : Fin 512)
    (d : Fin 2048) : k0_pay3 (F := Ideal) X M A (ix2 r d) = X (ix2 r d) + M (ix2 0 d) * A (ix2 r d) := by
  pointwise [k0_pay3]

/-! ## The three kinds of points -/

variable (c : Dev nD) (i : grid0.Coords)
  (arg2 : Memref sig .tc .vmem S512x2048 .bf16) (harg2 : arg2.IsWhole)
  (arg3 : Memref sig .tc .vmem S512x2048 .f32) (harg3 : arg3.IsWhole)
  (arg4 : Memref sig .tc .vmem S1x12288 .f32) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S512x2048 .bf16) (harg7 : arg7.IsWhole)
  (arg8 : Memref sig .tc .vmem S512x2048 .f32) (harg8 : arg8.IsWhole)
  (x0 : Vec Ideal S512x2048 .bf16) (x1 : Vec Ideal S512x2048 .f32) (x2 : Vec Ideal S1x12288 .f32) (x3 : Vec Ideal S2048x512 .bf16)
  (x4 : Vec Ideal S2048x512 .bf16) (x5 : Vec Ideal S512x2048 .bf16) (xo : Vec Ideal S512x2048 .f32)

/-- The first block of hidden units: the window is cleared first. -/
theorem first_block (hc0 : cond0_0 i) (hc1 : ¬cond0_1 i) (r : Fin 512) (d : Fin 2048) :
    out0_A_6 (F := Ideal) c i arg2 harg2 arg3 harg3 arg4 harg4 arg5 harg5 arg6 harg6 arg7 harg7 arg8 harg8
      hc0 hc1 x0 x1 x2 x3 x4 x5 (ix2 r d) = part x0 x3 x4 x5 r d := by
  frame_out
  rw [accumulate, cleared, zero_add]

/-- A block of hidden units in between. -/
theorem middle_block (hc0 : ¬cond0_0 i) (hc1 : ¬cond0_1 i) (r : Fin 512) (d : Fin 2048) :
    out0_B_6 (F := Ideal) c i arg2 harg2 arg3 harg3 arg4 harg4 arg5 harg5 arg6 harg6 arg7 harg7 arg8 harg8
      hc0 hc1 x0 x1 x2 x3 x4 x5 xo (ix2 r d) = xo (ix2 r d) + part x0 x3 x4 x5 r d := by
  frame_out
  rw [accumulate]

/-- The last block of hidden units: the sum is gated and added to the residual stream. -/
theorem last_block (hc0 : ¬cond0_0 i) (hc1 : cond0_1 i) (r : Fin 512) (d : Fin 2048) :
    out0_C_6 (F := Ideal) c i arg2 harg2 arg3 harg3 arg4 harg4 arg5 harg5 arg6 harg6 arg7 harg7 arg8 harg8
      hc0 hc1 x0 x1 x2 x3 x4 x5 xo (ix2 r d)
      = gated (x1 (ix2 r d)) (x2 (ix2 0 ⟨10240 + d.val, by omega⟩)) (xo (ix2 r d) + part x0 x3 x4 x5 r d) := by
  frame_out
  rw [finish, accumulate]
  unfold gated
  pointwise []

end Cert.FeedForward
end
-- ==== Proof.FfnArray.lean ====
/- The dense feed-forward call's result array: every row of the residual stream plus its gated feed-forward. -/
module

public import proofs.«01_k».proof.Proof.FfnBlock

@[expose] public section

noncomputable section

namespace Cert.FeedForward
open Idealize.ShloMosaic Idealize.ShloMosaic.TcCoe Idealize.SL.Sem Cert.FfnIdeal Cert.FfnIdeal.Gen Cert.Gated

set_option maxRecDepth 16384

/-! ## The specification -/

/-- Hidden unit `n`, for `n` below 5632. -/
def unit (n : ℕ) : Fin 5632 := ⟨n % 5632, Nat.mod_lt _ (by decide)⟩

theorem unit_mk {n : ℕ} (h : n < 5632) : (⟨n, h⟩ : Fin 5632) = unit n := Fin.ext (Nat.mod_eq_of_lt h).symm

theorem unit_val (f : Fin 5632) : unit f.val = f := Fin.ext (Nat.mod_eq_of_lt f.isLt)

section Spec
variable (h : FVec Ideal S16384x2048 .bf16) (x : FVec Ideal S16384x2048 .f32) (mod : FVec Ideal S1x12288 .f32)
  (wg wu : FVec Ideal S2048x5632 .bf16) (wd : FVec Ideal S5632x2048 .bf16)

/-- Hidden unit `f` of row `i`, times its weight to column `d`. -/
def term (i : Fin 16384) (d : Fin 2048) (f : Fin 5632) : EReal :=
  gate (∑ k : Fin 2048, h (ix2 i k) * wg (ix2 k f)) (∑ k : Fin 2048, h (ix2 i k) * wu (ix2 k f)) * wd (ix2 f d)

/-- `x + mod · ((silu(h wg) · (h wu)) wd)`, where `mod` is the last sixth of the modulation row. -/
def result : FVec Ideal S16384x2048 .f32 := fun y =>
  gated (x y) (mod (ix2 0 ⟨10240 + (y 1).val, by have := (y 1).isLt; exact Nat.add_lt_add_left this 10240⟩))
    (∑ f : Fin 5632, term h wg wu wd ⟨(y 0).val, (y 0).isLt⟩ ⟨(y 1).val, (y 1).isLt⟩ f)

end Spec

/-! ## Where the blocks lie -/

theorem index0 : ∀ t : Fin grid0.N, cc0_transform_0 (grid0.coords t) = ![t.val / 11, 0] := by decide +kernel
theorem index1 : ∀ t : Fin grid0.N, cc0_transform_1 (grid0.coords t) = ![t.val / 11, 0] := by decide +kernel
theorem index2 : ∀ t : Fin grid0.N, cc0_transform_2 (grid0.coords t) = ![0, 0] := by decide +kernel
theorem index3 : ∀ t : Fin grid0.N, cc0_transform_3 (grid0.coords t) = ![0, t.val % 11] := by decide +kernel
theorem index4 : ∀ t : Fin grid0.N, cc0_transform_4 (grid0.coords t) = ![0, t.val % 11] := by decide +kernel
theorem index5 : ∀ t : Fin grid0.N, cc0_transform_5 (grid0.coords t) = ![t.val % 11, 0] := by decide +kernel
theorem index6 : ∀ t : Fin grid0.N, cc0_transform_6 (grid0.coords t) = ![t.val / 11, 0] := by decide +kernel

variable (m : (ℓ : Loc nD τ sig) → Buf (Elt Ideal) ℓ) (c : Dev nD)

theorem point_lt (t : Fin cfg0.N) : t.val < 352 := t.isLt

/-- Row `r` of a point's block. -/
def rowOf (t : Fin cfg0.N) (r : Fin 512) : Fin 16384 := ⟨t.val / 11 * 512 + r.val, by have := point_lt t; omega⟩
/-- Hidden unit `u` of a point's block. -/
def unitOf (t : Fin cfg0.N) (u : Fin 512) : Fin 5632 := ⟨t.val % 11 * 512 + u.val, by omega⟩

theorem rows (t : Fin cfg0.N) (r : Fin 512) (k : Fin 2048) :
    iblk m c 0 t (ix2 r k) = V m c main_arg0 (ix2 (rowOf t r) k) := by
  blk_ext [iblk, rowOf]
  · exact congrArg (· * 512 + r.val) (congrFun (index0 t) 0)
  · exact (congrArg (· * 2048 + k.val) (congrFun (index0 t) 1)).trans (by simp)

theorem stream (t : Fin cfg0.N) (r : Fin 512) (k : Fin 2048) :
    iblk m c 1 t (ix2 r k) = V m c main_arg1 (ix2 (rowOf t r) k) := by
  blk_ext [iblk, rowOf]
  · exact congrArg (· * 512 + r.val) (congrFun (index1 t) 0)
  · exact (congrArg (· * 2048 + k.val) (congrFun (index1 t) 1)).trans (by simp)

theorem modulation (t : Fin cfg0.N) (k : Fin 12288) : iblk m c 2 t (ix2 0 k) = V m c main_arg2 (ix2 0 k) := by
  blk_ext [iblk]
  · exact congrFun (index2 t) 0
  · exact (congrArg (· * 12288 + k.val) (congrFun (index2 t) 1)).trans (by simp)

theorem gates (t : Fin cfg0.N) (k : Fin 2048) (u : Fin 512) :
    iblk m c 3 t (ix2 k u) = V m c main_arg3 (ix2 k (unitOf t u)) := by
  blk_ext [iblk, unitOf]
  · exact (congrArg (· * 2048 + k.val) (congrFun (index3 t) 0)).trans (by simp)
  · exact congrArg (· * 512 + u.val) (congrFun (index3 t) 1)

theorem ups (t : Fin cfg0.N) (k : Fin 2048) (u : Fin 512) :
    iblk m c 4 t (ix2 k u) = V m c main_arg4 (ix2 k (unitOf t u)) := by
  blk_ext [iblk, unitOf]
  · exact (congrArg (· * 2048 + k.val) (congrFun (index4 t) 0)).trans (by simp)
  · exact congrArg (· * 512 + u.val) (congrFun (index4 t) 1)

theorem downs (t : Fin cfg0.N) (u : Fin 512) (d : Fin 2048) :
    iblk m c 5 t (ix2 u d) = V m c main_arg5 (ix2 (unitOf t u) d) := by
  blk_ext [iblk, unitOf]
  · exact congrArg (· * 512 + u.val) (congrFun (index5 t) 0)
  · exact (congrArg (· * 2048 + d.val) (congrFun (index5 t) 1)).trans (by simp)

theorem place (t : Fin cfg0.N) (r : Fin 512) (d : Fin 2048) :
    ((cfg0.win 6).blk t).view.emb (ix2 r d) = ix2 (rowOf t r) d := by
  blk_ext [rowOf]
  · exact congrArg (· * 512 + r.val) (congrFun (index6 t) 0)
  · exact (congrArg (· * 2048 + d.val) (congrFun (index6 t) 1)).trans (by simp)

/-! ## The sum over the blocks of hidden units -/

/-- A part in terms of the whole arrays. -/
theorem part_eq {h : FVec Ideal S16384x2048 .bf16} {wg wu : FVec Ideal S2048x5632 .bf16} {wd : FVec Ideal S5632x2048 .bf16}
    {H : Vec Ideal S512x2048 .bf16} {Wg Wu : Vec Ideal S2048x512 .bf16} {Wd : Vec Ideal S512x2048 .bf16} (row : Fin 512 → Fin 16384)
    (j : ℕ) (un : Fin 512 → Fin 5632) (hu : ∀ u, un u = unit (j * 512 + u.val))
    (hH : ∀ r k, H (ix2 r k) = h (ix2 (row r) k)) (hg : ∀ k u, Wg (ix2 k u) = wg (ix2 k (un u)))
    (hw : ∀ k u, Wu (ix2 k u) = wu (ix2 k (un u))) (hd : ∀ u d, Wd (ix2 u d) = wd (ix2 (un u) d)) (r : Fin 512) (d : Fin 2048) :
    part H Wg Wu Wd r d = ∑ u : Fin 512, term h wg wu wd (row r) d (unit (j * 512 + u.val)) := by
  unfold part term
  simp only [hH, hg, hw, hd, hu]

/-- What a point adds. -/
def added (t : Fin cfg0.N) (j : ℕ) (r : Fin 512) (d : Fin 2048) : EReal :=
  ∑ u : Fin 512, term (V m c main_arg0) (V m c main_arg3) (V m c main_arg4) (V m c main_arg5) (rowOf t r) d (unit (j * 512 + u.val))

theorem part_at (t : Fin cfg0.N) (r : Fin 512) (d : Fin 2048) :
    part (iblk m c 0 t) (iblk m c 3 t) (iblk m c 4 t) (iblk m c 5 t) r d = added m c t (t.val % 11) r d :=
  part_eq (rowOf t) _ (unitOf t) (fun u => unit_mk _) (rows m c t) (gates m c t) (ups m c t) (downs m c t) r d

theorem outs_first (t : Fin cfg0.N) (h0 : t.val % 11 = 0) (r : Fin 512) (d : Fin 2048) :
    outsAt0 m c t.val t.isLt (ix2 r d) = added m c t (t.val % 11) r d :=
  (congrFun (outsAt0_A m c t h0 (by omega)) (ix2 r d)).trans
    ((first_block c (grid0.coords t) (ms0_0 t) (hs0_0 t) (ms0_1 t) (hs0_1 t) (ms0_2 t) (hs0_2 t) (ms0_3 t) (hs0_3 t) (ms0_4 t)
      (hs0_4 t) (ms0_5 t) (hs0_5 t) (ms0_6 t) (hs0_6 t) (iblk m c 0 t) (iblk m c 1 t) (iblk m c 2 t) (iblk m c 3 t) (iblk m c 4 t)
      (iblk m c 5 t) _ _ r d).trans (part_at m c t r d))

theorem outs_middle (t : Fin cfg0.N) (h0 : ¬t.val % 11 = 0) (h1 : ¬t.val % 11 = 10) (r : Fin 512) (d : Fin 2048) :
    outsAt0 m c t.val t.isLt (ix2 r d)
      = outsAt0 m c (t.val - 1) (Nat.lt_of_le_of_lt (Nat.sub_le _ _) t.isLt) (ix2 r d) + added m c t (t.val % 11) r d :=
  (congrFun (outsAt0_B m c t h0 h1) (ix2 r d)).trans
    ((middle_block c (grid0.coords t) (ms0_0 t) (hs0_0 t) (ms0_1 t) (hs0_1 t) (ms0_2 t) (hs0_2 t) (ms0_3 t) (hs0_3 t) (ms0_4 t)
      (hs0_4 t) (ms0_5 t) (hs0_5 t) (ms0_6 t) (hs0_6 t) (iblk m c 0 t) (iblk m c 1 t) (iblk m c 2 t) (iblk m c 3 t) (iblk m c 4 t)
      (iblk m c 5 t) _ _ _ r d).trans (congrArg (_ + ·) (part_at m c t r d)))

theorem outs_last (t : Fin cfg0.N) (h1 : t.val % 11 = 10) (r : Fin 512) (d : Fin 2048) :
    outsAt0 m c t.val t.isLt (ix2 r d)
      = gated (V m c main_arg1 (ix2 (rowOf t r) d)) (V m c main_arg2 (ix2 0 ⟨10240 + d.val, by omega⟩))
        (outsAt0 m c (t.val - 1) (Nat.lt_of_le_of_lt (Nat.sub_le _ _) t.isLt) (ix2 r d) + added m c t (t.val % 11) r d) :=
  (congrFun (outsAt0_C m c t (by omega) h1) (ix2 r d)).trans
    ((last_block c (grid0.coords t) (ms0_0 t) (hs0_0 t) (ms0_1 t) (hs0_1 t) (ms0_2 t) (hs0_2 t) (ms0_3 t) (hs0_3 t) (ms0_4 t)
      (hs0_4 t) (ms0_5 t) (hs0_5 t) (ms0_6 t) (hs0_6 t) (iblk m c 0 t) (iblk m c 1 t) (iblk m c 2 t) (iblk m c 3 t) (iblk m c 4 t)
      (iblk m c 5 t) _ _ _ r d).trans
      (congr (congr (congrArg gated (stream m c t r d)) (modulation m c t _)) (congrArg (_ + ·) (part_at m c t r d))))

/-- Before the last block of hidden units the window holds the sum so far. -/
theorem outs_sum (n : ℕ) : ∀ (hn : n < cfg0.N), n % 11 ≠ 10 → ∀ (r : Fin 512) (d : Fin 2048),
    outsAt0 m c n hn (ix2 r d) = ∑ j ∈ Finset.range (n % 11 + 1), added m c ⟨n, hn⟩ j r d := by
  induction n with
  | zero => intro hn _ r d; exact (outs_first m c ⟨0, hn⟩ rfl r d).trans (by simp)
  | succ n ih =>
    intro hn h1 r d
    by_cases h0 : (n + 1) % 11 = 0
    · exact (outs_first m c ⟨n + 1, hn⟩ h0 r d).trans (by simp [h0])
    · have hp : n % 11 + 1 = (n + 1) % 11 := by omega
      have hrow : rowOf ⟨n, (Nat.lt_succ_self n).trans hn⟩ r = rowOf ⟨n + 1, hn⟩ r := Fin.ext (by
        show n / 11 * 512 + r.val = (n + 1) / 11 * 512 + r.val
        omega)
      have hadd : ∀ j, added m c ⟨n, (Nat.lt_succ_self n).trans hn⟩ j r d = added m c ⟨n + 1, hn⟩ j r d := fun j => by
        unfold added
        rw [hrow]
      refine (outs_middle m c ⟨n + 1, hn⟩ h0 h1 r d).trans ?_
      rw [Finset.sum_range_succ]
      refine congrArg (· + _) ((ih ((Nat.lt_succ_self n).trans hn) (by omega) r d).trans ?_)
      rw [hp]
      exact Finset.sum_congr rfl fun j _ => hadd j

/-- What a last point leaves: the specification's block. -/
theorem outs_result (t : Fin cfg0.N) (h1 : t.val % 11 = 10) (r : Fin 512) (d : Fin 2048) :
    outsAt0 m c t.val t.isLt (ix2 r d)
      = result (V m c main_arg0) (V m c main_arg1) (V m c main_arg2) (V m c main_arg3) (V m c main_arg4) (V m c main_arg5)
        (ix2 (rowOf t r) d) := by
  have ht := point_lt t
  have hrow : rowOf ⟨t.val - 1, Nat.lt_of_le_of_lt (Nat.sub_le _ _) t.isLt⟩ r = rowOf t r := Fin.ext (by
    show (t.val - 1) / 11 * 512 + r.val = t.val / 11 * 512 + r.val
    omega)
  have e := outs_sum m c (t.val - 1) (Nat.lt_of_le_of_lt (Nat.sub_le _ _) t.isLt) (by omega) r d
  have hadd : ∀ j, added m c ⟨t.val - 1, Nat.lt_of_le_of_lt (Nat.sub_le _ _) t.isLt⟩ j r d = added m c t j r d := fun j => by
    unfold added
    rw [hrow]
  have hs : (t.val - 1) % 11 + 1 = 10 := by omega
  rw [hs] at e
  have e2 : outsAt0 m c (t.val - 1) (Nat.lt_of_le_of_lt (Nat.sub_le _ _) t.isLt) (ix2 r d) + added m c t (t.val % 11) r d
      = ∑ j ∈ Finset.range 11, added m c t j r d := by
    rw [Finset.sum_range_succ, h1]
    exact congrArg (· + _) (e.trans (Finset.sum_congr rfl fun j _ => hadd j))
  refine (outs_last m c t h1 r d).trans ?_
  refine (congrArg (gated _ _) (e2.trans (sum_pieces (N := 5632) rfl fun n =>
      term (V m c main_arg0) (V m c main_arg3) (V m c main_arg4) (V m c main_arg5) (rowOf t r) d (unit n)))).trans ?_
  simp only [unit_val]
  rfl

/-- The result array. -/
theorem final : (dats m 0 c).arrAt 6 cfg0.N
    = result (V m c main_arg0) (V m c main_arg1) (V m c main_arg2) (V m c main_arg3) (V m c main_arg4) (V m c main_arg5) := by
  refine (dats m 0 c).arrAt_eq_of_covers 6 _ (by decide +kernel) fun t hf y => ?_
  blk_simp
  rw [after0_6]
  obtain ⟨r, d, rfl⟩ : ∃ r d, y = ix2 r d := ⟨_, _, eq_ix2 y⟩
  rw [place]
  exact outs_result m c t ((flush0_6 t).mp hf) r d

end Cert.FeedForward
end
-- ==== Proof.FfnReference.lean ====
/- What the reference's dense feed-forward program computes: its result array is `Cert.FeedForward.result` of its arguments. -/
module

public import proofs.«01_k».proof.Proof.FfnArray
public import proofs.«01_k».proof.Proof.Gen.FfnRefIdeal.Read

@[expose] public section

noncomputable section

namespace Cert.FeedForward
open Idealize.ShloMosaic Cert.FfnRefIdeal Cert.FfnRefIdeal.Gen Cert.FfnRefIdeal.Read Cert.Gated

/-- Hidden unit `f` of row `i`. -/
theorem hidden_eq (h : FVec Ideal S16384x2048 .bf16) (wg wu : FVec Ideal S2048x5632 .bf16) (i : Fin 16384) (f : Fin 5632) :
    val_main_v7 (F := Ideal) h wg wu (ix2 i f)
      = gate (∑ k : Fin 2048, h (ix2 i k) * wg (ix2 k f)) (∑ k : Fin 2048, h (ix2 i k) * wu (ix2 k f)) := by
  unfold gate
  pointwise [val_main_v7, val_main_v6, val_main_v5, val_main_v4, val_main_v3, val_main_v2, val_main_v0, val_main_call0_v0,
    val_main_call0_v1, val_main_call0_v2, val_main_call0_v3, val_main_call0_v4, val_main_call0_v5, val_main_call0_cst,
    val_main_call0_cst_0]

/-- The reference's result array. -/
theorem reference_eq (h : FVec Ideal S16384x2048 .bf16) (x : FVec Ideal S16384x2048 .f32) (mod : FVec Ideal S1x12288 .f32)
    (wg wu : FVec Ideal S2048x5632 .bf16) (wd : FVec Ideal S5632x2048 .bf16) :
    val_main_v12 (F := Ideal) h x mod wg wu wd = result h x mod wg wu wd := by
  funext y
  idx_vars y
  unfold result gated term
  pointwise [val_main_v12, val_main_v11, val_main_v10, val_main_v9, val_main_v8, val_main_v1]
  simp only [hidden_eq]

end Cert.FeedForward
end
-- ==== Proof.FfnClaim.lean ====
/- The dense feed-forward's two runs, and the claim that they agree. -/
module

public import proofs.«01_k».proof.Defs
public import proofs.«01_k».proof.Proof.FfnArray
public import proofs.«01_k».proof.Proof.FfnReference
public import proofs.«01_k».proof.Proof.Gen.FfnIdeal.Value
public import proofs.«01_k».proof.Proof.Gen.FfnRefIdeal.Run
public import proofs.«01_k».proof.Proof.Gen.FfnRefIdeal.Read
public import Idealize.ShloMosaic.Lib.Quiescent
public import Idealize.ShloMosaic.Lib.Claim

@[expose] public section

noncomputable section

namespace Cert.FeedForward
open Idealize.ShloMosaic Idealize.ShloMosaic.TcCoe Idealize.SL.Sem

/-- The kernel's run: the gated feed-forward, and the arguments unchanged. -/
theorem kernel_run (m : (ℓ : Loc FfnIdeal.nD FfnIdeal.τ FfnIdeal.sig) → Buf (Elt Ideal) ℓ) (ρ : Dev FfnIdeal.nD → PrngReg) :
    θ_run (FfnIdeal.defs (F := Ideal)) (onTc (τ := FfnIdeal.τ) (FfnIdeal.main (F := Ideal))) ⟨m, fun _ => 0, ρ⟩ fun r =>
      ∀ c : Dev FfnIdeal.nD,
      r.2.mem ((c.tc : Thread FfnIdeal.nD FfnIdeal.τ).loc FfnIdeal.main_v0)
          = result (m ((c.tc : Thread FfnIdeal.nD FfnIdeal.τ).loc FfnIdeal.main_arg0))
            (m ((c.tc : Thread FfnIdeal.nD FfnIdeal.τ).loc FfnIdeal.main_arg1))
            (m ((c.tc : Thread FfnIdeal.nD FfnIdeal.τ).loc FfnIdeal.main_arg2))
            (m ((c.tc : Thread FfnIdeal.nD FfnIdeal.τ).loc FfnIdeal.main_arg3))
            (m ((c.tc : Thread FfnIdeal.nD FfnIdeal.τ).loc FfnIdeal.main_arg4))
            (m ((c.tc : Thread FfnIdeal.nD FfnIdeal.τ).loc FfnIdeal.main_arg5))
      ∧ r.2.mem ((c.tc : Thread FfnIdeal.nD FfnIdeal.τ).loc FfnIdeal.main_arg0) = m ((c.tc : Thread FfnIdeal.nD FfnIdeal.τ).loc FfnIdeal.main_arg0)
      ∧ r.2.mem ((c.tc : Thread FfnIdeal.nD FfnIdeal.τ).loc FfnIdeal.main_arg1) = m ((c.tc : Thread FfnIdeal.nD FfnIdeal.τ).loc FfnIdeal.main_arg1)
      ∧ r.2.mem ((c.tc : Thread FfnIdeal.nD FfnIdeal.τ).loc FfnIdeal.main_arg2) = m ((c.tc : Thread FfnIdeal.nD FfnIdeal.τ).loc FfnIdeal.main_arg2)
      ∧ r.2.mem ((c.tc : Thread FfnIdeal.nD FfnIdeal.τ).loc FfnIdeal.main_arg3) = m ((c.tc : Thread FfnIdeal.nD FfnIdeal.τ).loc FfnIdeal.main_arg3)
      ∧ r.2.mem ((c.tc : Thread FfnIdeal.nD FfnIdeal.τ).loc FfnIdeal.main_arg4) = m ((c.tc : Thread FfnIdeal.nD FfnIdeal.τ).loc FfnIdeal.main_arg4)
      ∧ r.2.mem ((c.tc : Thread FfnIdeal.nD FfnIdeal.τ).loc FfnIdeal.main_arg5) = m ((c.tc : Thread FfnIdeal.nD FfnIdeal.τ).loc FfnIdeal.main_arg5) := by
  refine θ_run_mono (FfnIdeal.Value.run_blocks m ρ) fun r h c => ?_
  exact ⟨(h c).1.trans (final m c), (h c).2⟩

/-- The reference's run leaves its arguments and every counter as they were. -/
theorem reference_frame (m : (ℓ : Loc FfnRefIdeal.nD FfnRefIdeal.τ FfnRefIdeal.sig) → Buf (Elt Ideal) ℓ) (ρ : Dev FfnRefIdeal.nD → PrngReg) :
    θ_run (FfnRefIdeal.defs (F := Ideal)) (onTc (τ := FfnRefIdeal.τ) (FfnRefIdeal.main (F := Ideal))) ⟨m, fun _ => 0, ρ⟩ fun r =>
      (∀ c : Dev FfnRefIdeal.nD,
      r.2.mem ((c.tc : Thread FfnRefIdeal.nD FfnRefIdeal.τ).loc FfnRefIdeal.main_arg0) = m ((c.tc : Thread FfnRefIdeal.nD FfnRefIdeal.τ).loc FfnRefIdeal.main_arg0)
      ∧ r.2.mem ((c.tc : Thread FfnRefIdeal.nD FfnRefIdeal.τ).loc FfnRefIdeal.main_arg1) = m ((c.tc : Thread FfnRefIdeal.nD FfnRefIdeal.τ).loc FfnRefIdeal.main_arg1)
      ∧ r.2.mem ((c.tc : Thread FfnRefIdeal.nD FfnRefIdeal.τ).loc FfnRefIdeal.main_arg2) = m ((c.tc : Thread FfnRefIdeal.nD FfnRefIdeal.τ).loc FfnRefIdeal.main_arg2)
      ∧ r.2.mem ((c.tc : Thread FfnRefIdeal.nD FfnRefIdeal.τ).loc FfnRefIdeal.main_arg3) = m ((c.tc : Thread FfnRefIdeal.nD FfnRefIdeal.τ).loc FfnRefIdeal.main_arg3)
      ∧ r.2.mem ((c.tc : Thread FfnRefIdeal.nD FfnRefIdeal.τ).loc FfnRefIdeal.main_arg4) = m ((c.tc : Thread FfnRefIdeal.nD FfnRefIdeal.τ).loc FfnRefIdeal.main_arg4)
      ∧ r.2.mem ((c.tc : Thread FfnRefIdeal.nD FfnRefIdeal.τ).loc FfnRefIdeal.main_arg5) = m ((c.tc : Thread FfnRefIdeal.nD FfnRefIdeal.τ).loc FfnRefIdeal.main_arg5))
      ∧ r.2.sem = fun _ => 0 :=
  θ_run_mono (FfnRefIdeal.Value.run m ρ) fun r h => ⟨fun c => (h c).2, sem_eq_zero_of_no_sems rfl r.2⟩

/-- The reference's result array from equal arguments. -/
theorem reference_eq_of {h h' : FVec Ideal FfnIdeal.S16384x2048 .bf16} {x x' : FVec Ideal FfnIdeal.S16384x2048 .f32}
    {mod mod' : FVec Ideal FfnIdeal.S1x12288 .f32} {wg wg' wu wu' : FVec Ideal FfnIdeal.S2048x5632 .bf16}
    {wd wd' : FVec Ideal FfnIdeal.S5632x2048 .bf16} (e0 : h' = h) (e1 : x' = x) (e2 : mod' = mod) (e3 : wg' = wg) (e4 : wu' = wu)
    (e5 : wd' = wd) : FfnRefIdeal.Read.val_main_v12 (F := Ideal) h' x' mod' wg' wu' wd' = result h x mod wg wu wd := by
  subst e0 e1 e2 e3 e4 e5
  exact reference_eq _ _ _ _ _ _

/-- The kernel and the reference end with the same array. -/
theorem algebraic : Cert.algebraic_FfnIdeal_FfnRefIdeal := by
  intro m g m' g' _ hargs
  refine ⟨_, kernel_run m g, ?_⟩
  refine θ_run_mono (FfnRefIdeal.Value.run m' g') fun r h c => ?_
  obtain ⟨h0, hr⟩ := h c
  obtain ⟨a0, a1, a2, a3, a4, a5⟩ := hargs c
  exact ⟨(h0.trans (FfnRefIdeal.Read.val_main_v12_eq _ _ _ _ _ _)).trans (reference_eq_of a0 a1 a2 a3 a4 a5), hr⟩

end Cert.FeedForward
end
-- ==== Proof.ExpertsBitsPoints.lean ====
/- The run of the experts' call on machine words, for every content of its two tables (the expert of each block of rows, and the number
   of blocks in use) under which the blocks the index maps name lie inside their arrays.

   The grid is (block of rows, piece of the hidden width), 72 x 7. At piece 0 the body clears the output block and keeps
   the cast rows in its scratch; at every piece of a block in use it adds one product; at the other pieces of a block
   not in use it stores nothing, and the output block stays as the point before left it. -/
module

public import proofs.«01_k».proof.Proof.Gen.Experts.Launch
public import proofs.«01_k».proof.Proof.Gen.Experts.Flash.Runs
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Claim
public import Idealize.ShloMosaic.Lib.Decide
public import Idealize.ShloMosaic.Lib.Tactic
public import Idealize.ShloMosaic.Adequacy
public import Idealize.ShloMosaic.Init

@[expose] public section

set_option maxRecDepth 16384

noncomputable section

namespace Cert.ExpertSum.BitsRun

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

abbrev Res := MT nD τ sig Unit (Elt Bits) ℕ (UR sig nD τ) ℕ

/-- A memory and the random-number registers at launch. -/
abbrev Mem := (ℓ : Loc nD τ sig) → Buf (Elt Bits) ℓ
variable (m : Mem) (ρ : Dev nD → PrngReg)

/-- The two tables as the launch memory holds them. -/
def tables : pre0.Contents (Elt Bits) := fun j => m (((0 : Dev nD) : Thread nD τ).loc (pre0.ref j))

theorem tables_eq (c : Dev nD) (j : Fin 2) : m ((c : Thread nD τ).loc (pre0.ref j)) = tables m j := by
  obtain rfl : c = 0 := Subsingleton.elim _ _; rfl

/-- The blocks the index maps name lie inside their arrays. -/
abbrev Inside : Prop := ok0 (F := Bits) (tables m)

variable (hO : Inside m)

/-- The pipeline at the tables. -/
abbrev adm : (pcfg0 (F := Bits)).Adm := ⟨tables m, hO⟩
abbrev cfg : Pipeline.Cfg sig Λ₀ := cfg0 (F := Bits) (adm m hO)
abbrev pcs : Fin 1 → Pipeline.Cfg sig Λ₀ := Pipeline.pin (pcfgs (F := Bits)) fun _ => adm m hO

/-- The staging memrefs of point `t`. -/
abbrev st0 (t : Fin (cfg m hO).N) : Memref sig .tc .vmem S512x2048 .f32 := spec0_0.stage ((cfg m hO).slots t (0 : Fin 5))
abbrev hs0 (t : Fin (cfg m hO).N) : (st0 m hO t).IsWhole := hstage0_0 (((cfg m hO).slots t (0 : Fin 5)).cast nbuf0_0)
abbrev st1 (t : Fin (cfg m hO).N) : Memref sig .tc .vmem S1x2048x1024 .bf16 := spec0_1.stage ((cfg m hO).slots t (1 : Fin 5))
abbrev hs1 (t : Fin (cfg m hO).N) : (st1 m hO t).IsWhole := hstage0_1 (((cfg m hO).slots t (1 : Fin 5)).cast nbuf0_1)
abbrev st2 (t : Fin (cfg m hO).N) : Memref sig .tc .vmem S1x2048x1024 .bf16 := spec0_2.stage ((cfg m hO).slots t (2 : Fin 5))
abbrev hs2 (t : Fin (cfg m hO).N) : (st2 m hO t).IsWhole := hstage0_2 (((cfg m hO).slots t (2 : Fin 5)).cast nbuf0_2)
abbrev st3 (t : Fin (cfg m hO).N) : Memref sig .tc .vmem S1x1024x2048 .bf16 := spec0_3.stage ((cfg m hO).slots t (3 : Fin 5))
abbrev hs3 (t : Fin (cfg m hO).N) : (st3 m hO t).IsWhole := hstage0_3 (((cfg m hO).slots t (3 : Fin 5)).cast nbuf0_3)
abbrev st4 (t : Fin (cfg m hO).N) : Memref sig .tc .vmem S512x2048 .f32 := spec0_4.stage ((cfg m hO).slots t (4 : Fin 5))
abbrev hs4 (t : Fin (cfg m hO).N) : (st4 m hO t).IsWhole := hstage0_4 (((cfg m hO).slots t (4 : Fin 5)).cast nbuf0_4)

/-- Window `w`'s block at point `t`, read off its array at launch. -/
def blk (c : Dev nD) (w : Fin (cfg m hO).W) (t : Fin (cfg m hO).N) : (((cfg m hO).win w).xblock ((cfg m hO).grid.coords t)).Idx → Elt Bits ((cfg m hO).win w).elt :=
  (((cfg m hO).win w).blk t).view.read (Elt Bits) ((s₀ m ρ).mem (((cfg m hO).win w).arr.view.loc (c : Thread nD τ)))

/-! ## Which points do what -/

/-- Point `t` is the first of its block of rows. -/
abbrev First (t : Fin (cfg m hO).N) : Prop := k0_cond1 (grid0.coords t) = 1#1

/-- The word the body compares the block's number with. -/
abbrev used (T : S1.Idx → Elt Bits .i32) : BitVec 32 :=
  View.readAt (Elt Bits) (tbM0_1).view (Rect.unit (s := S1) ![0] S1.size inb_S1_S1_0).toLoadRect T (Shape.Idx.first (numel1_S1.symm ▸ Nat.one_pos))

/-- Point `t` belongs to a block in use. -/
abbrev Used (t : Fin (cfg m hO).N) : Prop := k0_cond2 (grid0.coords t) (used (tables m 1)) = 1#1

theorem first_iff : ∀ t : Fin grid0.N, k0_cond1 (grid0.coords t) = 1#1 ↔ t.val % 7 = 0 := by decide +kernel

/-- The output block is written back at the last piece of each block of rows. -/
theorem flush_iff (a : (pcfg0 (F := Bits)).Adm) : ∀ t : Fin (cfg0 a).N, ((cfg0 a).win (4 : Fin 5)).flush t = decide (t.val % 7 = 6) :=
  of_decide_eq_true (by sl_kernel_rfl)

/-- The output is left alone exactly where neither condition holds. -/
theorem idle_eq (t : Fin (cfg m hO).N) :
    (cfg m hO).idle (4 : Fin 5) ((cfg m hO).grid.coords t) = (!(k0_cond1 (grid0.coords t) == 1#1) && !(k0_cond2 (grid0.coords t) (used (tables m 1)) == 1#1)) := rfl

theorem idle_first (t : Fin (cfg m hO).N) (h : First m hO t) : (cfg m hO).idle (4 : Fin 5) ((cfg m hO).grid.coords t) = false := by
  rw [idle_eq, h]; rfl

theorem idle_used (t : Fin (cfg m hO).N) (h : Used m hO t) : (cfg m hO).idle (4 : Fin 5) ((cfg m hO).grid.coords t) = false := by
  rw [idle_eq, h]; cases (k0_cond1 (grid0.coords t) == 1#1) <;> rfl

theorem idle_neither (t : Fin (cfg m hO).N) (h : ¬First m hO t) (h' : ¬Used m hO t) :
    (cfg m hO).idle (4 : Fin 5) ((cfg m hO).grid.coords t) = true := by
  rw [idle_eq, beq_eq_false_iff_ne.2 h, beq_eq_false_iff_ne.2 h']; rfl

/-- At a block's later points the output buffer holds what the point before left. -/
theorem held (n : ℕ) : ∀ hn : n < (cfg m hO).N, n % 7 ≠ 0 → (cfg m hO).fresh (4 : Fin 5) n = false := by
  induction n with
  | zero => intro _ h; exact absurd rfl h
  | succ n ih =>
    intro hn h
    have hn' : n < (cfg m hO).N := Nat.lt_of_succ_lt hn
    rw [Pipeline.Cfg.fresh_succ _ _ _ hn', flush_iff (adm m hO) ⟨n, hn'⟩, decide_eq_false (show ¬(n % 7 = 6) by omega), Bool.false_or]
    by_cases h0 : n % 7 = 0
    · rw [idle_first m hO ⟨n, hn'⟩ ((first_iff ⟨n, hn'⟩).2 h0), Bool.false_and]
    · rw [ih hn' h0, Bool.and_false]

theorem not_first_held (t : Fin (cfg m hO).N) (h : ¬First m hO t) : (cfg m hO).fresh (4 : Fin 5) t.val = false :=
  held m hO t.val t.isLt fun h0 => h ((first_iff t).2 h0)

theorem not_first_pos (t : Fin (cfg m hO).N) (h : ¬First m hO t) : t.val ≠ 0 := fun h0 => h ((first_iff t).2 (by rw [h0]))

end Cert.ExpertSum.BitsRun

end
-- ==== Proof.ExpertsBitsBody.lean ====
/- On machine words the experts' body at a grid point does what the proof data say. -/
module

public import proofs.«01_k».proof.Proof.ExpertsBitsData

@[expose] public section

set_option maxRecDepth 16384

noncomputable section

namespace Cert.ExpertSum.BitsRun

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : Mem) (ρ : Dev nD → PrngReg) (hO : Inside m)

/-! ## The body at a point -/

/-- The body on its staging memrefs. -/
abbrev bodyAt (t : Fin (cfg m hO).N) : Prog (TpuEff nD τ sig (Elt Bits) Λ₀ .tc) PUnit :=
  cc0_moe_experts (grid0.coords t) (Memref.whole main_arg0) (Memref.isWhole_whole _) (Memref.whole main_arg1) (Memref.isWhole_whole _) (st0 m hO t) (hs0 m hO t) (st1 m hO t) (hs1 m hO t) (st2 m hO t) (hs2 m hO t) (st3 m hO t) (hs3 m hO t) (st4 m hO t) (hs4 m hO t) (Memref.whole cc0_scratch0) (Memref.isWhole_whole _)

/-- What the body is given at point `t`, the output's buffer apart. -/
def given (c : Dev nD) (t : Fin (cfg m hO).N) (P : sProp Res) : sProp Res :=
  iprop(inv m ρ hO c t.castSucc ∗ (dats m ρ hO 0 c).owesAt () t.castSucc
    ∗ (∃ d : S512x2048.Idx → Elt Bits .f32, owns (c : Thread nD τ) (st0 m hO t) fullShare (blk m ρ hO c (0 : Fin 5) t))
    ∗ (∃ d : S1x2048x1024.Idx → Elt Bits .bf16, owns (c : Thread nD τ) (st1 m hO t) fullShare (blk m ρ hO c (1 : Fin 5) t))
    ∗ (∃ d : S1x2048x1024.Idx → Elt Bits .bf16, owns (c : Thread nD τ) (st2 m hO t) fullShare (blk m ρ hO c (2 : Fin 5) t))
    ∗ (∃ d : S1x1024x2048.Idx → Elt Bits .bf16, owns (c : Thread nD τ) (st3 m hO t) fullShare (blk m ρ hO c (3 : Fin 5) t))
    ∗ P)

/-- What it returns, the output's buffer apart. -/
def returned (c : Dev nD) (t : Fin (cfg m hO).N) (P : sProp Res) : sProp Res :=
  iprop(inv m ρ hO c t.succ ∗ (dats m ρ hO 0 c).owesAt () t.castSucc
    ∗ owns (c : Thread nD τ) (st0 m hO t) fullShare (blk m ρ hO c (0 : Fin 5) t)
    ∗ owns (c : Thread nD τ) (st1 m hO t) fullShare (blk m ρ hO c (1 : Fin 5) t)
    ∗ owns (c : Thread nD τ) (st2 m hO t) fullShare (blk m ρ hO c (2 : Fin 5) t)
    ∗ owns (c : Thread nD τ) (st3 m hO t) fullShare (blk m ρ hO c (3 : Fin 5) t)
    ∗ P)

theorem inv_succ (c : Dev nD) (t : Fin (cfg m hO).N) (o) (v) (h : step m ρ hO c t (prev m ρ hO c t) = (o, v)) :
    inv m ρ hO c t.succ = iprop((∃ a, ⌜t.val + 1 ≠ 0 → a = v⌝ ∗ (scM0_0.view.loc (c : Thread nD τ) ↦{fullShare} a))
      ∗ (tbM0_0.view.loc (c : Thread nD τ) ↦{fullShare.right} tables m 0) ∗ (tbM0_1.view.loc (c : Thread nD τ) ↦{fullShare.right} tables m 1)) := by
  obtain rfl : (step m ρ hO c t (prev m ρ hO c t)).2 = v := congrArg Prod.snd h; rfl

theorem fst_of {A B : Type} {p : A × B} {a : A} {b : B} (h : p = (a, b)) : p.1 = a := by rw [h]

theorem inv_held (c : Dev nD) (t : Fin (cfg m hO).N) (h : t.val ≠ 0) :
    inv m ρ hO c t.castSucc = iprop((scM0_0.view.loc (c : Thread nD τ) ↦{fullShare} (prev m ρ hO c t).2)
      ∗ (tbM0_0.view.loc (c : Thread nD τ) ↦{fullShare.right} tables m 0) ∗ (tbM0_1.view.loc (c : Thread nD τ) ↦{fullShare.right} tables m 1)) := by
  unfold inv; rw [exists_held (show t.castSucc.val ≠ 0 from h)]; rfl

set_option maxHeartbeats 600000 in
theorem body_first_used (c : Dev nD) (t : Fin (cfg m hO).N) (h1 : First m hO t) (h2 : Used m hO t) :
    given m ρ hO c t iprop(∃ d, owns (c : Thread nD τ) (st4 m hO t) fullShare ((dats m ρ hO 0 c).before (4 : Fin 5) t d))
      ⊢ wp frame (wpE (defs₀ (F := Bits)) Variants.none c none) Set.univ (bodyAt m hO t) fun _ =>
          returned m ρ hO c t (owns (c : Thread nD τ) (st4 m hO t) fullShare (step m ρ hO c t (prev m ρ hO c t)).1) := by
  unfold given returned
  rw [inv_succ m ρ hO c t _ _ (step_first_used m ρ hO c t _ h1 h2), fst_of (step_first_used m ρ hO c t _ h1 h2)]
  unfold inv
  iintro ⟨⟨⟨%a0, -, HS0⟩, HT0, HT1⟩, Ho, ⟨%d0, H0⟩, ⟨%d1, H1⟩, ⟨%d2, H2⟩, ⟨%d3, H3⟩, ⟨%d4, H4⟩⟩
  iapply ((kernelRun0_A c (grid0.coords t) (st0 m hO t) (hs0 m hO t) (st1 m hO t) (hs1 m hO t) (st2 m hO t) (hs2 m hO t) (st3 m hO t) (hs3 m hO t) (st4 m hO t) (hs4 m hO t) (tables m 0) (tables m 1) (blk m ρ hO c 0 t) (blk m ρ hO c 1 t) (blk m ρ hO c 2 t) (blk m ρ hO c 3 t) h1 h2).2.2 a0 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  iintro ⟨H0, H1, H2, H3, HT0, HT1, ⟨%e4, H4⟩, HS0⟩
  isplitl [HS0 HT0 HT1]
  · isplitl [HS0]
    · iexists _; isplitr; swap
      · iexact HS0
      · ipureintro; intro _; rfl
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro; exact View.read_writes_of_cover _ _ _ _ _ (cover0_A_4 c _ _ _ _ _ _ _ _ _ _ _ _ _ _ _ _ _ _ _)

set_option maxHeartbeats 600000 in
theorem body_first (c : Dev nD) (t : Fin (cfg m hO).N) (h1 : First m hO t) (h2 : ¬Used m hO t) :
    given m ρ hO c t iprop(∃ d, owns (c : Thread nD τ) (st4 m hO t) fullShare ((dats m ρ hO 0 c).before (4 : Fin 5) t d))
      ⊢ wp frame (wpE (defs₀ (F := Bits)) Variants.none c none) Set.univ (bodyAt m hO t) fun _ =>
          returned m ρ hO c t (owns (c : Thread nD τ) (st4 m hO t) fullShare (step m ρ hO c t (prev m ρ hO c t)).1) := by
  unfold given returned
  rw [inv_succ m ρ hO c t _ _ (step_first m ρ hO c t _ h1 h2), fst_of (step_first m ρ hO c t _ h1 h2)]
  unfold inv
  iintro ⟨⟨⟨%a0, -, HS0⟩, HT0, HT1⟩, Ho, ⟨%d0, H0⟩, ⟨%d1, H1⟩, ⟨%d2, H2⟩, ⟨%d3, H3⟩, ⟨%d4, H4⟩⟩
  iapply ((kernelRun0_C c (grid0.coords t) (st0 m hO t) (hs0 m hO t) (st1 m hO t) (hs1 m hO t) (st2 m hO t) (hs2 m hO t) (st3 m hO t) (hs3 m hO t) (st4 m hO t) (hs4 m hO t) (tables m 0) (tables m 1) (blk m ρ hO c 0 t) (blk m ρ hO c 1 t) (blk m ρ hO c 2 t) (blk m ρ hO c 3 t) h1 h2).2.2 a0 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  iintro ⟨H0, H1, H2, H3, HT0, HT1, ⟨%e4, H4⟩, HS0⟩
  isplitl [HS0 HT0 HT1]
  · isplitl [HS0]
    · iexists _; isplitr; swap
      · iexact HS0
      · ipureintro; intro _; rfl
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro; exact View.read_writes_of_cover _ _ _ _ _ (cover0_C_4 c _ _ _ _ _ _ _ _ _ _ _ _ _ _ _ _ _ _ _)

set_option maxHeartbeats 600000 in
theorem body_used (c : Dev nD) (t : Fin (cfg m hO).N) (h1 : ¬First m hO t) (h2 : Used m hO t) :
    given m ρ hO c t iprop(∃ d : S512x2048.Idx → Elt Bits .f32, owns (c : Thread nD τ) (st4 m hO t) fullShare (prev m ρ hO c t).1)
      ⊢ wp frame (wpE (defs₀ (F := Bits)) Variants.none c none) Set.univ (bodyAt m hO t) fun _ =>
          returned m ρ hO c t (owns (c : Thread nD τ) (st4 m hO t) fullShare (step m ρ hO c t (prev m ρ hO c t)).1) := by
  unfold given returned
  rw [inv_succ m ρ hO c t _ _ (step_used m ρ hO c t _ h1 h2), fst_of (step_used m ρ hO c t _ h1 h2), inv_held m ρ hO c t (not_first_pos m hO t h1)]
  iintro ⟨⟨HS0, HT0, HT1⟩, Ho, ⟨%d0, H0⟩, ⟨%d1, H1⟩, ⟨%d2, H2⟩, ⟨%d3, H3⟩, ⟨%d4, H4⟩⟩
  iapply ((kernelRun0_B c (grid0.coords t) (st0 m hO t) (hs0 m hO t) (st1 m hO t) (hs1 m hO t) (st2 m hO t) (hs2 m hO t) (st3 m hO t) (hs3 m hO t) (st4 m hO t) (hs4 m hO t) (tables m 0) (tables m 1) (blk m ρ hO c 0 t) (blk m ρ hO c 1 t) (blk m ρ hO c 2 t) (blk m ρ hO c 3 t) _ _ h1 h2).2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  iintro ⟨H0, H1, H2, H3, HT0, HT1, ⟨%e4, H4⟩, HS0⟩
  isplitl [HS0 HT0 HT1]
  · isplitl [HS0]
    · iexists _; isplitr; swap
      · iexact HS0
      · ipureintro; intro _; rfl
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro; exact View.read_writes_of_cover _ _ _ _ _ (cover0_B_4 c _ _ _ _ _ _ _ _ _ _ _ _ _ _ _ _ _ _ _ _ _)

set_option maxHeartbeats 600000 in
theorem body_idle (c : Dev nD) (t : Fin (cfg m hO).N) (h1 : ¬First m hO t) (h2 : ¬Used m hO t) :
    given m ρ hO c t iprop(∃ d : S512x2048.Idx → Elt Bits .f32, owns (c : Thread nD τ) (st4 m hO t) fullShare (prev m ρ hO c t).1)
      ⊢ wp frame (wpE (defs₀ (F := Bits)) Variants.none c none) Set.univ (bodyAt m hO t) fun _ =>
          returned m ρ hO c t (owns (c : Thread nD τ) (st4 m hO t) fullShare (prev m ρ hO c t).1) := by
  unfold given returned
  rw [inv_succ m ρ hO c t _ _ (step_idle m ρ hO c t _ h1 h2), inv_held m ρ hO c t (not_first_pos m hO t h1)]
  iintro ⟨⟨HS0, HT0, HT1⟩, Ho, ⟨%d0, H0⟩, ⟨%d1, H1⟩, ⟨%d2, H2⟩, ⟨%d3, H3⟩, ⟨%d4, H4⟩⟩
  iapply ((kernelRun0_D c (grid0.coords t) (st0 m hO t) (hs0 m hO t) (st1 m hO t) (hs1 m hO t) (st2 m hO t) (hs2 m hO t) (st3 m hO t) (hs3 m hO t) (st4 m hO t) (hs4 m hO t) (tables m 0) (tables m 1) (blk m ρ hO c 0 t) (blk m ρ hO c 1 t) (blk m ρ hO c 2 t) (blk m ρ hO c 3 t) _ h1 h2).2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  iintro ⟨H0, H1, H2, H3, HT0, HT1, H4, HS0⟩
  isplitl [HS0 HT0 HT1]
  · isplitl [HS0]
    · iexists _; isplitr; swap
      · iexact HS0
      · ipureintro; intro _; rfl
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexact H4

/-- The block a point leaves alone, handed back as whatever it was. -/
theorem returned_any (c : Dev nD) (t : Fin (cfg m hO).N) (v : S512x2048.Idx → Elt Bits .f32) :
    returned m ρ hO c t (owns (c : Thread nD τ) (st4 m hO t) fullShare v)
      ⊢ returned m ρ hO c t iprop(∃ d : S512x2048.Idx → Elt Bits .f32, owns (c : Thread nD τ) (st4 m hO t) fullShare v) := by
  unfold returned
  iintro ⟨Hi, Ho, H0, H1, H2, H3, H4⟩
  isplitl [Hi]; · iexact Hi
  isplitl [Ho]; · iexact Ho
  isplitl [H0]; · iexact H0
  isplitl [H1]; · iexact H1
  isplitl [H2]; · iexact H2
  isplitl [H3]; · iexact H3
  iexists v
  iexact H4

set_option maxHeartbeats 600000 in
/-- The body does at every point what the proof data say. -/
theorem body_obligation (c : Dev nD) : BodyObligation (dats m ρ hO 0 c) (defs₀ (F := Bits)) Variants.none () Set.univ := fun t => by
  rw [bigSep_W0, bigSep_W0]
  by_cases h1 : First m hO t
  · by_cases h2 : Used m hO t
    · rewrite [idle_first m hO t h1]
      simp only [before0, before1, before2, before3, after0, after1, after2, after3, after4]
      exact body_first_used m ρ hO c t h1 h2
    · rewrite [idle_first m hO t h1]
      simp only [before0, before1, before2, before3, after0, after1, after2, after3, after4]
      exact body_first m ρ hO c t h1 h2
  · by_cases h2 : Used m hO t
    · rewrite [idle_used m hO t h2]
      simp only [before0, before1, before2, before3, before4 m ρ hO c t _ h1, after0, after1, after2, after3, after4]
      exact body_used m ρ hO c t h1 h2
    · cases f4 : ((cfg m hO).win (4 : Fin 5)).flush t
      · rewrite [idle_neither m hO t h1 h2]
        simp only [before0, before1, before2, before3, before4 m ρ hO c t _ h1, after0, after1, after2, after3, after4, f4]
        exact (body_idle m ρ hO c t h1 h2).trans (wp_mono _ _ _ fun _ => returned_any m ρ hO c t _)
      · rewrite [idle_neither m hO t h1 h2]
        simp only [before0, before1, before2, before3, before4 m ρ hO c t _ h1, after0, after1, after2, after3, after4, f4]
        rw [fst_of (step_idle m ρ hO c t _ h1 h2)]
        exact body_idle m ρ hO c t h1 h2

end Cert.ExpertSum.BitsRun

end
-- ==== Proof.ExpertsBitsFrame.lean ====
/- On machine words the experts' call runs from any memory whose tables name blocks inside their arrays: it terminates, its arguments are
   unchanged, and its result array holds what the proof data say. -/
module

public import proofs.«01_k».proof.Proof.ExpertsBitsBody

@[expose] public section

set_option maxRecDepth 16384

noncomputable section

namespace Cert.ExpertSum.BitsRun

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : Mem) (ρ : Dev nD → PrngReg) (hO : Inside m)

/-! ## The launch -/

/-- The pipeline's own resource, inside the whole. -/
abbrev EP : Emb (UR sig nD τ) Res := emb₁

/-- The shares and tokens the launch deals out. -/
def dealt : UR sig nD τ :=
  initOf (Pipeline.cells (pcs m hO) ((launch0 (F := Bits)).cellOf_inj fun _ => adm m hO))
    (Pipeline.launchToks (pcs m hO) ((launch0 (F := Bits)).cellOf_inj fun _ => adm m hO))

theorem share_full (c : Dev nD) (w : Fin (cfg m hO).W) : (dats m ρ hO 0 c).share w = fullShare := by unfold Dat.share; split <;> rfl

/-- The tables one by one. -/
theorem tables_held (c : Dev nD) (q : Fin 2 → PosShare TreeShare) (v : pre0.Contents (Elt Bits)) :
    (Pipeline.prefHeld (Ix := Unit) (Name := ℕ) (U := UR sig nD τ) (Lvl := ℕ) pre0 c q v : sProp Res)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- Before the first point: the tables and the scratch, whatever it holds. -/
theorem inv_start (c : Dev nD) :
    iprop(BI.emp ∗ Pipeline.prefHeld pre0 c (fun _ => fullShare.right) (adm m hO).1 ∗ Pipeline.scopedRest spec0 c) ⊢ (dats m ρ hO 0 c).Φ 0 := by
  rw [tables_held, scopedRest0_eq, show (dats m ρ hO 0 c).Φ 0 = inv m ρ hO c 0 from rfl]
  unfold inv
  iintro ⟨-, ⟨HT0, HT1⟩, ⟨%a0, HS0⟩⟩
  isplitl [HS0]
  · iexists a0; isplitr; swap
    · iexact HS0
    · ipureintro; intro h; exact absurd rfl h
  isplitl [HT0]
  · iexact HT0
  iexact HT1

/-- After the last point the scratch is given back. -/
theorem inv_end (c : Dev nD) : (dats m ρ hO 0 c).Φ (Fin.last (cfg m hO).N) ⊢ iprop(BI.emp ∗ Pipeline.scopedRest spec0 c) := by
  rw [scopedRest0_eq, show (dats m ρ hO 0 c).Φ (Fin.last (cfg m hO).N) = inv m ρ hO c (Fin.last _) from rfl]
  unfold inv
  iintro ⟨⟨%a0, -, HS0⟩, -, -⟩
  isplitr; · iempintro
  iexists a0; iexact HS0

/-- Every array ends at what the proof data say, every table as it was. -/
def Post : PUnit × MemSt nD τ sig (Elt Bits) → Prop := fun r =>
  ∀ c : Dev nD, (∀ w : Fin (cfg m hO).W, r.2.mem (((cfg m hO).win w).arr.view.loc (c : Thread nD τ)) = (dats m ρ hO 0 c).arrAt w (cfg m hO).N)
    ∧ ∀ j, r.2.mem ((c : Thread nD τ).loc (pre0.ref j)) = (adm m hO).1 j

set_option backward.isDefEq.respectTransparency.types false in
set_option maxHeartbeats 4000000 in
/-- Every execution terminates in such a state, with every counter at zero. -/
theorem run_zero : θ_run (defs (F := Bits)) (onTc (τ := τ) (main (F := Bits))) (s₀ m ρ) (fun r => Post m ρ hO r ∧ r.2.sem = fun _ => 0) :=
  Pipeline.θ_run_region_noSem_pf_quiescent pcfgs (fun _ => adm m hO) (dats m ρ hO) () ((launch0 (F := Bits)).cellOf_inj fun _ => adm m hO) (0 : Fin 1)
    (launch0 (F := Bits)).win.to₀ (launch0 (F := Bits)).pre EP defs₀ Variants.none m ρ main
    (hbody := fun c => (body_obligation m ρ hO c).loose) (hne := (launch0 (F := Bits)).block_pos)
    (harr := (launch0 (F := Bits)).arr_whole) (hstage := (launch0 (F := Bits)).stage_whole) (howed := fun _ _ => rfl)
    (u₀ := dealt m hO) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hO) (dats m ρ hO) 0 (launch0 (F := Bits)).win.arr_inj c (launch0 (F := Bits)).arr_whole
      (share_full m ρ hO c) _ _ fun _ => rfl)
    (hpf := tables_eq m)
    (X := fun _ => iprop(emp)) (Y := fun _ => iprop(emp)) (Z := fun _ => iprop(emp))
    (hX := fun c => by rw [unscopedRestP0_eq]; iintro -; isplitr <;> iempintro)
    (hin := inv_start m ρ hO)
    (hout := inv_end m ρ hO)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The state alone. -/
theorem run : θ_run (defs (F := Bits)) (onTc (τ := τ) (main (F := Bits))) (s₀ m ρ) (Post m ρ hO) :=
  (θ_run defs _ _).mono (fun _ h => h.1) (run_zero m ρ hO)

/-- What the state says of the six arguments. -/
theorem args_kept {r : PUnit × MemSt nD τ sig (Elt Bits)} (h : Post m ρ hO r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 0).trans (tables_eq m c 0).symm, ((h c).2 1).trans (tables_eq m c 1).symm,
    ((h c).1 (0 : Fin 5)).trans ((dats m ρ hO 0 c).arrAt_in (0 : Fin 5) rfl _), ((h c).1 (1 : Fin 5)).trans ((dats m ρ hO 0 c).arrAt_in (1 : Fin 5) rfl _),
    ((h c).1 (2 : Fin 5)).trans ((dats m ρ hO 0 c).arrAt_in (2 : Fin 5) rfl _), ((h c).1 (3 : Fin 5)).trans ((dats m ρ hO 0 c).arrAt_in (3 : Fin 5) rfl _)⟩

include hO in
/-- The frame: the arguments end unchanged and every counter is zero. -/
theorem frame : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_kept m ρ hO h.1, h.2⟩) (run_zero m ρ hO)

/-- The result array with the arguments, as one statement. -/
theorem run_result : θ_run (defs (F := Bits)) (onTc (τ := τ) (main (F := Bits))) ⟨m, fun _ => 0, ρ⟩ (fun r => ∀ c : Dev nD,
      r.2.mem (((cfg m hO).win (4 : Fin 5)).arr.view.loc (c : Thread nD τ)) = (dats m ρ hO 0 c).arrAt (4 : Fin 5) (cfg m hO).N) :=
  (θ_run defs _ _).mono (fun _ h c => (h c).1 (4 : Fin 5)) (run m ρ hO)

end Cert.ExpertSum.BitsRun

end
-- ==== Proof.ExpertsIdealPoints.lean ====
/- The run of the experts' call, for every content of its two tables (the expert of each block of rows, and the number
   of blocks in use) under which the blocks the index maps name lie inside their arrays.

   The grid is (block of rows, piece of the hidden width), 72 x 7. At piece 0 the body clears the output block and keeps
   the cast rows in its scratch; at every piece of a block in use it adds one product; at the other pieces of a block
   not in use it stores nothing, and the output block stays as the point before left it. -/
module

public import proofs.«01_k».proof.Proof.Gen.ExpertsIdeal.Launch
public import proofs.«01_k».proof.Proof.Gen.ExpertsIdeal.Flash.Runs
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Claim
public import Idealize.ShloMosaic.Lib.Decide
public import Idealize.ShloMosaic.Lib.Tactic
public import Idealize.ShloMosaic.Adequacy
public import Idealize.ShloMosaic.Init

@[expose] public section

set_option maxRecDepth 16384

noncomputable section

namespace Cert.ExpertSum.IdealRun

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

abbrev Res := MT nD τ sig Unit (Elt Ideal) ℕ (UR sig nD τ) ℕ

/-- A memory and the random-number registers at launch. -/
abbrev Mem := (ℓ : Loc nD τ sig) → Buf (Elt Ideal) ℓ
variable (m : Mem) (ρ : Dev nD → PrngReg)

/-- The two tables as the launch memory holds them. -/
def tables : pre0.Contents (Elt Ideal) := fun j => m (((0 : Dev nD) : Thread nD τ).loc (pre0.ref j))

theorem tables_eq (c : Dev nD) (j : Fin 2) : m ((c : Thread nD τ).loc (pre0.ref j)) = tables m j := by
  obtain rfl : c = 0 := Subsingleton.elim _ _; rfl

/-- The blocks the index maps name lie inside their arrays. -/
abbrev Inside : Prop := ok0 (F := Ideal) (tables m)

variable (hO : Inside m)

/-- The pipeline at the tables. -/
abbrev adm : (pcfg0 (F := Ideal)).Adm := ⟨tables m, hO⟩
abbrev cfg : Pipeline.Cfg sig Λ₀ := cfg0 (F := Ideal) (adm m hO)
abbrev pcs : Fin 1 → Pipeline.Cfg sig Λ₀ := Pipeline.pin (pcfgs (F := Ideal)) fun _ => adm m hO

/-- The staging memrefs of point `t`. -/
abbrev st0 (t : Fin (cfg m hO).N) : Memref sig .tc .vmem S512x2048 .f32 := spec0_0.stage ((cfg m hO).slots t (0 : Fin 5))
abbrev hs0 (t : Fin (cfg m hO).N) : (st0 m hO t).IsWhole := hstage0_0 (((cfg m hO).slots t (0 : Fin 5)).cast nbuf0_0)
abbrev st1 (t : Fin (cfg m hO).N) : Memref sig .tc .vmem S1x2048x1024 .bf16 := spec0_1.stage ((cfg m hO).slots t (1 : Fin 5))
abbrev hs1 (t : Fin (cfg m hO).N) : (st1 m hO t).IsWhole := hstage0_1 (((cfg m hO).slots t (1 : Fin 5)).cast nbuf0_1)
abbrev st2 (t : Fin (cfg m hO).N) : Memref sig .tc .vmem S1x2048x1024 .bf16 := spec0_2.stage ((cfg m hO).slots t (2 : Fin 5))
abbrev hs2 (t : Fin (cfg m hO).N) : (st2 m hO t).IsWhole := hstage0_2 (((cfg m hO).slots t (2 : Fin 5)).cast nbuf0_2)
abbrev st3 (t : Fin (cfg m hO).N) : Memref sig .tc .vmem S1x1024x2048 .bf16 := spec0_3.stage ((cfg m hO).slots t (3 : Fin 5))
abbrev hs3 (t : Fin (cfg m hO).N) : (st3 m hO t).IsWhole := hstage0_3 (((cfg m hO).slots t (3 : Fin 5)).cast nbuf0_3)
abbrev st4 (t : Fin (cfg m hO).N) : Memref sig .tc .vmem S512x2048 .f32 := spec0_4.stage ((cfg m hO).slots t (4 : Fin 5))
abbrev hs4 (t : Fin (cfg m hO).N) : (st4 m hO t).IsWhole := hstage0_4 (((cfg m hO).slots t (4 : Fin 5)).cast nbuf0_4)

/-- Window `w`'s block at point `t`, read off its array at launch. -/
def blk (c : Dev nD) (w : Fin (cfg m hO).W) (t : Fin (cfg m hO).N) : (((cfg m hO).win w).xblock ((cfg m hO).grid.coords t)).Idx → Elt Ideal ((cfg m hO).win w).elt :=
  (((cfg m hO).win w).blk t).view.read (Elt Ideal) ((s₀ m ρ).mem (((cfg m hO).win w).arr.view.loc (c : Thread nD τ)))

/-! ## Which points do what -/

/-- Point `t` is the first of its block of rows. -/
abbrev First (t : Fin (cfg m hO).N) : Prop := k0_cond1 (grid0.coords t) = 1#1

/-- The word the body compares the block's number with. -/
abbrev used (T : S1.Idx → Elt Ideal .i32) : BitVec 32 :=
  View.readAt (Elt Ideal) (tbM0_1).view (Rect.unit (s := S1) ![0] S1.size inb_S1_S1_0).toLoadRect T (Shape.Idx.first (numel1_S1.symm ▸ Nat.one_pos))

/-- Point `t` belongs to a block in use. -/
abbrev Used (t : Fin (cfg m hO).N) : Prop := k0_cond2 (grid0.coords t) (used (tables m 1)) = 1#1

theorem first_iff : ∀ t : Fin grid0.N, k0_cond1 (grid0.coords t) = 1#1 ↔ t.val % 7 = 0 := by decide +kernel

/-- The output block is written back at the last piece of each block of rows. -/
theorem flush_iff (a : (pcfg0 (F := Ideal)).Adm) : ∀ t : Fin (cfg0 a).N, ((cfg0 a).win (4 : Fin 5)).flush t = decide (t.val % 7 = 6) :=
  of_decide_eq_true (by sl_kernel_rfl)

/-- The output is left alone exactly where neither condition holds. -/
theorem idle_eq (t : Fin (cfg m hO).N) :
    (cfg m hO).idle (4 : Fin 5) ((cfg m hO).grid.coords t) = (!(k0_cond1 (grid0.coords t) == 1#1) && !(k0_cond2 (grid0.coords t) (used (tables m 1)) == 1#1)) := rfl

theorem idle_first (t : Fin (cfg m hO).N) (h : First m hO t) : (cfg m hO).idle (4 : Fin 5) ((cfg m hO).grid.coords t) = false := by
  rw [idle_eq, h]; rfl

theorem idle_used (t : Fin (cfg m hO).N) (h : Used m hO t) : (cfg m hO).idle (4 : Fin 5) ((cfg m hO).grid.coords t) = false := by
  rw [idle_eq, h]; cases (k0_cond1 (grid0.coords t) == 1#1) <;> rfl

theorem idle_neither (t : Fin (cfg m hO).N) (h : ¬First m hO t) (h' : ¬Used m hO t) :
    (cfg m hO).idle (4 : Fin 5) ((cfg m hO).grid.coords t) = true := by
  rw [idle_eq, beq_eq_false_iff_ne.2 h, beq_eq_false_iff_ne.2 h']; rfl

/-- At a block's later points the output buffer holds what the point before left. -/
theorem held (n : ℕ) : ∀ hn : n < (cfg m hO).N, n % 7 ≠ 0 → (cfg m hO).fresh (4 : Fin 5) n = false := by
  induction n with
  | zero => intro _ h; exact absurd rfl h
  | succ n ih =>
    intro hn h
    have hn' : n < (cfg m hO).N := Nat.lt_of_succ_lt hn
    rw [Pipeline.Cfg.fresh_succ _ _ _ hn', flush_iff (adm m hO) ⟨n, hn'⟩, decide_eq_false (show ¬(n % 7 = 6) by omega), Bool.false_or]
    by_cases h0 : n % 7 = 0
    · rw [idle_first m hO ⟨n, hn'⟩ ((first_iff ⟨n, hn'⟩).2 h0), Bool.false_and]
    · rw [ih hn' h0, Bool.and_false]

theorem not_first_held (t : Fin (cfg m hO).N) (h : ¬First m hO t) : (cfg m hO).fresh (4 : Fin 5) t.val = false :=
  held m hO t.val t.isLt fun h0 => h ((first_iff t).2 h0)

theorem not_first_pos (t : Fin (cfg m hO).N) (h : ¬First m hO t) : t.val ≠ 0 := fun h0 => h ((first_iff t).2 (by rw [h0]))

end Cert.ExpertSum.IdealRun

end
-- ==== Proof.ExpertsIdealIndex.lean ====
/- Which blocks the experts' call reads at a grid point, from the words of its two tables; and that the blocks lie inside
   their arrays when every block's expert exists. -/
module

public import proofs.«01_k».proof.Proof.ExpertsIdealPoints
public import Idealize.ShloMosaic.Lib.Pipeline.ValueKit

@[expose] public section

set_option maxRecDepth 16384

noncomputable section

namespace Cert.ExpertSum.IdealRun

open Cert.ExpertsIdeal Cert.ExpertsIdeal.Gen
open Idealize.ShloMosaic Idealize.ShloMosaic.TcCoe

/-- The words of the two tables. -/
def expertWord (pf : pre0.Contents (Elt Ideal)) (b : Fin 72) : BitVec 32 := pf 0 (ix1 b)
def usedWord (pf : pre0.Contents (Elt Ideal)) : BitVec 32 := pf 1 (ix1 0)

/-- Block `b` of rows is in use: the signed comparison the call and the reference both make. -/
abbrev Live (n : BitVec 32) (b : ℕ) : Prop := IntOp.cmpi .slt (BitVec.ofNat 32 b) n = 1#1

/-- The piece of the hidden width the maps name. -/
def pieceOf (n : BitVec 32) (b j : ℕ) : ℕ := (Scalar.select (IntOp.cmpi .slt (BitVec.ofNat 32 b) n) (BitVec.ofNat 32 j) 6#32).toNat

/-- The block of rows the map names. -/
def rowsOf (n : BitVec 32) (b : ℕ) : ℕ := (IntOp.maxsi (IntOp.minsi (BitVec.ofNat 32 b) (IntOp.subi n 1#32)) 0#32).toNat

theorem pieceOf_lt (n : BitVec 32) (b j : ℕ) (hj : j < 7) : pieceOf n b j < 7 := by
  unfold pieceOf Scalar.select
  split
  · rw [BitVec.toNat_ofNat, Nat.mod_eq_of_lt (by omega)]; exact hj
  · decide

theorem pieceOf_live (n : BitVec 32) (b j : ℕ) (hj : j < 7) (h : Live n b) : pieceOf n b j = j := by
  unfold pieceOf Scalar.select
  rw [if_pos (show IntOp.cmpi .slt (BitVec.ofNat 32 b) n = 1 from h), BitVec.toNat_ofNat, Nat.mod_eq_of_lt (by omega)]

theorem small_toInt (b : ℕ) (hb : b < 72) : (BitVec.ofNat 32 b).toInt = b := by
  rw [BitVec.toInt_eq_toNat_of_lt (by rw [BitVec.toNat_ofNat]; omega), BitVec.toNat_ofNat]; omega

theorem small_toNat (b : ℕ) (hb : b < 72) : (BitVec.ofNat 32 b).toNat = b := by
  rw [BitVec.toNat_ofNat]; omega

theorem live_iff (n : BitVec 32) (b : ℕ) (hb : b < 72) : Live n b ↔ (b : ℤ) < n.toInt := by
  unfold Live IntOp.cmpi
  rw [← small_toInt b hb, ← BitVec.slt_iff_toInt_lt]
  show BitVec.ofBool ((BitVec.ofNat 32 b).slt n) = 1#1 ↔ _
  cases (BitVec.ofNat 32 b).slt n <;> decide

/-- A word between two bounds, read without its sign. -/
theorem toNat_of_toInt (x : BitVec 32) (b : ℕ) (h0 : 0 ≤ x.toInt) (hb : x.toInt ≤ b) : x.toNat ≤ b ∧ (x.toNat : ℤ) = x.toInt := by
  have e := BitVec.toInt_eq_toNat_cond x
  have := x.isLt
  split at e <;> omega

theorem rowsOf_cases (n : BitVec 32) (b : ℕ) (hb : b < 72) :
    (rowsOf n b = b ∧ (b : ℤ) < (n - 1#32).toInt) ∨ ((n - 1#32).toInt ≤ b ∧ (((rowsOf n b : ℕ) : ℤ) = (n - 1#32).toInt ∨ rowsOf n b = 0 ∧ (n - 1#32).toInt ≤ 0)) := by
  have hs := small_toInt b hb
  have hn := small_toNat b hb
  have hz : (0#32 : BitVec 32).toInt = 0 := rfl
  unfold rowsOf IntOp.maxsi IntOp.minsi IntOp.subi
  by_cases h : (BitVec.ofNat 32 b).slt (n - 1#32) = true
  · have h' := BitVec.slt_iff_toInt_lt.1 h
    rw [if_pos h]
    left
    refine ⟨?_, by omega⟩
    by_cases h0 : (0#32 : BitVec 32).slt (BitVec.ofNat 32 b) = true
    · rw [if_pos h0]; exact hn
    · rw [if_neg h0]
      have h0' : ¬(0#32 : BitVec 32).toInt < (BitVec.ofNat 32 b).toInt := fun g => h0 (BitVec.slt_iff_toInt_lt.2 g)
      show 0 = b
      omega
  · have h' : ¬(BitVec.ofNat 32 b).toInt < (n - 1#32).toInt := fun g => h (BitVec.slt_iff_toInt_lt.2 g)
    rw [if_neg h]
    right
    refine ⟨by omega, ?_⟩
    by_cases h0 : (0#32 : BitVec 32).slt (n - 1#32) = true
    · have h0' := BitVec.slt_iff_toInt_lt.1 h0
      rw [if_pos h0]
      exact .inl (toNat_of_toInt (n - 1#32) b (by omega) (by omega)).2
    · have h0' : ¬(0#32 : BitVec 32).toInt < (n - 1#32).toInt := fun g => h0 (BitVec.slt_iff_toInt_lt.2 g)
      rw [if_neg h0]
      exact .inr ⟨rfl, by omega⟩

theorem rowsOf_lt (n : BitVec 32) (b : ℕ) (hb : b < 72) : rowsOf n b < 72 := by
  rcases rowsOf_cases n b hb with h | h <;> omega

theorem rowsOf_live (n : BitVec 32) (b : ℕ) (hb : b < 72) (h : Live n b) : rowsOf n b = b := by
  have hl := (live_iff n b hb).1 h
  have e := BitVec.toInt_eq_toNat_cond n
  have e1 := BitVec.toInt_eq_toNat_cond (n - 1#32)
  have e2 := BitVec.toNat_sub n 1#32
  have e3 : (1#32 : BitVec 32).toNat = 1 := rfl
  have := n.isLt
  have hn : (n - 1#32).toInt = n.toInt - 1 := by
    split at e <;> split at e1 <;> omega
  rcases rowsOf_cases n b hb with h | h <;> omega

/-- The second condition of the body is the comparison. -/
theorem cond2_iff (i : grid0.Coords) (n : BitVec 32) : k0_cond2 i n = 1#1 ↔ Live n (i 0).val := by
  show IntOp.cmpi .ne ((IntOp.cmpi .slt (BitVec.ofNat 32 (i 0).val) n).setWidth 32) 0#32 = 1#1 ↔ IntOp.cmpi .slt (BitVec.ofNat 32 (i 0).val) n = 1#1
  generalize IntOp.cmpi .slt (BitVec.ofNat 32 (i 0).val) n = w
  revert w
  decide

/-- A word of the first table, and the word of the second, where the maps read them. -/
theorem read_used (pf : pre0.Contents (Elt Ideal)) : pf.at 1 (Rect.unit (s := S1) ![0] S1.size inb_S1_S1_0) numel1_S1 = usedWord pf := by
  unfold usedWord
  exact congrArg (pf 1) (funext fun d => by fin_cases d; rfl)

theorem read_expert (pf : pre0.Contents (Elt Ideal)) (i : grid0.Coords) :
    pf.at 0 (Rect.unit (s := S72) (k0_off1 i) S1.size (k0_off1_inb i)) numel1_S1 = expertWord pf ⟨(i 0).val, (i 0).isLt⟩ := by
  unfold expertWord
  refine congrArg (pf 0) (funext fun d => ?_)
  fin_cases d
  exact Fin.ext ((congrFun (k0_off1_eq i) 0).trans rfl)

/-- The four maps that read the tables. -/
theorem map0 (pf : pre0.Contents (Elt Ideal)) (i : grid0.Coords) :
    cc0_transform_0 inb_S1_S1_0 numel1_S1 pf i = ![rowsOf (usedWord pf) (i 0).val, 0] := by
  rw [← read_used]
  rfl

theorem map1 (pf : pre0.Contents (Elt Ideal)) (i : grid0.Coords) :
    cc0_transform_1 k0_off1_inb numel1_S1 inb_S1_S1_0 pf i
      = ![(expertWord pf ⟨(i 0).val, (i 0).isLt⟩).toNat, 0, pieceOf (usedWord pf) (i 0).val (i 1).val] := by
  rw [← read_used, ← read_expert]
  rfl

theorem map2 (pf : pre0.Contents (Elt Ideal)) (i : grid0.Coords) :
    cc0_transform_2 k0_off1_inb numel1_S1 inb_S1_S1_0 pf i
      = ![(expertWord pf ⟨(i 0).val, (i 0).isLt⟩).toNat, 0, pieceOf (usedWord pf) (i 0).val (i 1).val] := by
  rw [← read_used, ← read_expert]
  rfl

theorem map3 (pf : pre0.Contents (Elt Ideal)) (i : grid0.Coords) :
    cc0_transform_3 k0_off1_inb numel1_S1 inb_S1_S1_0 pf i
      = ![(expertWord pf ⟨(i 0).val, (i 0).isLt⟩).toNat, pieceOf (usedWord pf) (i 0).val (i 1).val, 0] := by
  rw [← read_used, ← read_expert]
  rfl

/-- The weights' blocks are whole words: their rows start at a multiple of the block's height. -/
theorem words1 (ix : Fin 3 → ℕ) (h : ∀ a, (ix a + 1) * S1x2048x1024.size a ≤ S8x2048x7168.size a) :
    (Rect.block (s := S8x2048x7168) S1x2048x1024.size ix h).WholeWords (EltTy.packing .bf16) := by
  have hr : 2 ≤ S8x2048x7168.rank := by decide
  have hd : EltTy.packing .bf16 ∣ S1x2048x1024.size (S8x2048x7168.rowAx hr) := by decide +revert +kernel
  exact .inl (.inr ⟨hr, rfl, .inl ⟨Dvd.dvd.mul_left hd _, hd⟩⟩)

theorem words3 (ix : Fin 3 → ℕ) (h : ∀ a, (ix a + 1) * S1x1024x2048.size a ≤ S8x7168x2048.size a) :
    (Rect.block (s := S8x7168x2048) S1x1024x2048.size ix h).WholeWords (EltTy.packing .bf16) := by
  have hr : 2 ≤ S8x7168x2048.rank := by decide
  have hd : EltTy.packing .bf16 ∣ S1x1024x2048.size (S8x7168x2048.rowAx hr) := by decide +revert +kernel
  exact .inl (.inr ⟨hr, rfl, .inl ⟨Dvd.dvd.mul_left hd _, hd⟩⟩)

/-- When every block's expert exists, every block named lies inside its array. -/
theorem inside_of (pf : pre0.Contents (Elt Ideal)) (he : ∀ b, (expertWord pf b).toNat < 8) : ok0 (F := Ideal) pf := by
  have hi1 : ∀ i : grid0.Coords, (i 1).val < 7 := fun i => (i 1).isLt
  have hi0 : ∀ i : grid0.Coords, (i 0).val < 72 := fun i => (i 0).isLt
  refine ⟨fun i => ⟨fun a => ?_, .inl rfl⟩, fun i => ⟨fun a => ?_, .inr ?_⟩, fun i => ⟨fun a => ?_, .inr ?_⟩, fun i => ⟨fun a => ?_, .inr ?_⟩⟩
  · rw [map0]
    have := rowsOf_lt (usedWord pf) (i 0).val (hi0 i)
    fin_cases a
    · show (rowsOf (usedWord pf) (i 0).val + 1) * 512 ≤ 36864
      omega
    · show (0 + 1) * 2048 ≤ 2048
      omega
  · rw [map1]
    have := he ⟨(i 0).val, (i 0).isLt⟩
    have := pieceOf_lt (usedWord pf) (i 0).val (i 1).val (hi1 i)
    fin_cases a
    · show ((expertWord pf ⟨(i 0).val, (i 0).isLt⟩).toNat + 1) * 1 ≤ 8
      omega
    · show (0 + 1) * 2048 ≤ 2048
      omega
    · show (pieceOf (usedWord pf) (i 0).val (i 1).val + 1) * 1024 ≤ 7168
      omega
  · exact words1 _ _
  · rw [map2]
    have := he ⟨(i 0).val, (i 0).isLt⟩
    have := pieceOf_lt (usedWord pf) (i 0).val (i 1).val (hi1 i)
    fin_cases a
    · show ((expertWord pf ⟨(i 0).val, (i 0).isLt⟩).toNat + 1) * 1 ≤ 8
      omega
    · show (0 + 1) * 2048 ≤ 2048
      omega
    · show (pieceOf (usedWord pf) (i 0).val (i 1).val + 1) * 1024 ≤ 7168
      omega
  · exact words1 _ _
  · rw [map3]
    have := he ⟨(i 0).val, (i 0).isLt⟩
    have := pieceOf_lt (usedWord pf) (i 0).val (i 1).val (hi1 i)
    fin_cases a
    · show ((expertWord pf ⟨(i 0).val, (i 0).isLt⟩).toNat + 1) * 1 ≤ 8
      omega
    · show (pieceOf (usedWord pf) (i 0).val (i 1).val + 1) * 1024 ≤ 7168
      omega
    · show (0 + 1) * 2048 ≤ 2048
      omega
  · exact words3 _ _

end Cert.ExpertSum.IdealRun
end
-- ==== Proof.ExpertsBitsIndex.lean ====
/- Which blocks the experts' call on machine words reads at a grid point, from the words of its two tables; and that the blocks lie inside
   their arrays when every block's expert exists. -/
module

public import proofs.«01_k».proof.Proof.ExpertsBitsPoints
public import Idealize.ShloMosaic.Lib.Pipeline.ValueKit

@[expose] public section

set_option maxRecDepth 16384

noncomputable section

namespace Cert.ExpertSum.BitsRun

open Cert.Experts Cert.Experts.Gen
open Idealize.ShloMosaic Idealize.ShloMosaic.TcCoe

/-- The words of the two tables. -/
def expertWord (pf : pre0.Contents (Elt Bits)) (b : Fin 72) : BitVec 32 := pf 0 (ix1 b)
def usedWord (pf : pre0.Contents (Elt Bits)) : BitVec 32 := pf 1 (ix1 0)

/-- Block `b` of rows is in use: the signed comparison the call and the reference both make. -/
abbrev Live (n : BitVec 32) (b : ℕ) : Prop := IntOp.cmpi .slt (BitVec.ofNat 32 b) n = 1#1

/-- The piece of the hidden width the maps name. -/
def pieceOf (n : BitVec 32) (b j : ℕ) : ℕ := (Scalar.select (IntOp.cmpi .slt (BitVec.ofNat 32 b) n) (BitVec.ofNat 32 j) 6#32).toNat

/-- The block of rows the map names. -/
def rowsOf (n : BitVec 32) (b : ℕ) : ℕ := (IntOp.maxsi (IntOp.minsi (BitVec.ofNat 32 b) (IntOp.subi n 1#32)) 0#32).toNat

theorem pieceOf_lt (n : BitVec 32) (b j : ℕ) (hj : j < 7) : pieceOf n b j < 7 := by
  unfold pieceOf Scalar.select
  split
  · rw [BitVec.toNat_ofNat, Nat.mod_eq_of_lt (by omega)]; exact hj
  · decide

theorem pieceOf_live (n : BitVec 32) (b j : ℕ) (hj : j < 7) (h : Live n b) : pieceOf n b j = j := by
  unfold pieceOf Scalar.select
  rw [if_pos (show IntOp.cmpi .slt (BitVec.ofNat 32 b) n = 1 from h), BitVec.toNat_ofNat, Nat.mod_eq_of_lt (by omega)]

theorem small_toInt (b : ℕ) (hb : b < 72) : (BitVec.ofNat 32 b).toInt = b := by
  rw [BitVec.toInt_eq_toNat_of_lt (by rw [BitVec.toNat_ofNat]; omega), BitVec.toNat_ofNat]; omega

theorem small_toNat (b : ℕ) (hb : b < 72) : (BitVec.ofNat 32 b).toNat = b := by
  rw [BitVec.toNat_ofNat]; omega

theorem live_iff (n : BitVec 32) (b : ℕ) (hb : b < 72) : Live n b ↔ (b : ℤ) < n.toInt := by
  unfold Live IntOp.cmpi
  rw [← small_toInt b hb, ← BitVec.slt_iff_toInt_lt]
  show BitVec.ofBool ((BitVec.ofNat 32 b).slt n) = 1#1 ↔ _
  cases (BitVec.ofNat 32 b).slt n <;> decide

/-- A word between two bounds, read without its sign. -/
theorem toNat_of_toInt (x : BitVec 32) (b : ℕ) (h0 : 0 ≤ x.toInt) (hb : x.toInt ≤ b) : x.toNat ≤ b ∧ (x.toNat : ℤ) = x.toInt := by
  have e := BitVec.toInt_eq_toNat_cond x
  have := x.isLt
  split at e <;> omega

theorem rowsOf_cases (n : BitVec 32) (b : ℕ) (hb : b < 72) :
    (rowsOf n b = b ∧ (b : ℤ) < (n - 1#32).toInt) ∨ ((n - 1#32).toInt ≤ b ∧ (((rowsOf n b : ℕ) : ℤ) = (n - 1#32).toInt ∨ rowsOf n b = 0 ∧ (n - 1#32).toInt ≤ 0)) := by
  have hs := small_toInt b hb
  have hn := small_toNat b hb
  have hz : (0#32 : BitVec 32).toInt = 0 := rfl
  unfold rowsOf IntOp.maxsi IntOp.minsi IntOp.subi
  by_cases h : (BitVec.ofNat 32 b).slt (n - 1#32) = true
  · have h' := BitVec.slt_iff_toInt_lt.1 h
    rw [if_pos h]
    left
    refine ⟨?_, by omega⟩
    by_cases h0 : (0#32 : BitVec 32).slt (BitVec.ofNat 32 b) = true
    · rw [if_pos h0]; exact hn
    · rw [if_neg h0]
      have h0' : ¬(0#32 : BitVec 32).toInt < (BitVec.ofNat 32 b).toInt := fun g => h0 (BitVec.slt_iff_toInt_lt.2 g)
      show 0 = b
      omega
  · have h' : ¬(BitVec.ofNat 32 b).toInt < (n - 1#32).toInt := fun g => h (BitVec.slt_iff_toInt_lt.2 g)
    rw [if_neg h]
    right
    refine ⟨by omega, ?_⟩
    by_cases h0 : (0#32 : BitVec 32).slt (n - 1#32) = true
    · have h0' := BitVec.slt_iff_toInt_lt.1 h0
      rw [if_pos h0]
      exact .inl (toNat_of_toInt (n - 1#32) b (by omega) (by omega)).2
    · have h0' : ¬(0#32 : BitVec 32).toInt < (n - 1#32).toInt := fun g => h0 (BitVec.slt_iff_toInt_lt.2 g)
      rw [if_neg h0]
      exact .inr ⟨rfl, by omega⟩

theorem rowsOf_lt (n : BitVec 32) (b : ℕ) (hb : b < 72) : rowsOf n b < 72 := by
  rcases rowsOf_cases n b hb with h | h <;> omega

theorem rowsOf_live (n : BitVec 32) (b : ℕ) (hb : b < 72) (h : Live n b) : rowsOf n b = b := by
  have hl := (live_iff n b hb).1 h
  have e := BitVec.toInt_eq_toNat_cond n
  have e1 := BitVec.toInt_eq_toNat_cond (n - 1#32)
  have e2 := BitVec.toNat_sub n 1#32
  have e3 : (1#32 : BitVec 32).toNat = 1 := rfl
  have := n.isLt
  have hn : (n - 1#32).toInt = n.toInt - 1 := by
    split at e <;> split at e1 <;> omega
  rcases rowsOf_cases n b hb with h | h <;> omega

/-- The second condition of the body is the comparison. -/
theorem cond2_iff (i : grid0.Coords) (n : BitVec 32) : k0_cond2 i n = 1#1 ↔ Live n (i 0).val := by
  show IntOp.cmpi .ne ((IntOp.cmpi .slt (BitVec.ofNat 32 (i 0).val) n).setWidth 32) 0#32 = 1#1 ↔ IntOp.cmpi .slt (BitVec.ofNat 32 (i 0).val) n = 1#1
  generalize IntOp.cmpi .slt (BitVec.ofNat 32 (i 0).val) n = w
  revert w
  decide

/-- A word of the first table, and the word of the second, where the maps read them. -/
theorem read_used (pf : pre0.Contents (Elt Bits)) : pf.at 1 (Rect.unit (s := S1) ![0] S1.size inb_S1_S1_0) numel1_S1 = usedWord pf := by
  unfold usedWord
  exact congrArg (pf 1) (funext fun d => by fin_cases d; rfl)

theorem read_expert (pf : pre0.Contents (Elt Bits)) (i : grid0.Coords) :
    pf.at 0 (Rect.unit (s := S72) (k0_off1 i) S1.size (k0_off1_inb i)) numel1_S1 = expertWord pf ⟨(i 0).val, (i 0).isLt⟩ := by
  unfold expertWord
  refine congrArg (pf 0) (funext fun d => ?_)
  fin_cases d
  exact Fin.ext ((congrFun (k0_off1_eq i) 0).trans rfl)

/-- The four maps that read the tables. -/
theorem map0 (pf : pre0.Contents (Elt Bits)) (i : grid0.Coords) :
    cc0_transform_0 inb_S1_S1_0 numel1_S1 pf i = ![rowsOf (usedWord pf) (i 0).val, 0] := by
  rw [← read_used]
  rfl

theorem map1 (pf : pre0.Contents (Elt Bits)) (i : grid0.Coords) :
    cc0_transform_1 k0_off1_inb numel1_S1 inb_S1_S1_0 pf i
      = ![(expertWord pf ⟨(i 0).val, (i 0).isLt⟩).toNat, 0, pieceOf (usedWord pf) (i 0).val (i 1).val] := by
  rw [← read_used, ← read_expert]
  rfl

theorem map2 (pf : pre0.Contents (Elt Bits)) (i : grid0.Coords) :
    cc0_transform_2 k0_off1_inb numel1_S1 inb_S1_S1_0 pf i
      = ![(expertWord pf ⟨(i 0).val, (i 0).isLt⟩).toNat, 0, pieceOf (usedWord pf) (i 0).val (i 1).val] := by
  rw [← read_used, ← read_expert]
  rfl

theorem map3 (pf : pre0.Contents (Elt Bits)) (i : grid0.Coords) :
    cc0_transform_3 k0_off1_inb numel1_S1 inb_S1_S1_0 pf i
      = ![(expertWord pf ⟨(i 0).val, (i 0).isLt⟩).toNat, pieceOf (usedWord pf) (i 0).val (i 1).val, 0] := by
  rw [← read_used, ← read_expert]
  rfl

/-- The weights' blocks are whole words: their rows start at a multiple of the block's height. -/
theorem words1 (ix : Fin 3 → ℕ) (h : ∀ a, (ix a + 1) * S1x2048x1024.size a ≤ S8x2048x7168.size a) :
    (Rect.block (s := S8x2048x7168) S1x2048x1024.size ix h).WholeWords (EltTy.packing .bf16) := by
  have hr : 2 ≤ S8x2048x7168.rank := by decide
  have hd : EltTy.packing .bf16 ∣ S1x2048x1024.size (S8x2048x7168.rowAx hr) := by decide +revert +kernel
  exact .inl (.inr ⟨hr, rfl, .inl ⟨Dvd.dvd.mul_left hd _, hd⟩⟩)

theorem words3 (ix : Fin 3 → ℕ) (h : ∀ a, (ix a + 1) * S1x1024x2048.size a ≤ S8x7168x2048.size a) :
    (Rect.block (s := S8x7168x2048) S1x1024x2048.size ix h).WholeWords (EltTy.packing .bf16) := by
  have hr : 2 ≤ S8x7168x2048.rank := by decide
  have hd : EltTy.packing .bf16 ∣ S1x1024x2048.size (S8x7168x2048.rowAx hr) := by decide +revert +kernel
  exact .inl (.inr ⟨hr, rfl, .inl ⟨Dvd.dvd.mul_left hd _, hd⟩⟩)

/-- When every block's expert exists, every block named lies inside its array. -/
theorem inside_of (pf : pre0.Contents (Elt Bits)) (he : ∀ b, (expertWord pf b).toNat < 8) : ok0 (F := Bits) pf := by
  have hi1 : ∀ i : grid0.Coords, (i 1).val < 7 := fun i => (i 1).isLt
  have hi0 : ∀ i : grid0.Coords, (i 0).val < 72 := fun i => (i 0).isLt
  refine ⟨fun i => ⟨fun a => ?_, .inl rfl⟩, fun i => ⟨fun a => ?_, .inr ?_⟩, fun i => ⟨fun a => ?_, .inr ?_⟩, fun i => ⟨fun a => ?_, .inr ?_⟩⟩
  · rw [map0]
    have := rowsOf_lt (usedWord pf) (i 0).val (hi0 i)
    fin_cases a
    · show (rowsOf (usedWord pf) (i 0).val + 1) * 512 ≤ 36864
      omega
    · show (0 + 1) * 2048 ≤ 2048
      omega
  · rw [map1]
    have := he ⟨(i 0).val, (i 0).isLt⟩
    have := pieceOf_lt (usedWord pf) (i 0).val (i 1).val (hi1 i)
    fin_cases a
    · show ((expertWord pf ⟨(i 0).val, (i 0).isLt⟩).toNat + 1) * 1 ≤ 8
      omega
    · show (0 + 1) * 2048 ≤ 2048
      omega
    · show (pieceOf (usedWord pf) (i 0).val (i 1).val + 1) * 1024 ≤ 7168
      omega
  · exact words1 _ _
  · rw [map2]
    have := he ⟨(i 0).val, (i 0).isLt⟩
    have := pieceOf_lt (usedWord pf) (i 0).val (i 1).val (hi1 i)
    fin_cases a
    · show ((expertWord pf ⟨(i 0).val, (i 0).isLt⟩).toNat + 1) * 1 ≤ 8
      omega
    · show (0 + 1) * 2048 ≤ 2048
      omega
    · show (pieceOf (usedWord pf) (i 0).val (i 1).val + 1) * 1024 ≤ 7168
      omega
  · exact words1 _ _
  · rw [map3]
    have := he ⟨(i 0).val, (i 0).isLt⟩
    have := pieceOf_lt (usedWord pf) (i 0).val (i 1).val (hi1 i)
    fin_cases a
    · show ((expertWord pf ⟨(i 0).val, (i 0).isLt⟩).toNat + 1) * 1 ≤ 8
      omega
    · show (pieceOf (usedWord pf) (i 0).val (i 1).val + 1) * 1024 ≤ 7168
      omega
    · show (0 + 1) * 2048 ≤ 2048
      omega
  · exact words3 _ _

end Cert.ExpertSum.BitsRun
end
-- ==== Proof.ExpertsExist.lean ====
/- What the precondition says of the experts' first table: every block of rows names one of the eight experts. So the
   blocks the call reads lie inside their arrays, on machine words and on real numbers alike. -/
module

public import proofs.«01_k».proof.Defs
public import proofs.«01_k».proof.Proof.Gen.Pre_experts_exist
public import proofs.«01_k».proof.Proof.ExpertsIdealIndex
public import proofs.«01_k».proof.Proof.ExpertsBitsIndex
public import Idealize.ShloMosaic.Lib.ReduceAll

@[expose] public section

noncomputable section

namespace Cert.ExpertSum
open Idealize.ShloMosaic Idealize.ShloMosaic.TcCoe Cert.Pre_experts_exist

theorem bit_true {b : Bool} (h : BitVec.ofBool b = 1#1) : b = true := by cases b <;> simp_all

instance : Subsingleton S_.Idx := ⟨fun a b => funext fun d => d.elim0⟩

/-- A word between zero and eight, compared with signs, is below eight. -/
theorem below_eight (w : BitVec 32) (h0 : IntOp.cmpi .sge w 0#32 = 1#1) (h8 : IntOp.cmpi .slt w 8#32 = 1#1) : w.toNat < 8 := by
  have a : (0#32 : BitVec 32).sle w = true := bit_true h0
  have b : w.slt 8#32 = true := bit_true h8
  have a' := BitVec.sle_iff_toInt_le.1 a
  have b' := BitVec.slt_iff_toInt_lt.1 b
  have z : (0#32 : BitVec 32).toInt = 0 := rfl
  have e : (8#32 : BitVec 32).toInt = 8 := rfl
  have t := BitVec.toInt_eq_toNat_cond w
  have := w.isLt
  split at t <;> omega

/-- The precondition, entry by entry. -/
theorem exist_of [Facts] {F : FTy → Type} [FloatOps F] (a0 : IVec S72 32) (a1 : IVec S1 32) (a2 : FVec F S36864x2048 .f32)
    (a3 a4 : FVec F S8x2048x7168 .bf16) (a5 : FVec F S8x7168x2048 .bf16) (j : S_.Idx) (h : fn (F := F) a0 a1 a2 a3 a4 a5 j = 1#1)
    (b : Fin 72) : (a0 (ix1 b)).toNat < 8 := by
  have e := Host.reduce_andi_all _ _ _ _ j h (ix1 b)
  obtain ⟨e0, e8⟩ := IntOp.andi_eq_one.1 e
  exact below_eight _ e0 e8

/-- The experts of the idealized call exist. -/
theorem ideal_exist (m : (ℓ : Loc ExpertsIdeal.nD ExpertsIdeal.τ ExpertsIdeal.sig) → Buf (Elt Ideal) ℓ) (h : Cert.Pre_ExpertsIdeal m) (b : Fin 72) :
    (IdealRun.expertWord (IdealRun.tables m) b).toNat < 8 :=
  exist_of _ _ _ _ _ _ (fun d => d.elim0) (congrFun (h 0) (fun d => d.elim0)) b

theorem bits_exist (m : (ℓ : Loc Experts.nD Experts.τ Experts.sig) → Buf (Elt Bits) ℓ) (h : Cert.Pre_Experts m) (b : Fin 72) :
    (BitsRun.expertWord (BitsRun.tables m) b).toNat < 8 :=
  exist_of _ _ _ _ _ _ (fun d => d.elim0) (congrFun (h 0) (fun d => d.elim0)) b

theorem ideal_inside (m : (ℓ : Loc ExpertsIdeal.nD ExpertsIdeal.τ ExpertsIdeal.sig) → Buf (Elt Ideal) ℓ) (h : Cert.Pre_ExpertsIdeal m) :
    IdealRun.Inside m := IdealRun.inside_of _ (ideal_exist m h)

theorem bits_inside (m : (ℓ : Loc Experts.nD Experts.τ Experts.sig) → Buf (Elt Bits) ℓ) (h : Cert.Pre_Experts m) :
    BitsRun.Inside m := BitsRun.inside_of _ (bits_exist m h)

end Cert.ExpertSum
end
-- ==== Proof.ExpertsIdealBlock.lean ====
/- The experts' call: what the pieces of its body compute, from the stored expressions.

   A block of 512 rows meets one piece of 1024 hidden units of its expert at a time; the result window collects the sum. -/
module

public import proofs.«01_k».proof.Proof.GatedSpec
public import proofs.«01_k».proof.Proof.ExpertsIdealPoints

@[expose] public section

set_option maxRecDepth 16384
noncomputable section

namespace Cert.ExpertSum.IdealRun
open Idealize.ShloMosaic Idealize.ShloMosaic.TcCoe Idealize.SL.Sem Cert.ExpertsIdeal Cert.ExpertsIdeal.Gen Cert.Gated

/-- What one piece of hidden units adds to row `r`, column `d`. -/
def part (H : Fin 512 → Fin 2048 → EReal) (Wg Wu : Vec Ideal S1x2048x1024 .bf16) (Wd : Vec Ideal S1x1024x2048 .bf16) (r : Fin 512)
    (d : Fin 2048) : EReal :=
  ∑ u : Fin 1024, gate (∑ k : Fin 2048, H r k * Wg (ix3 0 k u)) (∑ k : Fin 2048, H r k * Wu (ix3 0 k u)) * Wd (ix3 0 u d)

/-- The cleared window. -/
theorem cleared (y : S512x2048.Idx) : k0_pay1 (F := Ideal) y = 0 := by
  idx_vars y
  pointwise [k0_pay1]

/-- The rows are kept as they are. -/
theorem kept (X : Vec Ideal S512x2048 .f32) (r : Fin 512) (k : Fin 2048) : k0_pay2 (F := Ideal) X (ix2 r k) = X (ix2 r k) := by
  pointwise [k0_pay2]

/-- One piece of hidden units is added. -/
theorem accumulate (H : Vec Ideal S512x2048 .bf16) (Wg Wu : Vec Ideal S1x2048x1024 .bf16) (A : Vec Ideal S512x2048 .f32)
    (Wd : Vec Ideal S1x1024x2048 .bf16) (r : Fin 512) (d : Fin 2048) :
    k0_pay3 (F := Ideal) H Wg Wu A Wd (ix2 r d) = A (ix2 r d) + part (fun r k => H (ix2 r k)) Wg Wu Wd r d := by
  pointwise [k0_pay3]
  simp only [part, gate, zero_sub]

/-! ## The four kinds of points -/

variable (c : Dev nD) (i : grid0.Coords)
  (arg4 : Memref sig .tc .vmem S512x2048 .f32) (harg4 : arg4.IsWhole)
  (arg5 : Memref sig .tc .vmem S1x2048x1024 .bf16) (harg5 : arg5.IsWhole)
  (arg6 : Memref sig .tc .vmem S1x2048x1024 .bf16) (harg6 : arg6.IsWhole)
  (arg7 : Memref sig .tc .vmem S1x1024x2048 .bf16) (harg7 : arg7.IsWhole)
  (arg8 : Memref sig .tc .vmem S512x2048 .f32) (harg8 : arg8.IsWhole)
  (T0 : S72.Idx → Elt Ideal .i32) (T1 : S1.Idx → Elt Ideal .i32)
  (x0 : Vec Ideal S512x2048 .f32) (x1 x2 : Vec Ideal S1x2048x1024 .bf16) (x3 : Vec Ideal S1x1024x2048 .bf16)
  (xo : Vec Ideal S512x2048 .f32) (xa : Vec Ideal S512x2048 .bf16)

/-- The scratch's contents read as rows. -/
abbrev rowsIn (c : Dev nD) (v : Buf (Elt Ideal) ((c : Thread nD τ).loc cc0_scratch0)) (r : Fin 512) (k : Fin 2048) : EReal := v (ix2 r k)

/-- The first piece of a block in use. -/
theorem first_used_out (h1) (h2) (r : Fin 512) (d : Fin 2048) :
    out0_A_4 c i arg4 harg4 arg5 harg5 arg6 harg6 arg7 harg7 arg8 harg8 T0 T1 x0 x1 x2 x3 h1 h2 (ix2 r d) = part (fun r k => x0 (ix2 r k)) x1 x2 x3 r d := by
  frame_out
  rw [accumulate, cleared, zero_add]
  simp only [kept, View.read_rep]

/-- One store over the whole scratch leaves what was stored. -/
theorem scratch_view (x : S512x2048.Idx → Elt Ideal .bf16) (r : Fin 512) (k : Fin 2048) :
    scM0_0.view.read (Elt Ideal) (scM0_0.view.writes (Elt Ideal) scM0_0.view.junk
      [⟨Rect.unit ![0, 0] S512x2048.size inb_S512x2048_S512x2048_0_0, x⟩]) (ix2 r k) = x (ix2 r k) := by
  simp (disch := decide) only [View.read_writes_junk_eq_canon, View.canon_cons_unit_lit']

theorem scratch_read (x : S512x2048.Idx → Elt Ideal .bf16) (r : Fin 512) (k : Fin 2048) :
    scM0_0.view.writes (Elt Ideal) scM0_0.view.junk
      [⟨Rect.unit ![0, 0] S512x2048.size inb_S512x2048_S512x2048_0_0, x⟩] (ix2 r k) = x (ix2 r k) := by
  refine Eq.trans ?_ (scratch_view x r k)
  generalize scM0_0.view.writes (Elt Ideal) scM0_0.view.junk
      [⟨Rect.unit ![0, 0] S512x2048.size inb_S512x2048_S512x2048_0_0, x⟩] = v
  rfl

/-- One load of a whole block reads it. -/
theorem block_read (x0 : Vec Ideal S512x2048 .f32) (y : S512x2048.Idx) :
    View.readAt (Elt Ideal) arg4.view (Rect.unit ![0, 0] S512x2048.size inb_S512x2048_S512x2048_0_0).toLoadRect (arg4.view.rep x0) y = x0 y := by
  rw [View.readAt_eq_ld, View.read_rep]
  exact congrFun (View.ld_unit_lit' _ x0 (by decide)) y

theorem first_used_rows (h1) (h2) (r : Fin 512) (k : Fin 2048) :
    rowsIn c (kernelRun0_A c i arg4 harg4 arg5 harg5 arg6 harg6 arg7 harg7 arg8 harg8 T0 T1 x0 x1 x2 x3 h1 h2).2.1 r k = x0 (ix2 r k) := by
  unfold rowsIn kernelRun0_A
  unfold kernelRun0_A.sl.HS0_1
  dsimp only
  refine (scratch_read _ r k).trans ?_
  rw [kept]
  exact block_read arg4 x0 (ix2 r k)

/-- The first piece of a block not in use. -/
theorem first_out (h1) (h2) (r : Fin 512) (d : Fin 2048) :
    out0_C_4 c i arg4 harg4 arg5 harg5 arg6 harg6 arg7 harg7 arg8 harg8 T0 T1 x0 x1 x2 x3 h1 h2 (ix2 r d) = 0 := by
  frame_out
  rw [cleared]

theorem used_out (h1) (h2) (r : Fin 512) (d : Fin 2048) :
    out0_B_4 c i arg4 harg4 arg5 harg5 arg6 harg6 arg7 harg7 arg8 harg8 T0 T1 x0 x1 x2 x3 xo xa h1 h2 (ix2 r d) = xo (ix2 r d) + part (fun r k => xa (ix2 r k)) x1 x2 x3 r d := by
  frame_out
  rw [accumulate]
  simp only [View.read_rep]
  rfl

theorem used_rows (h1) (h2) : (kernelRun0_B c i arg4 harg4 arg5 harg5 arg6 harg6 arg7 harg7 arg8 harg8 T0 T1 x0 x1 x2 x3 xo xa h1 h2).2.1 = xa := rfl

end Cert.ExpertSum.IdealRun
end
-- ==== Proof.ExpertsIdealData.lean ====
/- What the experts' call keeps between grid points: the output block and the scratch, and the proof data made of them. -/
module

public import proofs.«01_k».proof.Proof.ExpertsIdealPoints

@[expose] public section

set_option maxRecDepth 16384

noncomputable section

namespace Cert.ExpertSum.IdealRun

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : Mem) (ρ : Dev nD → PrngReg) (hO : Inside m)

/-! ## What the output block and the scratch hold after each point -/

/-- The pair the body carries: the output block, the scratch. -/
abbrev Carried (c : Dev nD) : Type := (S512x2048.Idx → Elt Ideal .f32) × Buf (Elt Ideal) ((c : Thread nD τ).loc cc0_scratch0)

/-- One point, from what the point before left. -/
def step (c : Dev nD) (t : Fin (cfg m hO).N) (p : Carried c) : Carried c :=
  if h1 : First m hO t then
    if h2 : Used m hO t then
      (out0_A_4 c (grid0.coords t) (st0 m hO t) (hs0 m hO t) (st1 m hO t) (hs1 m hO t) (st2 m hO t) (hs2 m hO t) (st3 m hO t) (hs3 m hO t) (st4 m hO t) (hs4 m hO t) (tables m 0) (tables m 1) (blk m ρ hO c 0 t) (blk m ρ hO c 1 t) (blk m ρ hO c 2 t) (blk m ρ hO c 3 t) h1 h2,
        (kernelRun0_A c (grid0.coords t) (st0 m hO t) (hs0 m hO t) (st1 m hO t) (hs1 m hO t) (st2 m hO t) (hs2 m hO t) (st3 m hO t) (hs3 m hO t) (st4 m hO t) (hs4 m hO t) (tables m 0) (tables m 1) (blk m ρ hO c 0 t) (blk m ρ hO c 1 t) (blk m ρ hO c 2 t) (blk m ρ hO c 3 t) h1 h2).2.1)
    else
      (out0_C_4 c (grid0.coords t) (st0 m hO t) (hs0 m hO t) (st1 m hO t) (hs1 m hO t) (st2 m hO t) (hs2 m hO t) (st3 m hO t) (hs3 m hO t) (st4 m hO t) (hs4 m hO t) (tables m 0) (tables m 1) (blk m ρ hO c 0 t) (blk m ρ hO c 1 t) (blk m ρ hO c 2 t) (blk m ρ hO c 3 t) h1 h2,
        (kernelRun0_C c (grid0.coords t) (st0 m hO t) (hs0 m hO t) (st1 m hO t) (hs1 m hO t) (st2 m hO t) (hs2 m hO t) (st3 m hO t) (hs3 m hO t) (st4 m hO t) (hs4 m hO t) (tables m 0) (tables m 1) (blk m ρ hO c 0 t) (blk m ρ hO c 1 t) (blk m ρ hO c 2 t) (blk m ρ hO c 3 t) h1 h2).2.1)
  else
    if h2 : Used m hO t then
      (out0_B_4 c (grid0.coords t) (st0 m hO t) (hs0 m hO t) (st1 m hO t) (hs1 m hO t) (st2 m hO t) (hs2 m hO t) (st3 m hO t) (hs3 m hO t) (st4 m hO t) (hs4 m hO t) (tables m 0) (tables m 1) (blk m ρ hO c 0 t) (blk m ρ hO c 1 t) (blk m ρ hO c 2 t) (blk m ρ hO c 3 t) p.1 p.2 h1 h2,
        (kernelRun0_B c (grid0.coords t) (st0 m hO t) (hs0 m hO t) (st1 m hO t) (hs1 m hO t) (st2 m hO t) (hs2 m hO t) (st3 m hO t) (hs3 m hO t) (st4 m hO t) (hs4 m hO t) (tables m 0) (tables m 1) (blk m ρ hO c 0 t) (blk m ρ hO c 1 t) (blk m ρ hO c 2 t) (blk m ρ hO c 3 t) p.1 p.2 h1 h2).2.1)
    else
      (p.1, (kernelRun0_D c (grid0.coords t) (st0 m hO t) (hs0 m hO t) (st1 m hO t) (hs1 m hO t) (st2 m hO t) (hs2 m hO t) (st3 m hO t) (hs3 m hO t) (st4 m hO t) (hs4 m hO t) (tables m 0) (tables m 1) (blk m ρ hO c 0 t) (blk m ρ hO c 1 t) (blk m ρ hO c 2 t) (blk m ρ hO c 3 t) p.2 h1 h2).1)

/-- After `n` points (nothing of note before the first). -/
def afterN (c : Dev nD) : (n : ℕ) → n ≤ (cfg m hO).N → Carried c
  | 0, _ => (default, default)
  | n + 1, h => step m ρ hO c ⟨n, h⟩ (afterN c n (Nat.le_of_succ_le h))

/-- Before point `t`. -/
abbrev prev (c : Dev nD) (t : Fin (cfg m hO).N) : Carried c := afterN m ρ hO c t.val (Nat.le_of_lt t.isLt)

/-- What is known before position `t`: the scratch at the carried contents once the first point has run, and the body's
    halves of the tables. -/
def inv (c : Dev nD) (t : Fin ((cfg m hO).N + 1)) : sProp Res :=
  iprop((∃ a, ⌜t.val ≠ 0 → a = (afterN m ρ hO c t.val (Nat.le_of_lt_succ t.isLt)).2⌝ ∗ (scM0_0.view.loc (c : Thread nD τ) ↦{fullShare} a))
    ∗ (tbM0_0.view.loc (c : Thread nD τ) ↦{fullShare.right} tables m 0) ∗ (tbM0_1.view.loc (c : Thread nD τ) ↦{fullShare.right} tables m 1))

/-- The proof data of the pipeline on core `c`. -/
def dats (_ : Fin 1) (c : Dev nD) : Dat τ (Elt Ideal) Unit ℕ (UR sig nD τ) ℕ (cfg m hO) c where
  A w := (s₀ m ρ).mem (((cfg m hO).win w).arr.view.loc (c : Thread nD τ))
  after w t := match w with
    | ⟨0, _⟩ => blk m ρ hO c (0 : Fin 5) t
    | ⟨1, _⟩ => blk m ρ hO c (1 : Fin 5) t
    | ⟨2, _⟩ => blk m ρ hO c (2 : Fin 5) t
    | ⟨3, _⟩ => blk m ρ hO c (3 : Fin 5) t
    | ⟨4, _⟩ => (step m ρ hO c t (prev m ρ hO c t)).1
  Φ t := inv m ρ hO c t
  q _ := fullShare
  owed _ := 0

theorem after0 (c : Dev nD) (t : Fin (cfg m hO).N) : (dats m ρ hO 0 c).after (0 : Fin 5) t = blk m ρ hO c (0 : Fin 5) t := rfl
theorem after1 (c : Dev nD) (t : Fin (cfg m hO).N) : (dats m ρ hO 0 c).after (1 : Fin 5) t = blk m ρ hO c (1 : Fin 5) t := rfl
theorem after2 (c : Dev nD) (t : Fin (cfg m hO).N) : (dats m ρ hO 0 c).after (2 : Fin 5) t = blk m ρ hO c (2 : Fin 5) t := rfl
theorem after3 (c : Dev nD) (t : Fin (cfg m hO).N) : (dats m ρ hO 0 c).after (3 : Fin 5) t = blk m ρ hO c (3 : Fin 5) t := rfl
theorem after4 (c : Dev nD) (t : Fin (cfg m hO).N) : (dats m ρ hO 0 c).after (4 : Fin 5) t = (step m ρ hO c t (prev m ρ hO c t)).1 := rfl

/-- Each input's staging buffer holds its block. -/
theorem before0 (c : Dev nD) (t : Fin (cfg m hO).N) (d) : (dats m ρ hO 0 c).before (0 : Fin 5) t d = blk m ρ hO c (0 : Fin 5) t :=
  ((dats m ρ hO 0 c).before_in_eq_fetched (0 : Fin 5) rfl (fun _ => rfl) (fun _ _ _ => rfl) (fun t => by rw [after0]; unfold Dat.blockOf blk; rfl) t d).trans
    (by unfold Dat.fetched Dat.blockOf blk; rfl)
theorem before1 (c : Dev nD) (t : Fin (cfg m hO).N) (d) : (dats m ρ hO 0 c).before (1 : Fin 5) t d = blk m ρ hO c (1 : Fin 5) t :=
  ((dats m ρ hO 0 c).before_in_eq_fetched (1 : Fin 5) rfl (fun _ => rfl) (fun _ _ _ => rfl) (fun t => by rw [after1]; unfold Dat.blockOf blk; rfl) t d).trans
    (by unfold Dat.fetched Dat.blockOf blk; rfl)
theorem before2 (c : Dev nD) (t : Fin (cfg m hO).N) (d) : (dats m ρ hO 0 c).before (2 : Fin 5) t d = blk m ρ hO c (2 : Fin 5) t :=
  ((dats m ρ hO 0 c).before_in_eq_fetched (2 : Fin 5) rfl (fun _ => rfl) (fun _ _ _ => rfl) (fun t => by rw [after2]; unfold Dat.blockOf blk; rfl) t d).trans
    (by unfold Dat.fetched Dat.blockOf blk; rfl)
theorem before3 (c : Dev nD) (t : Fin (cfg m hO).N) (d) : (dats m ρ hO 0 c).before (3 : Fin 5) t d = blk m ρ hO c (3 : Fin 5) t :=
  ((dats m ρ hO 0 c).before_in_eq_fetched (3 : Fin 5) rfl (fun _ => rfl) (fun _ _ _ => rfl) (fun t => by rw [after3]; unfold Dat.blockOf blk; rfl) t d).trans
    (by unfold Dat.fetched Dat.blockOf blk; rfl)

/-- One point, case by case. -/
theorem step_used (c : Dev nD) (t : Fin (cfg m hO).N) (p : Carried c) (h1 : ¬First m hO t) (h2 : Used m hO t) :
    step m ρ hO c t p = (out0_B_4 c (grid0.coords t) (st0 m hO t) (hs0 m hO t) (st1 m hO t) (hs1 m hO t) (st2 m hO t) (hs2 m hO t) (st3 m hO t) (hs3 m hO t) (st4 m hO t) (hs4 m hO t) (tables m 0) (tables m 1) (blk m ρ hO c 0 t) (blk m ρ hO c 1 t) (blk m ρ hO c 2 t) (blk m ρ hO c 3 t) p.1 p.2 h1 h2,
        (kernelRun0_B c (grid0.coords t) (st0 m hO t) (hs0 m hO t) (st1 m hO t) (hs1 m hO t) (st2 m hO t) (hs2 m hO t) (st3 m hO t) (hs3 m hO t) (st4 m hO t) (hs4 m hO t) (tables m 0) (tables m 1) (blk m ρ hO c 0 t) (blk m ρ hO c 1 t) (blk m ρ hO c 2 t) (blk m ρ hO c 3 t) p.1 p.2 h1 h2).2.1) := by
  unfold step; rw [dif_neg h1, dif_pos h2]
theorem step_first_used (c : Dev nD) (t : Fin (cfg m hO).N) (p : Carried c) (h1 : First m hO t) (h2 : Used m hO t) :
    step m ρ hO c t p = (out0_A_4 c (grid0.coords t) (st0 m hO t) (hs0 m hO t) (st1 m hO t) (hs1 m hO t) (st2 m hO t) (hs2 m hO t) (st3 m hO t) (hs3 m hO t) (st4 m hO t) (hs4 m hO t) (tables m 0) (tables m 1) (blk m ρ hO c 0 t) (blk m ρ hO c 1 t) (blk m ρ hO c 2 t) (blk m ρ hO c 3 t) h1 h2,
        (kernelRun0_A c (grid0.coords t) (st0 m hO t) (hs0 m hO t) (st1 m hO t) (hs1 m hO t) (st2 m hO t) (hs2 m hO t) (st3 m hO t) (hs3 m hO t) (st4 m hO t) (hs4 m hO t) (tables m 0) (tables m 1) (blk m ρ hO c 0 t) (blk m ρ hO c 1 t) (blk m ρ hO c 2 t) (blk m ρ hO c 3 t) h1 h2).2.1) := by
  unfold step; rw [dif_pos h1, dif_pos h2]
theorem step_first (c : Dev nD) (t : Fin (cfg m hO).N) (p : Carried c) (h1 : First m hO t) (h2 : ¬Used m hO t) :
    step m ρ hO c t p = (out0_C_4 c (grid0.coords t) (st0 m hO t) (hs0 m hO t) (st1 m hO t) (hs1 m hO t) (st2 m hO t) (hs2 m hO t) (st3 m hO t) (hs3 m hO t) (st4 m hO t) (hs4 m hO t) (tables m 0) (tables m 1) (blk m ρ hO c 0 t) (blk m ρ hO c 1 t) (blk m ρ hO c 2 t) (blk m ρ hO c 3 t) h1 h2,
        (kernelRun0_C c (grid0.coords t) (st0 m hO t) (hs0 m hO t) (st1 m hO t) (hs1 m hO t) (st2 m hO t) (hs2 m hO t) (st3 m hO t) (hs3 m hO t) (st4 m hO t) (hs4 m hO t) (tables m 0) (tables m 1) (blk m ρ hO c 0 t) (blk m ρ hO c 1 t) (blk m ρ hO c 2 t) (blk m ρ hO c 3 t) h1 h2).2.1) := by
  unfold step; rw [dif_pos h1, dif_neg h2]
theorem step_idle (c : Dev nD) (t : Fin (cfg m hO).N) (p : Carried c) (h1 : ¬First m hO t) (h2 : ¬Used m hO t) :
    step m ρ hO c t p = (p.1, (kernelRun0_D c (grid0.coords t) (st0 m hO t) (hs0 m hO t) (st1 m hO t) (hs1 m hO t) (st2 m hO t) (hs2 m hO t) (st3 m hO t) (hs3 m hO t) (st4 m hO t) (hs4 m hO t) (tables m 0) (tables m 1) (blk m ρ hO c 0 t) (blk m ρ hO c 1 t) (blk m ρ hO c 2 t) (blk m ρ hO c 3 t) p.2 h1 h2).1) := by
  unfold step; rw [dif_neg h1, dif_neg h2]

/-- What the point before `t` left, when there is one. -/
theorem prev_eq (c : Dev nD) (t : Fin (cfg m hO).N) (ht : t.val ≠ 0) :
    prev m ρ hO c t = step m ρ hO c ⟨t.val - 1, by omega⟩ (prev m ρ hO c ⟨t.val - 1, by omega⟩) := by
  obtain ⟨n, hn⟩ := t
  cases n with
  | zero => exact absurd rfl ht
  | succ n => rfl

/-- The output block carries through the points that leave it alone. -/
theorem carry (c : Dev nD) : ∀ (t : Fin (cfg m hO).N) (ht : t.val ≠ 0), (cfg m hO).idle (4 : Fin 5) ((cfg m hO).grid.coords t) = true → (cfg m hO).fresh (4 : Fin 5) t.val = false →
    (dats m ρ hO 0 c).after (4 : Fin 5) t = (dats m ρ hO 0 c).after (4 : Fin 5) ⟨t.val - 1, by omega⟩ := by
  intro t ht hi _
  rw [after4, after4]
  by_cases h1 : First m hO t
  · rw [idle_first m hO t h1] at hi; exact absurd hi (by decide)
  · by_cases h2 : Used m hO t
    · rw [idle_used m hO t h2] at hi; exact absurd hi (by decide)
    · rw [step_idle m ρ hO c t _ h1 h2, prev_eq m ρ hO c t ht]

/-- The output's buffer before a later point of its block: what the point before left. -/
theorem before4 (c : Dev nD) (t : Fin (cfg m hO).N) (d) (h1 : ¬First m hO t) :
    (dats m ρ hO 0 c).before (4 : Fin 5) t d = (prev m ρ hO c t).1 := by
  rw [(dats m ρ hO 0 c).before_out_traj (4 : Fin 5) rfl (fun _ _ => rfl) (carry m ρ hO c) t.val t rfl d]
  have h0 := not_first_pos m hO t h1
  simp only [not_first_held m hO t h1, Bool.false_eq_true, ↓reduceIte, after4]
  rw [prev_eq m ρ hO c t h0]

end Cert.ExpertSum.IdealRun

end
-- ==== Proof.ExpertsIdealBody.lean ====
/- The experts' body at a grid point does what the proof data say. -/
module

public import proofs.«01_k».proof.Proof.ExpertsIdealData

@[expose] public section

set_option maxRecDepth 16384

noncomputable section

namespace Cert.ExpertSum.IdealRun

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : Mem) (ρ : Dev nD → PrngReg) (hO : Inside m)

/-! ## The body at a point -/

/-- The body on its staging memrefs. -/
abbrev bodyAt (t : Fin (cfg m hO).N) : Prog (TpuEff nD τ sig (Elt Ideal) Λ₀ .tc) PUnit :=
  cc0_moe_experts (grid0.coords t) (Memref.whole main_arg0) (Memref.isWhole_whole _) (Memref.whole main_arg1) (Memref.isWhole_whole _) (st0 m hO t) (hs0 m hO t) (st1 m hO t) (hs1 m hO t) (st2 m hO t) (hs2 m hO t) (st3 m hO t) (hs3 m hO t) (st4 m hO t) (hs4 m hO t) (Memref.whole cc0_scratch0) (Memref.isWhole_whole _)

/-- What the body is given at point `t`, the output's buffer apart. -/
def given (c : Dev nD) (t : Fin (cfg m hO).N) (P : sProp Res) : sProp Res :=
  iprop(inv m ρ hO c t.castSucc ∗ (dats m ρ hO 0 c).owesAt () t.castSucc
    ∗ (∃ d : S512x2048.Idx → Elt Ideal .f32, owns (c : Thread nD τ) (st0 m hO t) fullShare (blk m ρ hO c (0 : Fin 5) t))
    ∗ (∃ d : S1x2048x1024.Idx → Elt Ideal .bf16, owns (c : Thread nD τ) (st1 m hO t) fullShare (blk m ρ hO c (1 : Fin 5) t))
    ∗ (∃ d : S1x2048x1024.Idx → Elt Ideal .bf16, owns (c : Thread nD τ) (st2 m hO t) fullShare (blk m ρ hO c (2 : Fin 5) t))
    ∗ (∃ d : S1x1024x2048.Idx → Elt Ideal .bf16, owns (c : Thread nD τ) (st3 m hO t) fullShare (blk m ρ hO c (3 : Fin 5) t))
    ∗ P)

/-- What it returns, the output's buffer apart. -/
def returned (c : Dev nD) (t : Fin (cfg m hO).N) (P : sProp Res) : sProp Res :=
  iprop(inv m ρ hO c t.succ ∗ (dats m ρ hO 0 c).owesAt () t.castSucc
    ∗ owns (c : Thread nD τ) (st0 m hO t) fullShare (blk m ρ hO c (0 : Fin 5) t)
    ∗ owns (c : Thread nD τ) (st1 m hO t) fullShare (blk m ρ hO c (1 : Fin 5) t)
    ∗ owns (c : Thread nD τ) (st2 m hO t) fullShare (blk m ρ hO c (2 : Fin 5) t)
    ∗ owns (c : Thread nD τ) (st3 m hO t) fullShare (blk m ρ hO c (3 : Fin 5) t)
    ∗ P)

theorem inv_succ (c : Dev nD) (t : Fin (cfg m hO).N) (o) (v) (h : step m ρ hO c t (prev m ρ hO c t) = (o, v)) :
    inv m ρ hO c t.succ = iprop((∃ a, ⌜t.val + 1 ≠ 0 → a = v⌝ ∗ (scM0_0.view.loc (c : Thread nD τ) ↦{fullShare} a))
      ∗ (tbM0_0.view.loc (c : Thread nD τ) ↦{fullShare.right} tables m 0) ∗ (tbM0_1.view.loc (c : Thread nD τ) ↦{fullShare.right} tables m 1)) := by
  obtain rfl : (step m ρ hO c t (prev m ρ hO c t)).2 = v := congrArg Prod.snd h; rfl

theorem fst_of {A B : Type} {p : A × B} {a : A} {b : B} (h : p = (a, b)) : p.1 = a := by rw [h]

theorem inv_held (c : Dev nD) (t : Fin (cfg m hO).N) (h : t.val ≠ 0) :
    inv m ρ hO c t.castSucc = iprop((scM0_0.view.loc (c : Thread nD τ) ↦{fullShare} (prev m ρ hO c t).2)
      ∗ (tbM0_0.view.loc (c : Thread nD τ) ↦{fullShare.right} tables m 0) ∗ (tbM0_1.view.loc (c : Thread nD τ) ↦{fullShare.right} tables m 1)) := by
  unfold inv; rw [exists_held (show t.castSucc.val ≠ 0 from h)]; rfl

set_option maxHeartbeats 600000 in
theorem body_first_used (c : Dev nD) (t : Fin (cfg m hO).N) (h1 : First m hO t) (h2 : Used m hO t) :
    given m ρ hO c t iprop(∃ d, owns (c : Thread nD τ) (st4 m hO t) fullShare ((dats m ρ hO 0 c).before (4 : Fin 5) t d))
      ⊢ wp frame (wpE (defs₀ (F := Ideal)) Variants.none c none) Set.univ (bodyAt m hO t) fun _ =>
          returned m ρ hO c t (owns (c : Thread nD τ) (st4 m hO t) fullShare (step m ρ hO c t (prev m ρ hO c t)).1) := by
  unfold given returned
  rw [inv_succ m ρ hO c t _ _ (step_first_used m ρ hO c t _ h1 h2), fst_of (step_first_used m ρ hO c t _ h1 h2)]
  unfold inv
  iintro ⟨⟨⟨%a0, -, HS0⟩, HT0, HT1⟩, Ho, ⟨%d0, H0⟩, ⟨%d1, H1⟩, ⟨%d2, H2⟩, ⟨%d3, H3⟩, ⟨%d4, H4⟩⟩
  iapply ((kernelRun0_A c (grid0.coords t) (st0 m hO t) (hs0 m hO t) (st1 m hO t) (hs1 m hO t) (st2 m hO t) (hs2 m hO t) (st3 m hO t) (hs3 m hO t) (st4 m hO t) (hs4 m hO t) (tables m 0) (tables m 1) (blk m ρ hO c 0 t) (blk m ρ hO c 1 t) (blk m ρ hO c 2 t) (blk m ρ hO c 3 t) h1 h2).2.2 a0 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  iintro ⟨H0, H1, H2, H3, HT0, HT1, ⟨%e4, H4⟩, HS0⟩
  isplitl [HS0 HT0 HT1]
  · isplitl [HS0]
    · iexists _; isplitr; swap
      · iexact HS0
      · ipureintro; intro _; rfl
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro; exact View.read_writes_of_cover _ _ _ _ _ (cover0_A_4 c _ _ _ _ _ _ _ _ _ _ _ _ _ _ _ _ _ _ _)

set_option maxHeartbeats 600000 in
theorem body_first (c : Dev nD) (t : Fin (cfg m hO).N) (h1 : First m hO t) (h2 : ¬Used m hO t) :
    given m ρ hO c t iprop(∃ d, owns (c : Thread nD τ) (st4 m hO t) fullShare ((dats m ρ hO 0 c).before (4 : Fin 5) t d))
      ⊢ wp frame (wpE (defs₀ (F := Ideal)) Variants.none c none) Set.univ (bodyAt m hO t) fun _ =>
          returned m ρ hO c t (owns (c : Thread nD τ) (st4 m hO t) fullShare (step m ρ hO c t (prev m ρ hO c t)).1) := by
  unfold given returned
  rw [inv_succ m ρ hO c t _ _ (step_first m ρ hO c t _ h1 h2), fst_of (step_first m ρ hO c t _ h1 h2)]
  unfold inv
  iintro ⟨⟨⟨%a0, -, HS0⟩, HT0, HT1⟩, Ho, ⟨%d0, H0⟩, ⟨%d1, H1⟩, ⟨%d2, H2⟩, ⟨%d3, H3⟩, ⟨%d4, H4⟩⟩
  iapply ((kernelRun0_C c (grid0.coords t) (st0 m hO t) (hs0 m hO t) (st1 m hO t) (hs1 m hO t) (st2 m hO t) (hs2 m hO t) (st3 m hO t) (hs3 m hO t) (st4 m hO t) (hs4 m hO t) (tables m 0) (tables m 1) (blk m ρ hO c 0 t) (blk m ρ hO c 1 t) (blk m ρ hO c 2 t) (blk m ρ hO c 3 t) h1 h2).2.2 a0 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  iintro ⟨H0, H1, H2, H3, HT0, HT1, ⟨%e4, H4⟩, HS0⟩
  isplitl [HS0 HT0 HT1]
  · isplitl [HS0]
    · iexists _; isplitr; swap
      · iexact HS0
      · ipureintro; intro _; rfl
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro; exact View.read_writes_of_cover _ _ _ _ _ (cover0_C_4 c _ _ _ _ _ _ _ _ _ _ _ _ _ _ _ _ _ _ _)

set_option maxHeartbeats 600000 in
theorem body_used (c : Dev nD) (t : Fin (cfg m hO).N) (h1 : ¬First m hO t) (h2 : Used m hO t) :
    given m ρ hO c t iprop(∃ d : S512x2048.Idx → Elt Ideal .f32, owns (c : Thread nD τ) (st4 m hO t) fullShare (prev m ρ hO c t).1)
      ⊢ wp frame (wpE (defs₀ (F := Ideal)) Variants.none c none) Set.univ (bodyAt m hO t) fun _ =>
          returned m ρ hO c t (owns (c : Thread nD τ) (st4 m hO t) fullShare (step m ρ hO c t (prev m ρ hO c t)).1) := by
  unfold given returned
  rw [inv_succ m ρ hO c t _ _ (step_used m ρ hO c t _ h1 h2), fst_of (step_used m ρ hO c t _ h1 h2), inv_held m ρ hO c t (not_first_pos m hO t h1)]
  iintro ⟨⟨HS0, HT0, HT1⟩, Ho, ⟨%d0, H0⟩, ⟨%d1, H1⟩, ⟨%d2, H2⟩, ⟨%d3, H3⟩, ⟨%d4, H4⟩⟩
  iapply ((kernelRun0_B c (grid0.coords t) (st0 m hO t) (hs0 m hO t) (st1 m hO t) (hs1 m hO t) (st2 m hO t) (hs2 m hO t) (st3 m hO t) (hs3 m hO t) (st4 m hO t) (hs4 m hO t) (tables m 0) (tables m 1) (blk m ρ hO c 0 t) (blk m ρ hO c 1 t) (blk m ρ hO c 2 t) (blk m ρ hO c 3 t) _ _ h1 h2).2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  iintro ⟨H0, H1, H2, H3, HT0, HT1, ⟨%e4, H4⟩, HS0⟩
  isplitl [HS0 HT0 HT1]
  · isplitl [HS0]
    · iexists _; isplitr; swap
      · iexact HS0
      · ipureintro; intro _; rfl
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro; exact View.read_writes_of_cover _ _ _ _ _ (cover0_B_4 c _ _ _ _ _ _ _ _ _ _ _ _ _ _ _ _ _ _ _ _ _)

set_option maxHeartbeats 600000 in
theorem body_idle (c : Dev nD) (t : Fin (cfg m hO).N) (h1 : ¬First m hO t) (h2 : ¬Used m hO t) :
    given m ρ hO c t iprop(∃ d : S512x2048.Idx → Elt Ideal .f32, owns (c : Thread nD τ) (st4 m hO t) fullShare (prev m ρ hO c t).1)
      ⊢ wp frame (wpE (defs₀ (F := Ideal)) Variants.none c none) Set.univ (bodyAt m hO t) fun _ =>
          returned m ρ hO c t (owns (c : Thread nD τ) (st4 m hO t) fullShare (prev m ρ hO c t).1) := by
  unfold given returned
  rw [inv_succ m ρ hO c t _ _ (step_idle m ρ hO c t _ h1 h2), inv_held m ρ hO c t (not_first_pos m hO t h1)]
  iintro ⟨⟨HS0, HT0, HT1⟩, Ho, ⟨%d0, H0⟩, ⟨%d1, H1⟩, ⟨%d2, H2⟩, ⟨%d3, H3⟩, ⟨%d4, H4⟩⟩
  iapply ((kernelRun0_D c (grid0.coords t) (st0 m hO t) (hs0 m hO t) (st1 m hO t) (hs1 m hO t) (st2 m hO t) (hs2 m hO t) (st3 m hO t) (hs3 m hO t) (st4 m hO t) (hs4 m hO t) (tables m 0) (tables m 1) (blk m ρ hO c 0 t) (blk m ρ hO c 1 t) (blk m ρ hO c 2 t) (blk m ρ hO c 3 t) _ h1 h2).2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  iintro ⟨H0, H1, H2, H3, HT0, HT1, H4, HS0⟩
  isplitl [HS0 HT0 HT1]
  · isplitl [HS0]
    · iexists _; isplitr; swap
      · iexact HS0
      · ipureintro; intro _; rfl
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexact H4

/-- The block a point leaves alone, handed back as whatever it was. -/
theorem returned_any (c : Dev nD) (t : Fin (cfg m hO).N) (v : S512x2048.Idx → Elt Ideal .f32) :
    returned m ρ hO c t (owns (c : Thread nD τ) (st4 m hO t) fullShare v)
      ⊢ returned m ρ hO c t iprop(∃ d : S512x2048.Idx → Elt Ideal .f32, owns (c : Thread nD τ) (st4 m hO t) fullShare v) := by
  unfold returned
  iintro ⟨Hi, Ho, H0, H1, H2, H3, H4⟩
  isplitl [Hi]; · iexact Hi
  isplitl [Ho]; · iexact Ho
  isplitl [H0]; · iexact H0
  isplitl [H1]; · iexact H1
  isplitl [H2]; · iexact H2
  isplitl [H3]; · iexact H3
  iexists v
  iexact H4

set_option maxHeartbeats 600000 in
/-- The body does at every point what the proof data say. -/
theorem body_obligation (c : Dev nD) : BodyObligation (dats m ρ hO 0 c) (defs₀ (F := Ideal)) Variants.none () Set.univ := fun t => by
  rw [bigSep_W0, bigSep_W0]
  by_cases h1 : First m hO t
  · by_cases h2 : Used m hO t
    · rewrite [idle_first m hO t h1]
      simp only [before0, before1, before2, before3, after0, after1, after2, after3, after4]
      exact body_first_used m ρ hO c t h1 h2
    · rewrite [idle_first m hO t h1]
      simp only [before0, before1, before2, before3, after0, after1, after2, after3, after4]
      exact body_first m ρ hO c t h1 h2
  · by_cases h2 : Used m hO t
    · rewrite [idle_used m hO t h2]
      simp only [before0, before1, before2, before3, before4 m ρ hO c t _ h1, after0, after1, after2, after3, after4]
      exact body_used m ρ hO c t h1 h2
    · cases f4 : ((cfg m hO).win (4 : Fin 5)).flush t
      · rewrite [idle_neither m hO t h1 h2]
        simp only [before0, before1, before2, before3, before4 m ρ hO c t _ h1, after0, after1, after2, after3, after4, f4]
        exact (body_idle m ρ hO c t h1 h2).trans (wp_mono _ _ _ fun _ => returned_any m ρ hO c t _)
      · rewrite [idle_neither m hO t h1 h2]
        simp only [before0, before1, before2, before3, before4 m ρ hO c t _ h1, after0, after1, after2, after3, after4, f4]
        rw [fst_of (step_idle m ρ hO c t _ h1 h2)]
        exact body_idle m ρ hO c t h1 h2

end Cert.ExpertSum.IdealRun

end
-- ==== Proof.ExpertsIdealFrame.lean ====
/- The experts' call runs from any memory whose tables name blocks inside their arrays: it terminates, its arguments are
   unchanged, and its result array holds what the proof data say. -/
module

public import proofs.«01_k».proof.Proof.ExpertsIdealBody

@[expose] public section

set_option maxRecDepth 16384

noncomputable section

namespace Cert.ExpertSum.IdealRun

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : Mem) (ρ : Dev nD → PrngReg) (hO : Inside m)

/-! ## The launch -/

/-- The pipeline's own resource, inside the whole. -/
abbrev EP : Emb (UR sig nD τ) Res := emb₁

/-- The shares and tokens the launch deals out. -/
def dealt : UR sig nD τ :=
  initOf (Pipeline.cells (pcs m hO) ((launch0 (F := Ideal)).cellOf_inj fun _ => adm m hO))
    (Pipeline.launchToks (pcs m hO) ((launch0 (F := Ideal)).cellOf_inj fun _ => adm m hO))

theorem share_full (c : Dev nD) (w : Fin (cfg m hO).W) : (dats m ρ hO 0 c).share w = fullShare := by unfold Dat.share; split <;> rfl

/-- The tables one by one. -/
theorem tables_held (c : Dev nD) (q : Fin 2 → PosShare TreeShare) (v : pre0.Contents (Elt Ideal)) :
    (Pipeline.prefHeld (Ix := Unit) (Name := ℕ) (U := UR sig nD τ) (Lvl := ℕ) pre0 c q v : sProp Res)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- Before the first point: the tables and the scratch, whatever it holds. -/
theorem inv_start (c : Dev nD) :
    iprop(BI.emp ∗ Pipeline.prefHeld pre0 c (fun _ => fullShare.right) (adm m hO).1 ∗ Pipeline.scopedRest spec0 c) ⊢ (dats m ρ hO 0 c).Φ 0 := by
  rw [tables_held, scopedRest0_eq, show (dats m ρ hO 0 c).Φ 0 = inv m ρ hO c 0 from rfl]
  unfold inv
  iintro ⟨-, ⟨HT0, HT1⟩, ⟨%a0, HS0⟩⟩
  isplitl [HS0]
  · iexists a0; isplitr; swap
    · iexact HS0
    · ipureintro; intro h; exact absurd rfl h
  isplitl [HT0]
  · iexact HT0
  iexact HT1

/-- After the last point the scratch is given back. -/
theorem inv_end (c : Dev nD) : (dats m ρ hO 0 c).Φ (Fin.last (cfg m hO).N) ⊢ iprop(BI.emp ∗ Pipeline.scopedRest spec0 c) := by
  rw [scopedRest0_eq, show (dats m ρ hO 0 c).Φ (Fin.last (cfg m hO).N) = inv m ρ hO c (Fin.last _) from rfl]
  unfold inv
  iintro ⟨⟨%a0, -, HS0⟩, -, -⟩
  isplitr; · iempintro
  iexists a0; iexact HS0

/-- Every array ends at what the proof data say, every table as it was. -/
def Post : PUnit × MemSt nD τ sig (Elt Ideal) → Prop := fun r =>
  ∀ c : Dev nD, (∀ w : Fin (cfg m hO).W, r.2.mem (((cfg m hO).win w).arr.view.loc (c : Thread nD τ)) = (dats m ρ hO 0 c).arrAt w (cfg m hO).N)
    ∧ ∀ j, r.2.mem ((c : Thread nD τ).loc (pre0.ref j)) = (adm m hO).1 j

set_option backward.isDefEq.respectTransparency.types false in
set_option maxHeartbeats 4000000 in
/-- Every execution terminates in such a state, with every counter at zero. -/
theorem run_zero : θ_run (defs (F := Ideal)) (onTc (τ := τ) (main (F := Ideal))) (s₀ m ρ) (fun r => Post m ρ hO r ∧ r.2.sem = fun _ => 0) :=
  Pipeline.θ_run_region_noSem_pf_quiescent pcfgs (fun _ => adm m hO) (dats m ρ hO) () ((launch0 (F := Ideal)).cellOf_inj fun _ => adm m hO) (0 : Fin 1)
    (launch0 (F := Ideal)).win.to₀ (launch0 (F := Ideal)).pre EP defs₀ Variants.none m ρ main
    (hbody := fun c => (body_obligation m ρ hO c).loose) (hne := (launch0 (F := Ideal)).block_pos)
    (harr := (launch0 (F := Ideal)).arr_whole) (hstage := (launch0 (F := Ideal)).stage_whole) (howed := fun _ _ => rfl)
    (u₀ := dealt m hO) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hO) (dats m ρ hO) 0 (launch0 (F := Ideal)).win.arr_inj c (launch0 (F := Ideal)).arr_whole
      (share_full m ρ hO c) _ _ fun _ => rfl)
    (hpf := tables_eq m)
    (X := fun _ => iprop(emp)) (Y := fun _ => iprop(emp)) (Z := fun _ => iprop(emp))
    (hX := fun c => by rw [unscopedRestP0_eq]; iintro -; isplitr <;> iempintro)
    (hin := inv_start m ρ hO)
    (hout := inv_end m ρ hO)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The state alone. -/
theorem run : θ_run (defs (F := Ideal)) (onTc (τ := τ) (main (F := Ideal))) (s₀ m ρ) (Post m ρ hO) :=
  (θ_run defs _ _).mono (fun _ h => h.1) (run_zero m ρ hO)

/-- What the state says of the six arguments. -/
theorem args_kept {r : PUnit × MemSt nD τ sig (Elt Ideal)} (h : Post m ρ hO r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 0).trans (tables_eq m c 0).symm, ((h c).2 1).trans (tables_eq m c 1).symm,
    ((h c).1 (0 : Fin 5)).trans ((dats m ρ hO 0 c).arrAt_in (0 : Fin 5) rfl _), ((h c).1 (1 : Fin 5)).trans ((dats m ρ hO 0 c).arrAt_in (1 : Fin 5) rfl _),
    ((h c).1 (2 : Fin 5)).trans ((dats m ρ hO 0 c).arrAt_in (2 : Fin 5) rfl _), ((h c).1 (3 : Fin 5)).trans ((dats m ρ hO 0 c).arrAt_in (3 : Fin 5) rfl _)⟩

include hO in
/-- The frame: the arguments end unchanged and every counter is zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_kept m ρ hO h.1, h.2⟩) (run_zero m ρ hO)

/-- The result array with the arguments, as one statement. -/
theorem run_result : θ_run (defs (F := Ideal)) (onTc (τ := τ) (main (F := Ideal))) ⟨m, fun _ => 0, ρ⟩ (fun r => ∀ c : Dev nD,
      r.2.mem (((cfg m hO).win (4 : Fin 5)).arr.view.loc (c : Thread nD τ)) = (dats m ρ hO 0 c).arrAt (4 : Fin 5) (cfg m hO).N) :=
  (θ_run defs _ _).mono (fun _ h c => (h c).1 (4 : Fin 5)) (run m ρ hO)

end Cert.ExpertSum.IdealRun

end
-- ==== Proof.ExpertsIdealArray.lean ====
/- The experts' call's result array: the rows of a block in use go through their expert's gated feed-forward, the other
   rows are zero. -/
module

public import proofs.«01_k».proof.Proof.ExpertsIdealBlock
public import proofs.«01_k».proof.Proof.ExpertsIdealIndex
public import proofs.«01_k».proof.Proof.ExpertsIdealFrame

@[expose] public section

set_option maxRecDepth 16384
noncomputable section

namespace Cert.ExpertSum.IdealRun
open Idealize.ShloMosaic Idealize.ShloMosaic.TcCoe Idealize.ShloMosaic.Tactic Idealize.SL.Sem Cert.ExpertsIdeal Cert.ExpertsIdeal.Gen Cert.Gated
open Idealize.ShloMosaic.Pipeline (Dat Cfg Window)

/-! ## The specification -/

/-- Hidden unit `n`, for `n` below 7168. -/
def unit (n : ℕ) : Fin 7168 := ⟨n % 7168, Nat.mod_lt _ (by decide)⟩

theorem unit_mk {n : ℕ} (h : n < 7168) : (⟨n, h⟩ : Fin 7168) = unit n := Fin.ext (Nat.mod_eq_of_lt h).symm

theorem unit_val (f : Fin 7168) : unit f.val = f := Fin.ext (Nat.mod_eq_of_lt f.isLt)

/-- The expert a word names, for words below 8. -/
def expertOf (w : BitVec 32) : Fin 8 := ⟨w.toNat % 8, Nat.mod_lt _ (by decide)⟩

theorem expertOf_val {w : BitVec 32} (h : w.toNat < 8) : (expertOf w).val = w.toNat := Nat.mod_eq_of_lt h

/-- The block row `i` lies in. -/
def blockOf (i : Fin 36864) : Fin 72 := ⟨i.val / 512, by omega⟩

section Spec
variable (xs : FVec Ideal S36864x2048 .f32) (wg wu : FVec Ideal S8x2048x7168 .bf16) (wd : FVec Ideal S8x7168x2048 .bf16)

/-- Hidden unit `f` of row `i` under expert `e`, times its weight to column `d`. -/
def term (e : Fin 8) (i : Fin 36864) (d : Fin 2048) (f : Fin 7168) : EReal :=
  gate (∑ k : Fin 2048, xs (ix2 i k) * wg (ix3 e k f)) (∑ k : Fin 2048, xs (ix2 i k) * wu (ix3 e k f)) * wd (ix3 e f d)

open Classical in
/-- Row by row: `(silu(x wg) · (x wu)) wd` under the expert of the row's block when the block is in use, else zero. -/
def result (live : S72.Idx → BitVec 32) (nu : S1.Idx → BitVec 32) : FVec Ideal S36864x2048 .f32 := fun y =>
  if Live (nu (ix1 0)) (blockOf ⟨(y 0).val, (y 0).isLt⟩).val then
    ∑ f : Fin 7168, term xs wg wu wd (expertOf (live (ix1 (blockOf ⟨(y 0).val, (y 0).isLt⟩)))) ⟨(y 0).val, (y 0).isLt⟩ ⟨(y 1).val, (y 1).isLt⟩ f
  else 0

end Spec

/-! ## Where the blocks lie -/

theorem coord0 : ∀ t : Fin grid0.N, (grid0.coords t 0).val = t.val / 7 := by decide +kernel
theorem coord1 : ∀ t : Fin grid0.N, (grid0.coords t 1).val = t.val % 7 := by decide +kernel
theorem index4 : ∀ t : Fin grid0.N, cc0_transform_4 (grid0.coords t) = ![t.val / 7, 0] := by decide +kernel

theorem point_block (t : Fin grid0.N) : t.val / 7 < 72 := by
  have : t.val < 504 := t.isLt
  omega

variable (m : Mem) (ρ : Dev nD → PrngReg) (hO : Inside m) (c : Dev nD)

theorem point_lt (t : Fin (cfg m hO).N) : t.val < 504 := t.isLt

/-- The block of rows of a point, and row `r` of it. -/
def blockAt (t : Fin (cfg m hO).N) : Fin 72 := ⟨t.val / 7, by have := point_lt m hO t; omega⟩
def rowOf (t : Fin (cfg m hO).N) (r : Fin 512) : Fin 36864 := ⟨t.val / 7 * 512 + r.val, by have := point_lt m hO t; omega⟩
/-- Hidden unit `u` of a point's piece. -/
def unitOf (t : Fin (cfg m hO).N) (u : Fin 1024) : Fin 7168 := ⟨t.val % 7 * 1024 + u.val, by omega⟩
/-- The expert of a point's block. -/
def expertAt (t : Fin (cfg m hO).N) : Fin 8 := expertOf (expertWord (tables m) (blockAt m hO t))

/-- A point's block of rows is in use. -/
abbrev LiveAt (t : Fin (cfg m hO).N) : Prop := Live (usedWord (tables m)) (t.val / 7)

theorem used_word : used (tables m 1) = usedWord (tables m) :=
  congrArg (tables m 1) (funext fun d => by fin_cases d; rfl)

theorem used_iff (t : Fin (cfg m hO).N) : Used m hO t ↔ LiveAt m hO t := by
  have e := coord0 t
  have h := cond2_iff (grid0.coords t) (used (tables m 1))
  rw [e, used_word] at h
  rw [← used_word] at h
  exact h.trans (by rw [used_word])

/-- The arrays the call reads. -/
abbrev xsOf : FVec Ideal S36864x2048 .f32 := m ((c : Thread nD τ).loc main_arg2)
abbrev wgOf : FVec Ideal S8x2048x7168 .bf16 := m ((c : Thread nD τ).loc main_arg3)
abbrev wuOf : FVec Ideal S8x2048x7168 .bf16 := m ((c : Thread nD τ).loc main_arg4)
abbrev wdOf : FVec Ideal S8x7168x2048 .bf16 := m ((c : Thread nD τ).loc main_arg5)

theorem place0 (t : Fin grid0.N) (h : Live (usedWord (tables m)) (t.val / 7)) :
    cc0_transform_0 inb_S1_S1_0 numel1_S1 (tables m) (grid0.coords t) = ![t.val / 7, 0] := by
  have ht : t.val < 504 := t.isLt
  rw [map0, coord0, rowsOf_live _ _ (by omega) h]

theorem place1 (t : Fin grid0.N) (h : Live (usedWord (tables m)) (t.val / 7)) (he : ∀ b, (expertWord (tables m) b).toNat < 8) :
    cc0_transform_1 k0_off1_inb numel1_S1 inb_S1_S1_0 (tables m) (grid0.coords t)
      = ![(expertOf (expertWord (tables m) ⟨t.val / 7, point_block t⟩)).val, 0, t.val % 7] := by
  have hb : (⟨(grid0.coords t 0).val, (grid0.coords t 0).isLt⟩ : Fin 72) = ⟨t.val / 7, point_block t⟩ := Fin.ext (coord0 t)
  rw [map1, hb, coord0, coord1, pieceOf_live _ _ _ (by omega) h]
  rw [expertOf_val (he _)]

theorem place3 (t : Fin grid0.N) (h : Live (usedWord (tables m)) (t.val / 7)) (he : ∀ b, (expertWord (tables m) b).toNat < 8) :
    cc0_transform_3 k0_off1_inb numel1_S1 inb_S1_S1_0 (tables m) (grid0.coords t)
      = ![(expertOf (expertWord (tables m) ⟨t.val / 7, point_block t⟩)).val, t.val % 7, 0] := by
  have hb : (⟨(grid0.coords t 0).val, (grid0.coords t 0).isLt⟩ : Fin 72) = ⟨t.val / 7, point_block t⟩ := Fin.ext (coord0 t)
  rw [map3, hb, coord0, coord1, pieceOf_live _ _ _ (by omega) h]
  rw [expertOf_val (he _)]

/-! ## The blocks of a block of rows in use -/

section Blocks
variable (he : ∀ b, (expertWord (tables m) b).toNat < 8)

theorem rows (t : Fin (cfg m hO).N) (h : LiveAt m hO t) (r : Fin 512) (k : Fin 2048) :
    blk m ρ hO c 0 t (ix2 r k) = xsOf m c (ix2 (rowOf m hO t r) k) := by
  blk_ext [blk, rowOf]
  · exact congrArg (· * 512 + r.val) (congrFun (place0 m t h) 0)
  · exact (congrArg (· * 2048 + k.val) (congrFun (place0 m t h) 1)).trans (by simp)

include he in
theorem gates (t : Fin (cfg m hO).N) (h : LiveAt m hO t) (k : Fin 2048) (u : Fin 1024) :
    blk m ρ hO c 1 t (ix3 0 k u) = wgOf m c (ix3 (expertAt m hO t) k (unitOf m hO t u)) := by
  blk_ext [blk, unitOf, expertAt]
  · exact congrFun (place1 m t h he) 0
  · exact (congrArg (· * 2048 + k.val) (congrFun (place1 m t h he) 1)).trans (by simp)
  · exact congrArg (· * 1024 + u.val) (congrFun (place1 m t h he) 2)

include he in
theorem ups (t : Fin (cfg m hO).N) (h : LiveAt m hO t) (k : Fin 2048) (u : Fin 1024) :
    blk m ρ hO c 2 t (ix3 0 k u) = wuOf m c (ix3 (expertAt m hO t) k (unitOf m hO t u)) := by
  blk_ext [blk, unitOf, expertAt]
  · exact congrFun (place1 m t h he) 0
  · exact (congrArg (· * 2048 + k.val) (congrFun (place1 m t h he) 1)).trans (by simp)
  · exact congrArg (· * 1024 + u.val) (congrFun (place1 m t h he) 2)

include he in
theorem downs (t : Fin (cfg m hO).N) (h : LiveAt m hO t) (u : Fin 1024) (d : Fin 2048) :
    blk m ρ hO c 3 t (ix3 0 u d) = wdOf m c (ix3 (expertAt m hO t) (unitOf m hO t u) d) := by
  blk_ext [blk, unitOf, expertAt]
  · exact congrFun (place3 m t h he) 0
  · exact congrArg (· * 1024 + u.val) (congrFun (place3 m t h he) 1)
  · exact (congrArg (· * 2048 + d.val) (congrFun (place3 m t h he) 2)).trans (by simp)

end Blocks

theorem place (t : Fin (cfg m hO).N) (r : Fin 512) (d : Fin 2048) :
    (((cfg m hO).win (4 : Fin 5)).blk t).view.emb (ix2 r d) = ix2 (rowOf m hO t r) d := by
  blk_ext [rowOf]
  · exact congrArg (· * 512 + r.val) (congrFun (index4 t) 0)
  · exact (congrArg (· * 2048 + d.val) (congrFun (index4 t) 1)).trans (by simp)

/-! ## The sum over the pieces of the hidden width -/

/-- A part in terms of the whole arrays. -/
theorem part_eq {xs : FVec Ideal S36864x2048 .f32} {wg wu : FVec Ideal S8x2048x7168 .bf16} {wd : FVec Ideal S8x7168x2048 .bf16}
    {H : Fin 512 → Fin 2048 → EReal} {Wg Wu : Vec Ideal S1x2048x1024 .bf16} {Wd : Vec Ideal S1x1024x2048 .bf16} (e : Fin 8)
    (row : Fin 512 → Fin 36864) (j : ℕ) (un : Fin 1024 → Fin 7168) (hu : ∀ u, un u = unit (j * 1024 + u.val))
    (hH : ∀ r k, H r k = xs (ix2 (row r) k)) (hg : ∀ k u, Wg (ix3 0 k u) = wg (ix3 e k (un u)))
    (hw : ∀ k u, Wu (ix3 0 k u) = wu (ix3 e k (un u))) (hd : ∀ u d, Wd (ix3 0 u d) = wd (ix3 e (un u) d)) (r : Fin 512) (d : Fin 2048) :
    part H Wg Wu Wd r d = ∑ u : Fin 1024, term xs wg wu wd e (row r) d (unit (j * 1024 + u.val)) := by
  unfold part term
  simp only [hH, hg, hw, hd, hu]

/-- What piece `j` adds. -/
def added (t : Fin (cfg m hO).N) (j : ℕ) (r : Fin 512) (d : Fin 2048) : EReal :=
  ∑ u : Fin 1024, term (xsOf m c) (wgOf m c) (wuOf m c) (wdOf m c) (expertAt m hO t) (rowOf m hO t r) d (unit (j * 1024 + u.val))

theorem snd_of {A B : Type} {p : A × B} {a : A} {b : B} (h : p = (a, b)) : p.2 = b := by rw [h]

/-- What a point of a block in use leaves: the rows kept, and the sum so far. -/
def Sums (t : Fin (cfg m hO).N) (p : Carried c) : Prop :=
  (∀ (r : Fin 512) (k : Fin 2048), rowsIn c p.2 r k = xsOf m c (ix2 (rowOf m hO t r) k))
    ∧ ∀ (r : Fin 512) (d : Fin 2048), p.1 (ix2 r d) = ∑ j ∈ Finset.range (t.val % 7 + 1), added m hO c t j r d

section Steps
variable (he : ∀ b, (expertWord (tables m) b).toNat < 8)

include he in
theorem sums_first (t : Fin (cfg m hO).N) (p : Carried c) (h : LiveAt m hO t) (h0 : t.val % 7 = 0) : Sums m hO c t (step m ρ hO c t p) := by
  have h1 : First m hO t := (first_iff t).2 h0
  have h2 : Used m hO t := (used_iff m hO t).2 h
  have e := step_first_used m ρ hO c t p h1 h2
  refine ⟨fun r k => ?_, fun r d => ?_⟩
  · rw [snd_of e]
    exact (first_used_rows c (grid0.coords t) (st0 m hO t) (hs0 m hO t) (st1 m hO t) (hs1 m hO t) (st2 m hO t) (hs2 m hO t)
      (st3 m hO t) (hs3 m hO t) (st4 m hO t) (hs4 m hO t) (tables m 0) (tables m 1) (blk m ρ hO c 0 t) (blk m ρ hO c 1 t)
      (blk m ρ hO c 2 t) (blk m ρ hO c 3 t) h1 h2 r k).trans (rows m ρ hO c t h r k)
  · rw [fst_of e, h0]
    refine (first_used_out c (grid0.coords t) (st0 m hO t) (hs0 m hO t) (st1 m hO t) (hs1 m hO t) (st2 m hO t) (hs2 m hO t)
      (st3 m hO t) (hs3 m hO t) (st4 m hO t) (hs4 m hO t) (tables m 0) (tables m 1) (blk m ρ hO c 0 t) (blk m ρ hO c 1 t)
      (blk m ρ hO c 2 t) (blk m ρ hO c 3 t) h1 h2 r d).trans ?_
    refine (part_eq (expertAt m hO t) (rowOf m hO t) (t.val % 7) (unitOf m hO t) (fun u => unit_mk _) (rows m ρ hO c t h)
      (gates m ρ hO c he t h) (ups m ρ hO c he t h) (downs m ρ hO c he t h) r d).trans ?_
    rw [h0, Finset.sum_range_one]
    rfl

include he in
theorem sums_next (t s : Fin (cfg m hO).N) (hs : t.val = s.val + 1) (p : Carried c) (h : LiveAt m hO t) (h0 : ¬t.val % 7 = 0)
    (hp : Sums m hO c s p) : Sums m hO c t (step m ρ hO c t p) := by
  have h1 : ¬First m hO t := fun g => h0 ((first_iff t).1 g)
  have h2 : Used m hO t := (used_iff m hO t).2 h
  have e := step_used m ρ hO c t p h1 h2
  have hb : s.val / 7 = t.val / 7 := by omega
  have hj : s.val % 7 + 1 = t.val % 7 := by omega
  have hrow : ∀ r, rowOf m hO s r = rowOf m hO t r := fun r => Fin.ext (by
    show s.val / 7 * 512 + r.val = t.val / 7 * 512 + r.val
    rw [hb])
  have hex : expertAt m hO s = expertAt m hO t := by
    unfold expertAt
    rw [show blockAt m hO s = blockAt m hO t from Fin.ext hb]
  have hrows : ∀ (r : Fin 512) (k : Fin 2048), rowsIn c p.2 r k = xsOf m c (ix2 (rowOf m hO t r) k) := fun r k => by
    rw [hp.1 r k, hrow]
  refine ⟨fun r k => ?_, fun r d => ?_⟩
  · rw [snd_of e]
    exact (congrFun (used_rows c (grid0.coords t) (st0 m hO t) (hs0 m hO t) (st1 m hO t) (hs1 m hO t) (st2 m hO t) (hs2 m hO t)
      (st3 m hO t) (hs3 m hO t) (st4 m hO t) (hs4 m hO t) (tables m 0) (tables m 1) (blk m ρ hO c 0 t) (blk m ρ hO c 1 t)
      (blk m ρ hO c 2 t) (blk m ρ hO c 3 t) p.1 p.2 h1 h2) (ix2 r k)).trans (hrows r k)
  · rw [fst_of e, Finset.sum_range_succ]
    refine (used_out c (grid0.coords t) (st0 m hO t) (hs0 m hO t) (st1 m hO t) (hs1 m hO t) (st2 m hO t) (hs2 m hO t)
      (st3 m hO t) (hs3 m hO t) (st4 m hO t) (hs4 m hO t) (tables m 0) (tables m 1) (blk m ρ hO c 0 t) (blk m ρ hO c 1 t)
      (blk m ρ hO c 2 t) (blk m ρ hO c 3 t) p.1 p.2 h1 h2 r d).trans ?_
    refine congr (congrArg _ ?_) (part_eq (expertAt m hO t) (rowOf m hO t) (t.val % 7) (unitOf m hO t) (fun u => unit_mk _) hrows
      (gates m ρ hO c he t h) (ups m ρ hO c he t h) (downs m ρ hO c he t h) r d)
    refine (hp.2 r d).trans ?_
    rw [hj]
    refine Finset.sum_congr rfl fun j _ => ?_
    unfold added
    rw [hrow, hex]

end Steps

/-- A point of a block not in use leaves zero. -/
theorem zero_first (t : Fin (cfg m hO).N) (p : Carried c) (h : ¬LiveAt m hO t) (h0 : t.val % 7 = 0) (r : Fin 512) (d : Fin 2048) :
    (step m ρ hO c t p).1 (ix2 r d) = 0 := by
  have h1 : First m hO t := (first_iff t).2 h0
  have h2 : ¬Used m hO t := fun g => h ((used_iff m hO t).1 g)
  rw [fst_of (step_first m ρ hO c t p h1 h2)]
  exact first_out c (grid0.coords t) (st0 m hO t) (hs0 m hO t) (st1 m hO t) (hs1 m hO t) (st2 m hO t) (hs2 m hO t)
      (st3 m hO t) (hs3 m hO t) (st4 m hO t) (hs4 m hO t) (tables m 0) (tables m 1) (blk m ρ hO c 0 t) (blk m ρ hO c 1 t)
      (blk m ρ hO c 2 t) (blk m ρ hO c 3 t) h1 h2 r d

theorem zero_next (t : Fin (cfg m hO).N) (p : Carried c) (h : ¬LiveAt m hO t) (h0 : ¬t.val % 7 = 0) : (step m ρ hO c t p).1 = p.1 :=
  fst_of (step_idle m ρ hO c t p (fun g => h0 ((first_iff t).1 g)) fun g => h ((used_iff m hO t).1 g))

section Trajectory
variable (he : ∀ b, (expertWord (tables m) b).toNat < 8)

include he in
theorem sums (n : ℕ) : ∀ (hn : n < (cfg m hO).N), LiveAt m hO ⟨n, hn⟩ →
    Sums m hO c ⟨n, hn⟩ (step m ρ hO c ⟨n, hn⟩ (prev m ρ hO c ⟨n, hn⟩)) := by
  induction n with
  | zero => intro hn h; exact sums_first m ρ hO c he ⟨0, hn⟩ _ h rfl
  | succ n ih =>
    intro hn h
    by_cases h0 : (n + 1) % 7 = 0
    · exact sums_first m ρ hO c he ⟨n + 1, hn⟩ _ h h0
    · have hl : LiveAt m hO ⟨n, (Nat.lt_succ_self n).trans hn⟩ := by
        have hb : n / 7 = (n + 1) / 7 := by omega
        show Live (usedWord (tables m)) (n / 7)
        rw [hb]
        exact h
      exact sums_next m ρ hO c he ⟨n + 1, hn⟩ ⟨n, (Nat.lt_succ_self n).trans hn⟩ rfl _ h h0 (ih _ hl)

theorem zeros (n : ℕ) : ∀ (hn : n < (cfg m hO).N), ¬LiveAt m hO ⟨n, hn⟩ → ∀ (r : Fin 512) (d : Fin 2048),
    (step m ρ hO c ⟨n, hn⟩ (prev m ρ hO c ⟨n, hn⟩)).1 (ix2 r d) = 0 := by
  induction n with
  | zero => intro hn h r d; exact zero_first m ρ hO c ⟨0, hn⟩ _ h rfl r d
  | succ n ih =>
    intro hn h r d
    by_cases h0 : (n + 1) % 7 = 0
    · exact zero_first m ρ hO c ⟨n + 1, hn⟩ _ h h0 r d
    · have hl : ¬LiveAt m hO ⟨n, (Nat.lt_succ_self n).trans hn⟩ := by
        have hb : n / 7 = (n + 1) / 7 := by omega
        show ¬Live (usedWord (tables m)) (n / 7)
        rw [hb]
        exact h
      refine (congrFun (zero_next m ρ hO c ⟨n + 1, hn⟩ _ h h0) (ix2 r d)).trans ?_
      exact ih _ hl r d

/-- The tables as the two arguments. -/
abbrev liveOf : S72.Idx → BitVec 32 := m ((c : Thread nD τ).loc main_arg0)
abbrev nuOf : S1.Idx → BitVec 32 := m ((c : Thread nD τ).loc main_arg1)

theorem block_row (t : Fin (cfg m hO).N) (r : Fin 512) : blockOf (rowOf m hO t r) = blockAt m hO t := Fin.ext (by
  show (t.val / 7 * 512 + r.val) / 512 = t.val / 7
  omega)

theorem used_word_arg : nuOf m c (ix1 0) = usedWord (tables m) := congrFun (tables_eq m c 1) (ix1 0)

theorem expert_arg (b : Fin 72) : liveOf m c (ix1 b) = expertWord (tables m) b := congrFun (tables_eq m c 0) (ix1 b)

/-- The specification at a point's rows. -/
theorem result_live (t : Fin (cfg m hO).N) (h : LiveAt m hO t) (r : Fin 512) (d : Fin 2048) :
    result (xsOf m c) (wgOf m c) (wuOf m c) (wdOf m c) (liveOf m c) (nuOf m c) (ix2 (rowOf m hO t r) d)
      = ∑ f : Fin 7168, term (xsOf m c) (wgOf m c) (wuOf m c) (wdOf m c) (expertAt m hO t) (rowOf m hO t r) d f := by
  have hl : Live (nuOf m c (ix1 0)) (blockOf (rowOf m hO t r)).val := by
    rw [used_word_arg, block_row]
    exact h
  refine (if_pos hl).trans ?_
  have hx : expertOf (liveOf m c (ix1 (blockOf (rowOf m hO t r)))) = expertAt m hO t := by
    rw [block_row, expert_arg]
    rfl
  exact congrArg (fun e => ∑ f : Fin 7168, term (xsOf m c) (wgOf m c) (wuOf m c) (wdOf m c) e (rowOf m hO t r) d f) hx

theorem result_idle (t : Fin (cfg m hO).N) (h : ¬LiveAt m hO t) (r : Fin 512) (d : Fin 2048) :
    result (xsOf m c) (wgOf m c) (wuOf m c) (wdOf m c) (liveOf m c) (nuOf m c) (ix2 (rowOf m hO t r) d) = 0 := by
  have hl : ¬Live (nuOf m c (ix1 0)) (blockOf (rowOf m hO t r)).val := by
    rw [used_word_arg, block_row]
    exact h
  exact if_neg hl

include he in
/-- What a last point leaves: the specification's block. -/
theorem after_last (t : Fin (cfg m hO).N) (h6 : t.val % 7 = 6) (r : Fin 512) (d : Fin 2048) :
    (step m ρ hO c t (prev m ρ hO c t)).1 (ix2 r d)
      = result (xsOf m c) (wgOf m c) (wuOf m c) (wdOf m c) (liveOf m c) (nuOf m c) (ix2 (rowOf m hO t r) d) := by
  by_cases h : LiveAt m hO t
  · refine ((sums m ρ hO c he t.val t.isLt h).2 r d).trans ?_
    rw [result_live m hO c t h r d]
    show ∑ j ∈ Finset.range (t.val % 7 + 1), added m hO c t j r d = _
    rw [h6]
    refine (sum_pieces (N := 7168) rfl fun n =>
      term (xsOf m c) (wgOf m c) (wuOf m c) (wdOf m c) (expertAt m hO t) (rowOf m hO t r) d (unit n)).trans ?_
    simp only [unit_val]
  · exact (zeros m ρ hO c t.val t.isLt h r d).trans (result_idle m hO c t h r d).symm

theorem covers4 (a : (pcfg0 (F := Ideal)).Adm) : ((cfg0 a).win (4 : Fin 5)).Covers := of_decide_eq_true (by sl_kernel_rfl)

include he in
/-- The result array. -/
theorem final : (dats m ρ hO 0 c).arrAt (4 : Fin 5) (cfg m hO).N
    = result (xsOf m c) (wgOf m c) (wuOf m c) (wdOf m c) (liveOf m c) (nuOf m c) := by
  refine (dats m ρ hO 0 c).arrAt_eq_of_covers (4 : Fin 5) _ (covers4 (adm m hO)) fun t hf y => ?_
  have h6 : t.val % 7 = 6 := of_decide_eq_true ((flush_iff (adm m hO) t).symm.trans hf)
  blk_simp
  rw [after4]
  obtain ⟨r, d, rfl⟩ : ∃ r d, y = ix2 r d := ⟨_, _, eq_ix2 y⟩
  rw [place]
  exact after_last m ρ hO c he t h6 r d

end Trajectory

end Cert.ExpertSum.IdealRun
end
-- ==== Proof.ExpertsReference.lean ====
/- What the reference's experts program computes: its result array is `Cert.ExpertSum.IdealRun.result` of its arguments,
   when every block's expert exists. -/
module

public import proofs.«01_k».proof.Proof.ExpertsIdealArray
public import proofs.«01_k».proof.Proof.Gen.ExpertsRefIdeal.Read

@[expose] public section

set_option maxRecDepth 16384
noncomputable section

namespace Cert.ExpertSum
open Idealize.ShloMosaic Cert.ExpertsRefIdeal Cert.ExpertsRefIdeal.Gen Cert.ExpertsRefIdeal.Read Cert.Gated
open Cert.ExpertSum.IdealRun (result term blockOf expertOf Live expertOf_val)

/-- A word below eight, clamped between zero and seven, names its expert. -/
theorem clamped (w : BitVec 32) (h : w.toNat < 8) : min w.toInt.toNat 7 = (expertOf w).val := by
  rw [expertOf_val h, BitVec.toInt_eq_toNat_of_lt (by omega)]
  omega

/-- The weights of each block's expert, taken along the first axis. -/
theorem taken (w : S8x2048x7168.Idx → EReal) (idx : IVec S72x1 32) (b : Fin 72) (k : Fin 2048) (f : Fin 7168)
    (h : (idx (ix2 b 0)).toNat < 8) :
    Host.gather gather_S8x2048x7168_S72x1_S72x2048x7168_12_0_n_n_0_1_120487168 w idx (ix3 b k f)
      = w (ix3 (expertOf (idx (ix2 b 0))) k f) := by
  unfold Host.gather
  refine congrArg w (funext fun a => Fin.ext ?_)
  have hs : GatherDims.siIdx gather_S8x2048x7168_S72x1_S72x2048x7168_12_0_n_n_0_1_120487168 (ix3 b k f) ⟨0, by decide⟩ = ix2 b 0 := by
    funext x
    fin_cases x <;> rfl
  fin_cases a
  · show _ = (expertOf (idx (ix2 b 0))).val
    rw [← clamped _ h, ← hs]
    rfl
  · show 0 + 0 + k.val = k.val
    omega
  · show 0 + 0 + f.val = f.val
    omega

theorem taken_down (w : S8x7168x2048.Idx → EReal) (idx : IVec S72x1 32) (b : Fin 72) (f : Fin 7168) (d : Fin 2048)
    (h : (idx (ix2 b 0)).toNat < 8) :
    Host.gather gather_S8x7168x2048_S72x1_S72x7168x2048_12_0_n_n_0_1_171682048 w idx (ix3 b f d)
      = w (ix3 (expertOf (idx (ix2 b 0))) f d) := by
  unfold Host.gather
  refine congrArg w (funext fun a => Fin.ext ?_)
  have hs : GatherDims.siIdx gather_S8x7168x2048_S72x1_S72x7168x2048_12_0_n_n_0_1_171682048 (ix3 b f d) ⟨0, by decide⟩ = ix2 b 0 := by
    funext x
    fin_cases x <;> rfl
  fin_cases a
  · show _ = (expertOf (idx (ix2 b 0))).val
    rw [← clamped _ h, ← hs]
    rfl
  · show 0 + 0 + f.val = f.val
    omega
  · show 0 + 0 + d.val = d.val
    omega

section Values
variable (live : IVec S72 32) (nu : IVec S1 32) (xs : FVec Ideal S36864x2048 .f32) (wg wu : FVec Ideal S8x2048x7168 .bf16)
  (wd : FVec Ideal S8x7168x2048 .bf16) (he : ∀ b : Fin 72, (live (ix1 b)).toNat < 8)

/-- Row `r` of block `b`. -/
def rowIn (b : Fin 72) (r : Fin 512) : Fin 36864 := ⟨b.val * 512 + r.val, by omega⟩

theorem column (b : Fin 72) : val_main_call0_v0 (F := Ideal) live (ix2 b 0) = live (ix1 b) := by
  pointwise [val_main_call0_v0]

include he in
theorem gate_weight (b : Fin 72) (k : Fin 2048) (f : Fin 7168) :
    val_main_v1 (F := Ideal) live wg (ix3 b k f) = wg (ix3 (expertOf (live (ix1 b))) k f) := by
  have e := taken wg (val_main_call0_v0 (F := Ideal) live) b k f (by rw [column]; exact he b)
  rw [column] at e
  exact e

include he in
theorem up_weight (b : Fin 72) (k : Fin 2048) (f : Fin 7168) :
    val_main_v5 (F := Ideal) live wu (ix3 b k f) = wu (ix3 (expertOf (live (ix1 b))) k f) := gate_weight live wu he b k f

include he in
theorem down_weight (b : Fin 72) (f : Fin 7168) (d : Fin 2048) :
    val_main_v9 (F := Ideal) live wd (ix3 b f d) = wd (ix3 (expertOf (live (ix1 b))) f d) := by
  have e := taken_down wd (val_main_call0_v0 (F := Ideal) live) b f d (by rw [column]; exact he b)
  rw [column] at e
  exact e

theorem row_in (b : Fin 72) (r : Fin 512) (k : Fin 2048) : val_main_v0 (F := Ideal) xs (ix3 b r k) = xs (ix2 (rowIn b r) k) := by
  unfold rowIn
  pointwise [val_main_v0]

include he in
/-- Hidden unit `f` of row `r` of block `b`. -/
theorem hidden_eq (b : Fin 72) (r : Fin 512) (f : Fin 7168) :
    val_main_v8 (F := Ideal) live xs wg wu (ix3 b r f)
      = gate (∑ k : Fin 2048, xs (ix2 (rowIn b r) k) * wg (ix3 (expertOf (live (ix1 b))) k f))
          (∑ k : Fin 2048, xs (ix2 (rowIn b r) k) * wu (ix3 (expertOf (live (ix1 b))) k f)) := by
  unfold gate
  pointwise [val_main_v8, val_main_v7, val_main_v6, val_main_v4, val_main_v3, val_main_v2, val_main_call1_v0,
    val_main_call1_v1, val_main_call1_v2, val_main_call1_v3, val_main_call1_v4, val_main_call1_v5, val_main_call1_cst,
    val_main_call1_cst_0]
  simp only [row_in, gate_weight live wg he, up_weight live wu he]

/-- Whether a block is in use. -/
theorem used_bit (b : Fin 72) : val_main_v15 (F := Ideal) nu (ix1 b) = IntOp.cmpi .slt (BitVec.ofNat 32 b.val) (nu (ix1 0)) := by
  pointwise [val_main_v15, val_main_v14, val_main_v13, val_main_v12]

include he in
theorem block_sum (b : Fin 72) (r : Fin 512) (d : Fin 2048) :
    val_main_v11 (F := Ideal) live xs wg wu wd (ix3 b r d) = ∑ f : Fin 7168, term xs wg wu wd (expertOf (live (ix1 b))) (rowIn b r) d f := by
  unfold term
  pointwise [val_main_v11, val_main_v10]
  simp only [hidden_eq live xs wg wu he, down_weight live wd he]

/-- The blocks end under one another. -/
theorem joined (b : Fin 72) (r : Fin 512) (d : Fin 2048) :
    val_main_v18 (F := Ideal) live nu xs wg wu wd (ix2 (rowIn b r) d) = val_main_v17 (F := Ideal) live nu xs wg wu wd (ix3 b r d) := by
  rw [val_main_v18_apply]
  refine congrArg _ (funext fun a => Fin.ext ?_)
  unfold rowIn
  have hd := d.isLt
  have hr := r.isLt
  fin_cases a
  · show ((b.val * 512 + r.val) * 2048 + d.val) / 1048576 = b.val
    omega
  · show ((b.val * 512 + r.val) * 2048 + d.val) / 2048 % 512 = r.val
    omega
  · show ((b.val * 512 + r.val) * 2048 + d.val) % 2048 = d.val
    omega

/-- A block not in use is zero. -/
theorem masked (b : Fin 72) (r : Fin 512) (d : Fin 2048) :
    val_main_v17 (F := Ideal) live nu xs wg wu wd (ix3 b r d)
      = Scalar.select (val_main_v15 (F := Ideal) nu (ix1 b)) (val_main_v11 (F := Ideal) live xs wg wu wd (ix3 b r d)) 0 := by
  pointwise [val_main_v17, val_main_call4_v0, val_main_call4_v1, val_main_call4_v2, val_main_v16, val_main_cst]
  exact congrArg _ ofBits_zero

theorem row_split (i : Fin 36864) : rowIn (blockOf i) ⟨i.val % 512, Nat.mod_lt _ (by decide)⟩ = i := Fin.ext (by
  show i.val / 512 * 512 + i.val % 512 = i.val
  omega)

include he in
/-- The reference's result array. -/
theorem reference_eq : val_main_v18 (F := Ideal) live nu xs wg wu wd = result xs wg wu wd live nu := by
  funext y
  obtain ⟨i, d, rfl⟩ : ∃ i d, y = ix2 i d := ⟨_, _, eq_ix2 y⟩
  have e := joined live nu xs wg wu wd (blockOf i) ⟨i.val % 512, Nat.mod_lt _ (by decide)⟩ d
  rw [masked, used_bit, block_sum live xs wg wu wd he, row_split] at e
  refine e.trans ?_
  unfold Scalar.select result
  by_cases h : Live (nu (ix1 0)) (blockOf i).val
  · exact (if_pos h).trans (if_pos h).symm
  · exact (if_neg h).trans (if_neg h).symm

end Values

end Cert.ExpertSum
end
-- ==== Proof.ExpertsClaim.lean ====
/- The experts' two runs, and the claim that they agree. -/
module

public import proofs.«01_k».proof.Defs
public import proofs.«01_k».proof.Proof.ExpertsIdealArray
public import proofs.«01_k».proof.Proof.ExpertsReference
public import proofs.«01_k».proof.Proof.ExpertsExist
public import proofs.«01_k».proof.Proof.Gen.ExpertsRefIdeal.Run
public import proofs.«01_k».proof.Proof.Gen.ExpertsRefIdeal.Read
public import Idealize.ShloMosaic.Lib.Quiescent
public import Idealize.ShloMosaic.Lib.Claim

@[expose] public section

noncomputable section

namespace Cert.ExpertSum
open Idealize.ShloMosaic Idealize.ShloMosaic.TcCoe Idealize.SL.Sem

/-- The kernel's run: the experts' rows, and the arguments unchanged. -/
theorem kernel_run (m : (ℓ : Loc ExpertsIdeal.nD ExpertsIdeal.τ ExpertsIdeal.sig) → Buf (Elt Ideal) ℓ) (ρ : Dev ExpertsIdeal.nD → PrngReg)
    (hO : IdealRun.Inside m) (he : ∀ b, (IdealRun.expertWord (IdealRun.tables m) b).toNat < 8) :
    θ_run (ExpertsIdeal.defs (F := Ideal)) (onTc (τ := ExpertsIdeal.τ) (ExpertsIdeal.main (F := Ideal))) ⟨m, fun _ => 0, ρ⟩ fun r =>
      ∀ c : Dev ExpertsIdeal.nD,
      r.2.mem ((c.tc : Thread ExpertsIdeal.nD ExpertsIdeal.τ).loc ExpertsIdeal.main_v0)
          = IdealRun.result (IdealRun.xsOf m c) (IdealRun.wgOf m c) (IdealRun.wuOf m c) (IdealRun.wdOf m c) (IdealRun.liveOf m c) (IdealRun.nuOf m c)
      ∧ r.2.mem ((c.tc : Thread ExpertsIdeal.nD ExpertsIdeal.τ).loc ExpertsIdeal.main_arg0) = m ((c.tc : Thread ExpertsIdeal.nD ExpertsIdeal.τ).loc ExpertsIdeal.main_arg0)
      ∧ r.2.mem ((c.tc : Thread ExpertsIdeal.nD ExpertsIdeal.τ).loc ExpertsIdeal.main_arg1) = m ((c.tc : Thread ExpertsIdeal.nD ExpertsIdeal.τ).loc ExpertsIdeal.main_arg1)
      ∧ r.2.mem ((c.tc : Thread ExpertsIdeal.nD ExpertsIdeal.τ).loc ExpertsIdeal.main_arg2) = m ((c.tc : Thread ExpertsIdeal.nD ExpertsIdeal.τ).loc ExpertsIdeal.main_arg2)
      ∧ r.2.mem ((c.tc : Thread ExpertsIdeal.nD ExpertsIdeal.τ).loc ExpertsIdeal.main_arg3) = m ((c.tc : Thread ExpertsIdeal.nD ExpertsIdeal.τ).loc ExpertsIdeal.main_arg3)
      ∧ r.2.mem ((c.tc : Thread ExpertsIdeal.nD ExpertsIdeal.τ).loc ExpertsIdeal.main_arg4) = m ((c.tc : Thread ExpertsIdeal.nD ExpertsIdeal.τ).loc ExpertsIdeal.main_arg4)
      ∧ r.2.mem ((c.tc : Thread ExpertsIdeal.nD ExpertsIdeal.τ).loc ExpertsIdeal.main_arg5) = m ((c.tc : Thread ExpertsIdeal.nD ExpertsIdeal.τ).loc ExpertsIdeal.main_arg5) :=
  θ_run_mono (IdealRun.run m ρ hO) fun _ h c => ⟨((h c).1 (4 : Fin 5)).trans (IdealRun.final m ρ hO c he), IdealRun.args_kept m ρ hO h c⟩

/-- The reference's run leaves its arguments and every counter as they were. -/
theorem reference_frame (m : (ℓ : Loc ExpertsRefIdeal.nD ExpertsRefIdeal.τ ExpertsRefIdeal.sig) → Buf (Elt Ideal) ℓ)
    (ρ : Dev ExpertsRefIdeal.nD → PrngReg) :
    θ_run (ExpertsRefIdeal.defs (F := Ideal)) (onTc (τ := ExpertsRefIdeal.τ) (ExpertsRefIdeal.main (F := Ideal))) ⟨m, fun _ => 0, ρ⟩ fun r =>
      (∀ c : Dev ExpertsRefIdeal.nD,
      r.2.mem ((c.tc : Thread ExpertsRefIdeal.nD ExpertsRefIdeal.τ).loc ExpertsRefIdeal.main_arg0) = m ((c.tc : Thread ExpertsRefIdeal.nD ExpertsRefIdeal.τ).loc ExpertsRefIdeal.main_arg0)
      ∧ r.2.mem ((c.tc : Thread ExpertsRefIdeal.nD ExpertsRefIdeal.τ).loc ExpertsRefIdeal.main_arg1) = m ((c.tc : Thread ExpertsRefIdeal.nD ExpertsRefIdeal.τ).loc ExpertsRefIdeal.main_arg1)
      ∧ r.2.mem ((c.tc : Thread ExpertsRefIdeal.nD ExpertsRefIdeal.τ).loc ExpertsRefIdeal.main_arg2) = m ((c.tc : Thread ExpertsRefIdeal.nD ExpertsRefIdeal.τ).loc ExpertsRefIdeal.main_arg2)
      ∧ r.2.mem ((c.tc : Thread ExpertsRefIdeal.nD ExpertsRefIdeal.τ).loc ExpertsRefIdeal.main_arg3) = m ((c.tc : Thread ExpertsRefIdeal.nD ExpertsRefIdeal.τ).loc ExpertsRefIdeal.main_arg3)
      ∧ r.2.mem ((c.tc : Thread ExpertsRefIdeal.nD ExpertsRefIdeal.τ).loc ExpertsRefIdeal.main_arg4) = m ((c.tc : Thread ExpertsRefIdeal.nD ExpertsRefIdeal.τ).loc ExpertsRefIdeal.main_arg4)
      ∧ r.2.mem ((c.tc : Thread ExpertsRefIdeal.nD ExpertsRefIdeal.τ).loc ExpertsRefIdeal.main_arg5) = m ((c.tc : Thread ExpertsRefIdeal.nD ExpertsRefIdeal.τ).loc ExpertsRefIdeal.main_arg5))
      ∧ r.2.sem = fun _ => 0 :=
  θ_run_mono (ExpertsRefIdeal.Value.run m ρ) fun r h => ⟨fun c => (h c).2, sem_eq_zero_of_no_sems rfl r.2⟩

/-- The reference's result array from equal arguments. -/
theorem reference_eq_of {live live' : IVec ExpertsIdeal.S72 32} {nu nu' : IVec ExpertsIdeal.S1 32}
    {xs xs' : FVec Ideal ExpertsIdeal.S36864x2048 .f32} {wg wg' wu wu' : FVec Ideal ExpertsIdeal.S8x2048x7168 .bf16}
    {wd wd' : FVec Ideal ExpertsIdeal.S8x7168x2048 .bf16} (e0 : live' = live) (e1 : nu' = nu) (e2 : xs' = xs) (e3 : wg' = wg)
    (e4 : wu' = wu) (e5 : wd' = wd) (he : ∀ b : Fin 72, (live (ix1 b)).toNat < 8) :
    ExpertsRefIdeal.Read.val_main_v18 (F := Ideal) live' nu' xs' wg' wu' wd' = IdealRun.result xs wg wu wd live nu := by
  subst e0 e1 e2 e3 e4 e5
  exact reference_eq _ _ _ _ _ _ he

/-- The kernel and the reference end with the same array. -/
theorem algebraic : Cert.algebraic_ExpertsIdeal_ExpertsRefIdeal := by
  intro m g m' g' hpre hargs
  have he := ideal_exist m hpre
  refine ⟨_, kernel_run m g (ideal_inside m hpre) he, ?_⟩
  refine θ_run_mono (ExpertsRefIdeal.Value.run m' g') fun r h c => ?_
  obtain ⟨h0, hr⟩ := h c
  obtain ⟨a0, a1, a2, a3, a4, a5⟩ := hargs c
  have hl : ∀ b : Fin 72, (IdealRun.liveOf m c (ix1 b)).toNat < 8 := fun b => by
    rw [IdealRun.expert_arg]
    exact he b
  exact ⟨(h0.trans (ExpertsRefIdeal.Read.val_main_v18_eq _ _ _ _ _ _)).trans (reference_eq_of a0 a1 a2 a3 a4 a5 hl), hr⟩

end Cert.ExpertSum
end
-- ==== Proof.lean ====
/- The certificate's claims, assembled: each program's run, the preserved arrays, and the equality of each call (the attention,
   the dense feed-forward, the experts, the mixers' output, the rotary tables) with its reference over the ideal numbers. -/
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_prepared
public import proofs.«01_k».proof.Proof.Gen.AttnRefIdeal.Run
public import proofs.«01_k».proof.Proof.Gen.AttnRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.ExpertsIdeal.Flash.Runs
public import proofs.«01_k».proof.Proof.Gen.Experts.Flash.Runs
public import proofs.«01_k».proof.Proof.Gen.ExpertsRefIdeal.Run
public import proofs.«01_k».proof.Proof.Gen.ExpertsRefIdeal.Read
public import proofs.«01_k».proof.Proof.Gen.FfnRefIdeal
public import proofs.«01_k».proof.Proof.Gen.Pre_experts_exist
public import proofs.«01_k».proof.Proof.Gen.FfnRefIdeal.Run
public import proofs.«01_k».proof.Proof.Gen.FfnRefIdeal.Read
public import proofs.«01_k».proof.Proof.Gen.FfnIdeal.Value
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.MixOutIdeal.Value
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal
public import proofs.«01_k».proof.Proof.Gen.RopeRefIdeal.Run
public import proofs.«01_k».proof.Proof.Gen.RopeRefIdeal.Read
public import proofs.«01_k».proof.Proof.Gen.RopeIdeal.Value
public import proofs.«01_k».proof.Proof.AttentionClaim
public import proofs.«01_k».proof.Proof.MixOutClaim
public import proofs.«01_k».proof.Proof.RopeClaim
public import proofs.«01_k».proof.Proof.FfnClaim
public import proofs.«01_k».proof.Proof.ExpertsBitsFrame
public import proofs.«01_k».proof.Proof.ExpertsExist
public import proofs.«01_k».proof.Proof.ExpertsClaim
public import Idealize.ShloMosaic.Adequacy
public import Idealize.ShloMosaic.Init

@[expose] public section

noncomputable section

namespace Cert.Proof

theorem claim : Cert.Claim :=
  ⟨Cert.Attn.Gen.facts, Cert.AttnIdeal.Gen.facts, Cert.AttnRefIdeal.Gen.facts, Cert.Ffn.Gen.facts, Cert.FfnIdeal.Gen.facts,
    Cert.FfnRefIdeal.Gen.facts, Cert.Experts.Gen.facts, Cert.ExpertsIdeal.Gen.facts, Cert.ExpertsRefIdeal.Gen.facts,
    Cert.MixOut.Gen.facts, Cert.MixOutIdeal.Gen.facts, Cert.MixOutRefIdeal.Gen.facts, Cert.Rope.Gen.facts, Cert.RopeIdeal.Gen.facts, Cert.RopeRefIdeal.Gen.facts,
    Cert.Pre_prepared.Gen.facts, Cert.Pre_experts_exist.Gen.facts,
    fun m ρ _ => Cert.Attn.Gen.frame m ρ trivial, fun m ρ _ => Cert.AttnIdeal.Gen.frame m ρ trivial,
    fun m ρ _ => Cert.AttnIdeal.Gen.frame m ρ trivial, fun m ρ _ => Cert.Attention.reference_frame m ρ,
    fun m ρ _ => Cert.Attention.reference_frame m ρ,
    fun m ρ _ => Cert.Ffn.Gen.frame m ρ, fun m ρ _ => Cert.FfnIdeal.Gen.frame m ρ, fun m ρ _ => Cert.FeedForward.reference_frame m ρ,
    fun m ρ h => Cert.ExpertSum.BitsRun.frame m ρ (Cert.ExpertSum.bits_inside m h),
    fun m ρ h => Cert.ExpertSum.IdealRun.frame m ρ (Cert.ExpertSum.ideal_inside m h),
    fun m ρ _ => Cert.ExpertSum.reference_frame m ρ, fun m ρ _ => Cert.ExpertSum.reference_frame m ρ,
    fun m ρ _ => Cert.MixOut.Gen.frame m ρ, fun m ρ _ => Cert.MixOutIdeal.Gen.frame m ρ, fun m ρ _ => Cert.Mixing.reference_frame m ρ,
    fun m ρ _ => Cert.Rope.Gen.frame m ρ, fun m ρ _ => Cert.RopeIdeal.Gen.frame m ρ, fun m ρ _ => Cert.Angles.reference_frame m ρ,
    trivial, Cert.Attention.algebraic, trivial, Cert.FeedForward.algebraic, trivial, Cert.ExpertSum.algebraic,
    trivial, Cert.Mixing.algebraic, trivial, Cert.Angles.algebraic⟩

end Cert.Proof

end
